-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 16384]⟩ (Layout.meshBlock [2, 4, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x512 : Shape := ⟨2, ![256, 512]⟩
abbrev S512x4096 : Shape := ⟨2, ![512, 4096]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x4096 : S_.BroadcastsInDim S512x4096 (![] : Fin 0 → Fin S512x4096.rank)
  reducesTo_S512x4096_S_d0_1 : S512x4096.ReducesTo [0, 1] S_

variable [Facts]

def fn {F : FTy → Type} [FloatOps F] (main_arg0 : FVec F S256x512 .f32) (main_arg1 : FVec F S512x4096 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  main_v8
-- ==== Pre_finite_ReferenceIdeal.lean ====
abbrev S256x512 : Shape := ⟨2, ![256, 512]⟩
abbrev S512x16384 : Shape := ⟨2, ![512, 16384]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x16384 : S_.BroadcastsInDim S512x16384 (![] : Fin 0 → Fin S512x16384.rank)
  reducesTo_S512x16384_S_d0_1 : S512x16384.ReducesTo [0, 1] S_

variable [Facts]

def fn {F : FTy → Type} [FloatOps F] (main_arg0 : FVec F S256x512 .f32) (main_arg1 : FVec F S512x16384 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x16384 .f32 := Host.absf main_arg1
  let main_cst_0 : FVec F S_ .f32 := constant S_ .f32 0x7F800000#32
  let main_v5 : FVec F S512x16384 .f32 := broadcastInDim S512x16384 ![] bcast_S_S512x16384 main_cst_0
  let main_v6 : IVec S512x16384 1 := cmpf .olt main_v4 main_v5
  let main_c_1 : IVec S_ 1 := constantI S_ 1 1#1
  let main_v7 : IVec S_ 1 := (fun x v => Host.reduce IntOp.andi x v reducesTo_S512x16384_S_d0_1 h_S_) main_v6 main_c_1
  let main_v8 : IVec S_ 1 := andi main_v3 main_v7
  main_v8
-- ==== Kernel.lean ====
abbrev S256x512 : Shape := ⟨2, ![256, 512]⟩
abbrev S512x4096 : Shape := ⟨2, ![512, 4096]⟩
abbrev S256x16384 : Shape := ⟨2, ![256, 16384]⟩
abbrev S4x256x128 : Shape := ⟨3, ![4, 256, 128]⟩
abbrev S3x2 : Shape := ⟨2, ![3, 2]⟩
abbrev S3 : Shape := ⟨1, ![3]⟩
abbrev S_ : Shape := ⟨0, ![]⟩
abbrev S256x1 : Shape := ⟨2, ![256, 1]⟩
abbrev S512x2048 : Shape := ⟨2, ![512, 2048]⟩
abbrev S256x2048 : Shape := ⟨2, ![256, 2048]⟩
abbrev S1x1 : Shape := ⟨2, ![1, 1]⟩
abbrev S64x2048 : Shape := ⟨2, ![64, 2048]⟩
abbrev S256 : Shape := ⟨1, ![256]⟩
abbrev S256x128 : Shape := ⟨2, ![256, 128]⟩
abbrev S1x256x128 : Shape := ⟨3, ![1, 256, 128]⟩
abbrev S1 : Shape := ⟨1, ![1]⟩
abbrev S1x256x1 : Shape := ⟨3, ![1, 256, 1]⟩
abbrev S1x64x1 : Shape := ⟨3, ![1, 64, 1]⟩
abbrev S64x1 : Shape := ⟨2, ![64, 1]⟩
abbrev S64x1024 : Shape := ⟨2, ![64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x512, .f32⟩
  | .hbm, ⟨1, _⟩ => ⟨S512x4096, .f32⟩
  | .hbm, ⟨2, _⟩ => ⟨S256x16384, .f32⟩
  | .local _ .vmem, ⟨0, _⟩ => ⟨S256x512, .f32⟩
  | .local _ .vmem, ⟨1, _⟩ => ⟨S512x4096, .f32⟩
  | .local _ .vmem, ⟨2, _⟩ => ⟨S256x16384, .f32⟩
  | .local _ .vmem, ⟨3, _⟩ => ⟨S256x16384, .bf16⟩
  | .local _ .vmem, ⟨4, _⟩ => ⟨S4x256x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(3, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier3 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v56 : BitVec 32 := Scalar.muli v2 c16_i32_31
  let v57 : BitVec 32 := Scalar.addi c0_i32_32 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_33 : BitVec 32 := 4#32
  let v58 : BitVec 32 := Scalar.muli v19 c4_i32_33
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v60 : BitVec 32 := Scalar.muli v8 c1_i32_34
  let v61 : BitVec 32 := Scalar.addi v59 v60
  v61.toNat
def k0_dev2 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v62 : BitVec 32 := Scalar.muli v2 c16_i32_36
  let v63 : BitVec 32 := Scalar.addi c0_i32_37 v62
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_38 : BitVec 32 := 4#32
  let v64 : BitVec 32 := Scalar.muli v30 c4_i32_38
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v66 : BitVec 32 := Scalar.muli v8 c1_i32_39
  let v67 : BitVec 32 := Scalar.addi v65 v66
  v67.toNat
def k0_dev3 (d0 : Dev nD) : Nat :=
  let c0_i32_42 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_41 : BitVec 32 := 16#32
  let v68 : BitVec 32 := Scalar.muli v44 c16_i32_41
  let v69 : BitVec 32 := Scalar.addi c0_i32_42 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v70 : BitVec 32 := Scalar.muli v5 c4_i32_43
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v72 : BitVec 32 := Scalar.muli v8 c1_i32_44
  let v73 : BitVec 32 := Scalar.addi v71 v72
  v73.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v74 : BitVec 32 := Scalar.muli v2 c16_i32_46
  let v75 : BitVec 32 := Scalar.addi c0_i32_47 v74
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v76 : BitVec 32 := Scalar.muli v5 c4_i32_48
  let v77 : BitVec 32 := Scalar.addi v75 v76
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_49 : BitVec 32 := 1#32
  let v78 : BitVec 32 := Scalar.muli v43 c1_i32_49
  let v79 : BitVec 32 := Scalar.addi v77 v78
  v79.toNat
def k0_off1 (d0 : Dev nD) (c0_i32_55 : BitVec 32) : Fin 2 → Nat :=
  let c0_56 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32 : BitVec 32 := 4096#32
  let v90 : BitVec 32 := Scalar.muli v5 c4096_i32
  let v91 : BitVec 32 := Scalar.addi v90 c0_i32_55
  let v92 : Index := Scalar.indexCast v91
  ![0, v92.toNat]
def k0_off2 (d0 : Dev nD) (c0_i32_58 : BitVec 32) : Fin 2 → Nat :=
  let c2_i32_24 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.muli c2_i32_24 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v46 : BitVec 32 := Scalar.addi v45 v40
  let c64_i32 : BitVec 32 := 64#32
  let v96 : BitVec 32 := Scalar.muli v46 c64_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4096_i32_57 : BitVec 32 := 4096#32
  let v97 : BitVec 32 := Scalar.muli v5 c4096_i32_57
  let v98 : BitVec 32 := Scalar.addi v97 c0_i32_58
  ![v96.toNat, v98.toNat]
def k0_dev5 (d0 : Dev nD) : Nat :=
  let c0_i32_64 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_63 : BitVec 32 := 16#32
  let v99 : BitVec 32 := Scalar.muli v2 c16_i32_63
  let v100 : BitVec 32 := Scalar.addi c0_i32_64 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_65 : BitVec 32 := 4#32
  let v101 : BitVec 32 := Scalar.muli v30 c4_i32_65
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v103 : BitVec 32 := Scalar.muli v8 c1_i32_66
  let v104 : BitVec 32 := Scalar.addi v102 v103
  v104.toNat
def k0_dev6 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v129 : BitVec 32 := Scalar.muli v2 c16_i32_79
  let v130 : BitVec 32 := Scalar.addi c0_i32_80 v129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_81 : BitVec 32 := 4#32
  let v131 : BitVec 32 := Scalar.muli v30 c4_i32_81
  let v132 : BitVec 32 := Scalar.addi v130 v131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v133 : BitVec 32 := Scalar.muli v8 c1_i32_82
  let v134 : BitVec 32 := Scalar.addi v132 v133
  v134.toNat
def k0_dev7 (d0 : Dev nD) : Nat :=
  let c0_i32_92 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_91 : BitVec 32 := 16#32
  let v149 : BitVec 32 := Scalar.muli v2 c16_i32_91
  let v150 : BitVec 32 := Scalar.addi c0_i32_92 v149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_93 : BitVec 32 := 4#32
  let v151 : BitVec 32 := Scalar.muli v30 c4_i32_93
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v153 : BitVec 32 := Scalar.muli v8 c1_i32_94
  let v154 : BitVec 32 := Scalar.addi v152 v153
  v154.toNat
def k0_dev8 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v184 : BitVec 32 := Scalar.muli v2 c16_i32_126
  let v185 : BitVec 32 := Scalar.addi c0_i32_127 v184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_128 : BitVec 32 := 4#32
  let v186 : BitVec 32 := Scalar.muli v30 c4_i32_128
  let v187 : BitVec 32 := Scalar.addi v185 v186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_129 : BitVec 32 := 1#32
  let v188 : BitVec 32 := Scalar.muli v8 c1_i32_129
  let v189 : BitVec 32 := Scalar.addi v187 v188
  v189.toNat
def k0_dev9 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_160 : BitVec 32 := 16#32
  let v219 : BitVec 32 := Scalar.muli v2 c16_i32_160
  let v220 : BitVec 32 := Scalar.addi c0_i32_161 v219
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_162 : BitVec 32 := 4#32
  let v221 : BitVec 32 := Scalar.muli v30 c4_i32_162
  let v222 : BitVec 32 := Scalar.addi v220 v221
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v223 : BitVec 32 := Scalar.muli v8 c1_i32_163
  let v224 : BitVec 32 := Scalar.addi v222 v223
  v224.toNat
def k0_off3 (d0 : Dev nD) : Fin 3 → Nat :=
  let c0_196 : Index := 0#32
  let c2_i32_24 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.muli c2_i32_24 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v46 : BitVec 32 := Scalar.addi v45 v40
  let c64_i32_195 : BitVec 32 := 64#32
  let v261 : BitVec 32 := Scalar.muli v46 c64_i32_195
  let v262 : Index := Scalar.indexCast v261
  let c0_197 : Index := 0#32
  ![0, v262.toNat, 0]
def k0_off4 (d0 : Dev nD) : Fin 3 → Nat :=
  let c0_199 : Index := 0#32
  let c2_i32_25 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v47 : BitVec 32 := Scalar.muli c2_i32_25 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v48 : BitVec 32 := Scalar.addi v47 v40
  let c64_i32_198 : BitVec 32 := 64#32
  let v265 : BitVec 32 := Scalar.muli v48 c64_i32_198
  let v266 : Index := Scalar.indexCast v265
  let c0_200 : Index := 0#32
  ![0, v266.toNat, 0]
def k0_off5 (d0 : Dev nD) : Fin 3 → Nat :=
  let c0_202 : Index := 0#32
  let c2_i32_26 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v49 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v50 : BitVec 32 := Scalar.subi c1_i32_27 v40
  let v51 : BitVec 32 := Scalar.addi v49 v50
  let c64_i32_201 : BitVec 32 := 64#32
  let v269 : BitVec 32 := Scalar.muli v51 c64_i32_201
  let v270 : Index := Scalar.indexCast v269
  let c0_203 : Index := 0#32
  ![0, v270.toNat, 0]
def k0_off6 (d0 : Dev nD) : Fin 3 → Nat :=
  let c0_205 : Index := 0#32
  let c2_i32_28 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v52 : BitVec 32 := Scalar.muli c2_i32_28 v44
  let c1_i32_29 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v53 : BitVec 32 := Scalar.subi c1_i32_29 v40
  let v54 : BitVec 32 := Scalar.addi v52 v53
  let c64_i32_204 : BitVec 32 := 64#32
  let v273 : BitVec 32 := Scalar.muli v54 c64_i32_204
  let v274 : Index := Scalar.indexCast v273
  let c0_206 : Index := 0#32
  ![0, v274.toNat, 0]
def k0_off7 (d0 : Dev nD) (c0_i32_215 : BitVec 32) (c0_i32_225 : BitVec 32) : Fin 2 → Nat :=
  let c2_i32_24 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.muli c2_i32_24 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v46 : BitVec 32 := Scalar.addi v45 v40
  let c64_i32_223 : BitVec 32 := 64#32
  let v307 : BitVec 32 := Scalar.muli v46 c64_i32_223
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v295 : BitVec 32 := Scalar.subi v5 c0_i32_215
  let c1_i32_216 : BitVec 32 := 1#32
  let v296 : BitVec 32 := Scalar.subi v295 c1_i32_216
  let c4_i32_217 : BitVec 32 := 4#32
  let c0_i32_218 : BitVec 32 := 0#32
  let v297 : BitVec 1 := Scalar.cmpi .eq c4_i32_217 c0_i32_218
  let c1_i32_219 : BitVec 32 := 1#32
  let v298 : BitVec 32 := Scalar.select v297 c1_i32_219 c4_i32_217
  let v299 : BitVec 32 := Scalar.remsi v296 v298
  let c0_i32_221 : BitVec 32 := 0#32
  let v301 : BitVec 1 := Scalar.cmpi .slt v299 c0_i32_221
  let c0_i32_222 : BitVec 32 := 0#32
  let v302 : BitVec 1 := Scalar.cmpi .slt v298 c0_i32_222
  let v303 : BitVec 1 := Scalar.xori v301 v302
  let c0_i32_220 : BitVec 32 := 0#32
  let v300 : BitVec 1 := Scalar.cmpi .ne v299 c0_i32_220
  let v304 : BitVec 1 := Scalar.andi v303 v300
  let v305 : BitVec 32 := Scalar.addi v299 v298
  let v306 : BitVec 32 := Scalar.select v304 v305 v299
  let c4096_i32_224 : BitVec 32 := 4096#32
  let v308 : BitVec 32 := Scalar.muli v306 c4096_i32_224
  let v309 : BitVec 32 := Scalar.addi v308 c0_i32_225
  ![v307.toNat, v309.toNat]
def k0_dev10 (d0 : Dev nD) : Nat :=
  let c0_i32_242 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_241 : BitVec 32 := 16#32
  let v323 : BitVec 32 := Scalar.muli v2 c16_i32_241
  let v324 : BitVec 32 := Scalar.addi c0_i32_242 v323
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_243 : BitVec 32 := 4#32
  let v325 : BitVec 32 := Scalar.muli v30 c4_i32_243
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v327 : BitVec 32 := Scalar.muli v8 c1_i32_244
  let v328 : BitVec 32 := Scalar.addi v326 v327
  v328.toNat
def k0_dev11 (d0 : Dev nD) : Nat :=
  let c0_i32_253 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_252 : BitVec 32 := 16#32
  let v338 : BitVec 32 := Scalar.muli v44 c16_i32_252
  let v339 : BitVec 32 := Scalar.addi c0_i32_253 v338
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_254 : BitVec 32 := 4#32
  let v340 : BitVec 32 := Scalar.muli v5 c4_i32_254
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_255 : BitVec 32 := 1#32
  let v342 : BitVec 32 := Scalar.muli v8 c1_i32_255
  let v343 : BitVec 32 := Scalar.addi v341 v342
  v343.toNat
def k0_dev12 (d0 : Dev nD) : Nat :=
  let c0_i32_264 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_263 : BitVec 32 := 16#32
  let v353 : BitVec 32 := Scalar.muli v2 c16_i32_263
  let v354 : BitVec 32 := Scalar.addi c0_i32_264 v353
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_265 : BitVec 32 := 4#32
  let v355 : BitVec 32 := Scalar.muli v5 c4_i32_265
  let v356 : BitVec 32 := Scalar.addi v354 v355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_266 : BitVec 32 := 1#32
  let v357 : BitVec 32 := Scalar.muli v43 c1_i32_266
  let v358 : BitVec 32 := Scalar.addi v356 v357
  v358.toNat
def k0_off8 (d0 : Dev nD) (c0_i32_215 : BitVec 32) (c0_i32_268 : BitVec 32) : Fin 2 → Nat :=
  let c2_i32_24 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v45 : BitVec 32 := Scalar.muli c2_i32_24 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v46 : BitVec 32 := Scalar.addi v45 v40
  let c64_i32_269 : BitVec 32 := 64#32
  let v367 : BitVec 32 := Scalar.muli v46 c64_i32_269
  let v368 : Index := Scalar.indexCast v367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v295 : BitVec 32 := Scalar.subi v5 c0_i32_215
  let c1_i32_216 : BitVec 32 := 1#32
  let v296 : BitVec 32 := Scalar.subi v295 c1_i32_216
  let c4_i32_217 : BitVec 32 := 4#32
  let c0_i32_218 : BitVec 32 := 0#32
  let v297 : BitVec 1 := Scalar.cmpi .eq c4_i32_217 c0_i32_218
  let c1_i32_219 : BitVec 32 := 1#32
  let v298 : BitVec 32 := Scalar.select v297 c1_i32_219 c4_i32_217
  let v299 : BitVec 32 := Scalar.remsi v296 v298
  let c0_i32_221 : BitVec 32 := 0#32
  let v301 : BitVec 1 := Scalar.cmpi .slt v299 c0_i32_221
  let c0_i32_222 : BitVec 32 := 0#32
  let v302 : BitVec 1 := Scalar.cmpi .slt v298 c0_i32_222
  let v303 : BitVec 1 := Scalar.xori v301 v302
  let c0_i32_220 : BitVec 32 := 0#32
  let v300 : BitVec 1 := Scalar.cmpi .ne v299 c0_i32_220
  let v304 : BitVec 1 := Scalar.andi v303 v300
  let v305 : BitVec 32 := Scalar.addi v299 v298
  let v306 : BitVec 32 := Scalar.select v304 v305 v299
  let c4096_i32_267 : BitVec 32 := 4096#32
  let v365 : BitVec 32 := Scalar.muli v306 c4096_i32_267
  let v366 : BitVec 32 := Scalar.addi v365 c0_i32_268
  let v369 : Index := Scalar.indexCast v366
  ![v368.toNat, v369.toNat]
def k0_dev13 (d0 : Dev nD) : Nat :=
  let c0_i32_289 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_288 : BitVec 32 := 16#32
  let v393 : BitVec 32 := Scalar.muli v2 c16_i32_288
  let v394 : BitVec 32 := Scalar.addi c0_i32_289 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_290 : BitVec 32 := 4#32
  let v395 : BitVec 32 := Scalar.muli v30 c4_i32_290
  let v396 : BitVec 32 := Scalar.addi v394 v395
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_291 : BitVec 32 := 1#32
  let v397 : BitVec 32 := Scalar.muli v8 c1_i32_291
  let v398 : BitVec 32 := Scalar.addi v396 v397
  v398.toNat
def k0_dev14 (d0 : Dev nD) : Nat :=
  let c0_i32_300 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_299 : BitVec 32 := 16#32
  let v408 : BitVec 32 := Scalar.muli v44 c16_i32_299
  let v409 : BitVec 32 := Scalar.addi c0_i32_300 v408
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_301 : BitVec 32 := 4#32
  let v410 : BitVec 32 := Scalar.muli v5 c4_i32_301
  let v411 : BitVec 32 := Scalar.addi v409 v410
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v412 : BitVec 32 := Scalar.muli v8 c1_i32_302
  let v413 : BitVec 32 := Scalar.addi v411 v412
  v413.toNat
def k0_dev15 (d0 : Dev nD) : Nat :=
  let c0_i32_311 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_310 : BitVec 32 := 16#32
  let v423 : BitVec 32 := Scalar.muli v2 c16_i32_310
  let v424 : BitVec 32 := Scalar.addi c0_i32_311 v423
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_312 : BitVec 32 := 4#32
  let v425 : BitVec 32 := Scalar.muli v5 c4_i32_312
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_313 : BitVec 32 := 1#32
  let v427 : BitVec 32 := Scalar.muli v43 c1_i32_313
  let v428 : BitVec 32 := Scalar.addi v426 v427
  v428.toNat
def k0_dev16 (d0 : Dev nD) : Nat :=
  let c0_i32_344 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_343 : BitVec 32 := 16#32
  let v475 : BitVec 32 := Scalar.muli v2 c16_i32_343
  let v476 : BitVec 32 := Scalar.addi c0_i32_344 v475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_345 : BitVec 32 := 4#32
  let v477 : BitVec 32 := Scalar.muli v30 c4_i32_345
  let v478 : BitVec 32 := Scalar.addi v476 v477
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_346 : BitVec 32 := 1#32
  let v479 : BitVec 32 := Scalar.muli v8 c1_i32_346
  let v480 : BitVec 32 := Scalar.addi v478 v479
  v480.toNat
def k0_dev17 (d0 : Dev nD) : Nat :=
  let c0_i32_355 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_354 : BitVec 32 := 16#32
  let v490 : BitVec 32 := Scalar.muli v44 c16_i32_354
  let v491 : BitVec 32 := Scalar.addi c0_i32_355 v490
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_356 : BitVec 32 := 4#32
  let v492 : BitVec 32 := Scalar.muli v5 c4_i32_356
  let v493 : BitVec 32 := Scalar.addi v491 v492
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v494 : BitVec 32 := Scalar.muli v8 c1_i32_357
  let v495 : BitVec 32 := Scalar.addi v493 v494
  v495.toNat
def k0_dev18 (d0 : Dev nD) : Nat :=
  let c0_i32_366 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_365 : BitVec 32 := 16#32
  let v505 : BitVec 32 := Scalar.muli v2 c16_i32_365
  let v506 : BitVec 32 := Scalar.addi c0_i32_366 v505
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_367 : BitVec 32 := 4#32
  let v507 : BitVec 32 := Scalar.muli v5 c4_i32_367
  let v508 : BitVec 32 := Scalar.addi v506 v507
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_368 : BitVec 32 := 1#32
  let v509 : BitVec 32 := Scalar.muli v43 c1_i32_368
  let v510 : BitVec 32 := Scalar.addi v508 v509
  v510.toNat
def k0_dev19 (d0 : Dev nD) : Nat :=
  let c0_i32_391 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_390 : BitVec 32 := 16#32
  let v545 : BitVec 32 := Scalar.muli v2 c16_i32_390
  let v546 : BitVec 32 := Scalar.addi c0_i32_391 v545
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_392 : BitVec 32 := 4#32
  let v547 : BitVec 32 := Scalar.muli v30 c4_i32_392
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_393 : BitVec 32 := 1#32
  let v549 : BitVec 32 := Scalar.muli v8 c1_i32_393
  let v550 : BitVec 32 := Scalar.addi v548 v549
  v550.toNat
def k0_dev20 (d0 : Dev nD) : Nat :=
  let c0_i32_402 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_401 : BitVec 32 := 16#32
  let v560 : BitVec 32 := Scalar.muli v44 c16_i32_401
  let v561 : BitVec 32 := Scalar.addi c0_i32_402 v560
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_403 : BitVec 32 := 4#32
  let v562 : BitVec 32 := Scalar.muli v5 c4_i32_403
  let v563 : BitVec 32 := Scalar.addi v561 v562
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_404 : BitVec 32 := 1#32
  let v564 : BitVec 32 := Scalar.muli v8 c1_i32_404
  let v565 : BitVec 32 := Scalar.addi v563 v564
  v565.toNat
def k0_dev21 (d0 : Dev nD) : Nat :=
  let c0_i32_413 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_412 : BitVec 32 := 16#32
  let v575 : BitVec 32 := Scalar.muli v2 c16_i32_412
  let v576 : BitVec 32 := Scalar.addi c0_i32_413 v575
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_414 : BitVec 32 := 4#32
  let v577 : BitVec 32 := Scalar.muli v5 c4_i32_414
  let v578 : BitVec 32 := Scalar.addi v576 v577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_415 : BitVec 32 := 1#32
  let v579 : BitVec 32 := Scalar.muli v43 c1_i32_415
  let v580 : BitVec 32 := Scalar.addi v578 v579
  v580.toNat
def k0_dev22 (d0 : Dev nD) : Nat :=
  let c0_i32_446 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_445 : BitVec 32 := 16#32
  let v627 : BitVec 32 := Scalar.muli v44 c16_i32_445
  let v628 : BitVec 32 := Scalar.addi c0_i32_446 v627
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_447 : BitVec 32 := 4#32
  let v629 : BitVec 32 := Scalar.muli v5 c4_i32_447
  let v630 : BitVec 32 := Scalar.addi v628 v629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v631 : BitVec 32 := Scalar.muli v8 c1_i32_448
  let v632 : BitVec 32 := Scalar.addi v630 v631
  v632.toNat
def k0_dev23 (d0 : Dev nD) : Nat :=
  let c0_i32_457 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_456 : BitVec 32 := 16#32
  let v642 : BitVec 32 := Scalar.muli v2 c16_i32_456
  let v643 : BitVec 32 := Scalar.addi c0_i32_457 v642
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_458 : BitVec 32 := 4#32
  let v644 : BitVec 32 := Scalar.muli v5 c4_i32_458
  let v645 : BitVec 32 := Scalar.addi v643 v644
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_459 : BitVec 32 := 1#32
  let v646 : BitVec 32 := Scalar.muli v43 c1_i32_459
  let v647 : BitVec 32 := Scalar.addi v645 v646
  v647.toNat
def k0_dev24 (d0 : Dev nD) : Nat :=
  let c0_i32_482 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_481 : BitVec 32 := 16#32
  let v682 : BitVec 32 := Scalar.muli v44 c16_i32_481
  let v683 : BitVec 32 := Scalar.addi c0_i32_482 v682
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_483 : BitVec 32 := 4#32
  let v684 : BitVec 32 := Scalar.muli v5 c4_i32_483
  let v685 : BitVec 32 := Scalar.addi v683 v684
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v686 : BitVec 32 := Scalar.muli v8 c1_i32_484
  let v687 : BitVec 32 := Scalar.addi v685 v686
  v687.toNat
def k0_dev25 (d0 : Dev nD) : Nat :=
  let c0_i32_493 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_492 : BitVec 32 := 16#32
  let v697 : BitVec 32 := Scalar.muli v2 c16_i32_492
  let v698 : BitVec 32 := Scalar.addi c0_i32_493 v697
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_494 : BitVec 32 := 4#32
  let v699 : BitVec 32 := Scalar.muli v5 c4_i32_494
  let v700 : BitVec 32 := Scalar.addi v698 v699
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_495 : BitVec 32 := 1#32
  let v701 : BitVec 32 := Scalar.muli v43 c1_i32_495
  let v702 : BitVec 32 := Scalar.addi v700 v701
  v702.toNat
def k0_off9 (d0 : Dev nD) (c0_i32_499 : BitVec 32) (c0_i32_509 : BitVec 32) : Fin 2 → Nat :=
  let c2_i32_25 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v47 : BitVec 32 := Scalar.muli c2_i32_25 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v48 : BitVec 32 := Scalar.addi v47 v40
  let c64_i32_507 : BitVec 32 := 64#32
  let v733 : BitVec 32 := Scalar.muli v48 c64_i32_507
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v721 : BitVec 32 := Scalar.subi v5 c0_i32_499
  let c1_i32_500 : BitVec 32 := 1#32
  let v722 : BitVec 32 := Scalar.subi v721 c1_i32_500
  let c4_i32_501 : BitVec 32 := 4#32
  let c0_i32_502 : BitVec 32 := 0#32
  let v723 : BitVec 1 := Scalar.cmpi .eq c4_i32_501 c0_i32_502
  let c1_i32_503 : BitVec 32 := 1#32
  let v724 : BitVec 32 := Scalar.select v723 c1_i32_503 c4_i32_501
  let v725 : BitVec 32 := Scalar.remsi v722 v724
  let c0_i32_505 : BitVec 32 := 0#32
  let v727 : BitVec 1 := Scalar.cmpi .slt v725 c0_i32_505
  let c0_i32_506 : BitVec 32 := 0#32
  let v728 : BitVec 1 := Scalar.cmpi .slt v724 c0_i32_506
  let v729 : BitVec 1 := Scalar.xori v727 v728
  let c0_i32_504 : BitVec 32 := 0#32
  let v726 : BitVec 1 := Scalar.cmpi .ne v725 c0_i32_504
  let v730 : BitVec 1 := Scalar.andi v729 v726
  let v731 : BitVec 32 := Scalar.addi v725 v724
  let v732 : BitVec 32 := Scalar.select v730 v731 v725
  let c4096_i32_508 : BitVec 32 := 4096#32
  let v734 : BitVec 32 := Scalar.muli v732 c4096_i32_508
  let v735 : BitVec 32 := Scalar.addi v734 c0_i32_509
  ![v733.toNat, v735.toNat]
def k0_off10 (d0 : Dev nD) (c0_i32_499 : BitVec 32) (c0_i32_520 : BitVec 32) : Fin 2 → Nat :=
  let c2_i32_25 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v47 : BitVec 32 := Scalar.muli c2_i32_25 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v48 : BitVec 32 := Scalar.addi v47 v40
  let c64_i32_518 : BitVec 32 := 64#32
  let v746 : BitVec 32 := Scalar.muli v48 c64_i32_518
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v721 : BitVec 32 := Scalar.subi v5 c0_i32_499
  let c1_i32_500 : BitVec 32 := 1#32
  let v722 : BitVec 32 := Scalar.subi v721 c1_i32_500
  let c4_i32_501 : BitVec 32 := 4#32
  let c0_i32_502 : BitVec 32 := 0#32
  let v723 : BitVec 1 := Scalar.cmpi .eq c4_i32_501 c0_i32_502
  let c1_i32_503 : BitVec 32 := 1#32
  let v724 : BitVec 32 := Scalar.select v723 c1_i32_503 c4_i32_501
  let v725 : BitVec 32 := Scalar.remsi v722 v724
  let c0_i32_505 : BitVec 32 := 0#32
  let v727 : BitVec 1 := Scalar.cmpi .slt v725 c0_i32_505
  let c0_i32_506 : BitVec 32 := 0#32
  let v728 : BitVec 1 := Scalar.cmpi .slt v724 c0_i32_506
  let v729 : BitVec 1 := Scalar.xori v727 v728
  let c0_i32_504 : BitVec 32 := 0#32
  let v726 : BitVec 1 := Scalar.cmpi .ne v725 c0_i32_504
  let v730 : BitVec 1 := Scalar.andi v729 v726
  let v731 : BitVec 32 := Scalar.addi v725 v724
  let v732 : BitVec 32 := Scalar.select v730 v731 v725
  let c4096_i32_519 : BitVec 32 := 4096#32
  let v747 : BitVec 32 := Scalar.muli v732 c4096_i32_519
  let v748 : BitVec 32 := Scalar.addi v747 c0_i32_520
  let c1024_i32 : BitVec 32 := 1024#32
  let v749 : BitVec 32 := Scalar.muli v40 c1024_i32
  let v750 : BitVec 32 := Scalar.addi v748 v749
  ![v746.toNat, v750.toNat]
def k0_dev26 (d0 : Dev nD) : Nat :=
  let c0_i32_526 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_525 : BitVec 32 := 16#32
  let v751 : BitVec 32 := Scalar.muli v2 c16_i32_525
  let v752 : BitVec 32 := Scalar.addi c0_i32_526 v751
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_527 : BitVec 32 := 4#32
  let v753 : BitVec 32 := Scalar.muli v5 c4_i32_527
  let v754 : BitVec 32 := Scalar.addi v752 v753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_528 : BitVec 32 := 1#32
  let v755 : BitVec 32 := Scalar.muli v43 c1_i32_528
  let v756 : BitVec 32 := Scalar.addi v754 v755
  v756.toNat
def k0_off11 (d0 : Dev nD) (c0_i32_499 : BitVec 32) (c0_i32_530 : BitVec 32) : Fin 2 → Nat :=
  let c2_i32_25 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v47 : BitVec 32 := Scalar.muli c2_i32_25 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v48 : BitVec 32 := Scalar.addi v47 v40
  let c64_i32_531 : BitVec 32 := 64#32
  let v765 : BitVec 32 := Scalar.muli v48 c64_i32_531
  let v766 : Index := Scalar.indexCast v765
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v721 : BitVec 32 := Scalar.subi v5 c0_i32_499
  let c1_i32_500 : BitVec 32 := 1#32
  let v722 : BitVec 32 := Scalar.subi v721 c1_i32_500
  let c4_i32_501 : BitVec 32 := 4#32
  let c0_i32_502 : BitVec 32 := 0#32
  let v723 : BitVec 1 := Scalar.cmpi .eq c4_i32_501 c0_i32_502
  let c1_i32_503 : BitVec 32 := 1#32
  let v724 : BitVec 32 := Scalar.select v723 c1_i32_503 c4_i32_501
  let v725 : BitVec 32 := Scalar.remsi v722 v724
  let c0_i32_505 : BitVec 32 := 0#32
  let v727 : BitVec 1 := Scalar.cmpi .slt v725 c0_i32_505
  let c0_i32_506 : BitVec 32 := 0#32
  let v728 : BitVec 1 := Scalar.cmpi .slt v724 c0_i32_506
  let v729 : BitVec 1 := Scalar.xori v727 v728
  let c0_i32_504 : BitVec 32 := 0#32
  let v726 : BitVec 1 := Scalar.cmpi .ne v725 c0_i32_504
  let v730 : BitVec 1 := Scalar.andi v729 v726
  let v731 : BitVec 32 := Scalar.addi v725 v724
  let v732 : BitVec 32 := Scalar.select v730 v731 v725
  let c4096_i32_529 : BitVec 32 := 4096#32
  let v763 : BitVec 32 := Scalar.muli v732 c4096_i32_529
  let v764 : BitVec 32 := Scalar.addi v763 c0_i32_530
  let v767 : Index := Scalar.indexCast v764
  ![v766.toNat, v767.toNat]
def k0_off12 (d0 : Dev nD) (c0_i32_499 : BitVec 32) (c0_i32_534 : BitVec 32) : Fin 2 → Nat :=
  let c2_i32_26 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v49 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v50 : BitVec 32 := Scalar.subi c1_i32_27 v40
  let v51 : BitVec 32 := Scalar.addi v49 v50
  let c64_i32_532 : BitVec 32 := 64#32
  let v775 : BitVec 32 := Scalar.muli v51 c64_i32_532
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v721 : BitVec 32 := Scalar.subi v5 c0_i32_499
  let c1_i32_500 : BitVec 32 := 1#32
  let v722 : BitVec 32 := Scalar.subi v721 c1_i32_500
  let c4_i32_501 : BitVec 32 := 4#32
  let c0_i32_502 : BitVec 32 := 0#32
  let v723 : BitVec 1 := Scalar.cmpi .eq c4_i32_501 c0_i32_502
  let c1_i32_503 : BitVec 32 := 1#32
  let v724 : BitVec 32 := Scalar.select v723 c1_i32_503 c4_i32_501
  let v725 : BitVec 32 := Scalar.remsi v722 v724
  let c0_i32_505 : BitVec 32 := 0#32
  let v727 : BitVec 1 := Scalar.cmpi .slt v725 c0_i32_505
  let c0_i32_506 : BitVec 32 := 0#32
  let v728 : BitVec 1 := Scalar.cmpi .slt v724 c0_i32_506
  let v729 : BitVec 1 := Scalar.xori v727 v728
  let c0_i32_504 : BitVec 32 := 0#32
  let v726 : BitVec 1 := Scalar.cmpi .ne v725 c0_i32_504
  let v730 : BitVec 1 := Scalar.andi v729 v726
  let v731 : BitVec 32 := Scalar.addi v725 v724
  let v732 : BitVec 32 := Scalar.select v730 v731 v725
  let c4096_i32_533 : BitVec 32 := 4096#32
  let v776 : BitVec 32 := Scalar.muli v732 c4096_i32_533
  let v777 : BitVec 32 := Scalar.addi v776 c0_i32_534
  ![v775.toNat, v777.toNat]
def k0_off13 (d0 : Dev nD) (c0_i32_499 : BitVec 32) (c0_i32_545 : BitVec 32) : Fin 2 → Nat :=
  let c2_i32_26 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v49 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v50 : BitVec 32 := Scalar.subi c1_i32_27 v40
  let v51 : BitVec 32 := Scalar.addi v49 v50
  let c64_i32_543 : BitVec 32 := 64#32
  let v788 : BitVec 32 := Scalar.muli v51 c64_i32_543
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v721 : BitVec 32 := Scalar.subi v5 c0_i32_499
  let c1_i32_500 : BitVec 32 := 1#32
  let v722 : BitVec 32 := Scalar.subi v721 c1_i32_500
  let c4_i32_501 : BitVec 32 := 4#32
  let c0_i32_502 : BitVec 32 := 0#32
  let v723 : BitVec 1 := Scalar.cmpi .eq c4_i32_501 c0_i32_502
  let c1_i32_503 : BitVec 32 := 1#32
  let v724 : BitVec 32 := Scalar.select v723 c1_i32_503 c4_i32_501
  let v725 : BitVec 32 := Scalar.remsi v722 v724
  let c0_i32_505 : BitVec 32 := 0#32
  let v727 : BitVec 1 := Scalar.cmpi .slt v725 c0_i32_505
  let c0_i32_506 : BitVec 32 := 0#32
  let v728 : BitVec 1 := Scalar.cmpi .slt v724 c0_i32_506
  let v729 : BitVec 1 := Scalar.xori v727 v728
  let c0_i32_504 : BitVec 32 := 0#32
  let v726 : BitVec 1 := Scalar.cmpi .ne v725 c0_i32_504
  let v730 : BitVec 1 := Scalar.andi v729 v726
  let v731 : BitVec 32 := Scalar.addi v725 v724
  let v732 : BitVec 32 := Scalar.select v730 v731 v725
  let c4096_i32_544 : BitVec 32 := 4096#32
  let v789 : BitVec 32 := Scalar.muli v732 c4096_i32_544
  let v790 : BitVec 32 := Scalar.addi v789 c0_i32_545
  let c1024_i32_546 : BitVec 32 := 1024#32
  let v791 : BitVec 32 := Scalar.muli v40 c1024_i32_546
  let v792 : BitVec 32 := Scalar.addi v790 v791
  ![v788.toNat, v792.toNat]
def k0_dev27 (d0 : Dev nD) : Nat :=
  let c0_i32_552 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_551 : BitVec 32 := 16#32
  let v793 : BitVec 32 := Scalar.muli v44 c16_i32_551
  let v794 : BitVec 32 := Scalar.addi c0_i32_552 v793
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_553 : BitVec 32 := 4#32
  let v795 : BitVec 32 := Scalar.muli v5 c4_i32_553
  let v796 : BitVec 32 := Scalar.addi v794 v795
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_554 : BitVec 32 := 1#32
  let v797 : BitVec 32 := Scalar.muli v8 c1_i32_554
  let v798 : BitVec 32 := Scalar.addi v796 v797
  v798.toNat
def k0_off14 (d0 : Dev nD) (c0_i32_499 : BitVec 32) (c0_i32_556 : BitVec 32) : Fin 2 → Nat :=
  let c2_i32_26 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v49 : BitVec 32 := Scalar.muli c2_i32_26 v2
  let c1_i32_27 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v50 : BitVec 32 := Scalar.subi c1_i32_27 v40
  let v51 : BitVec 32 := Scalar.addi v49 v50
  let c64_i32_557 : BitVec 32 := 64#32
  let v807 : BitVec 32 := Scalar.muli v51 c64_i32_557
  let v808 : Index := Scalar.indexCast v807
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v721 : BitVec 32 := Scalar.subi v5 c0_i32_499
  let c1_i32_500 : BitVec 32 := 1#32
  let v722 : BitVec 32 := Scalar.subi v721 c1_i32_500
  let c4_i32_501 : BitVec 32 := 4#32
  let c0_i32_502 : BitVec 32 := 0#32
  let v723 : BitVec 1 := Scalar.cmpi .eq c4_i32_501 c0_i32_502
  let c1_i32_503 : BitVec 32 := 1#32
  let v724 : BitVec 32 := Scalar.select v723 c1_i32_503 c4_i32_501
  let v725 : BitVec 32 := Scalar.remsi v722 v724
  let c0_i32_505 : BitVec 32 := 0#32
  let v727 : BitVec 1 := Scalar.cmpi .slt v725 c0_i32_505
  let c0_i32_506 : BitVec 32 := 0#32
  let v728 : BitVec 1 := Scalar.cmpi .slt v724 c0_i32_506
  let v729 : BitVec 1 := Scalar.xori v727 v728
  let c0_i32_504 : BitVec 32 := 0#32
  let v726 : BitVec 1 := Scalar.cmpi .ne v725 c0_i32_504
  let v730 : BitVec 1 := Scalar.andi v729 v726
  let v731 : BitVec 32 := Scalar.addi v725 v724
  let v732 : BitVec 32 := Scalar.select v730 v731 v725
  let c4096_i32_555 : BitVec 32 := 4096#32
  let v805 : BitVec 32 := Scalar.muli v732 c4096_i32_555
  let v806 : BitVec 32 := Scalar.addi v805 c0_i32_556
  let v809 : Index := Scalar.indexCast v806
  ![v808.toNat, v809.toNat]
def k0_dev28 (d0 : Dev nD) : Nat :=
  let c0_i32_578 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_577 : BitVec 32 := 16#32
  let v835 : BitVec 32 := Scalar.muli v2 c16_i32_577
  let v836 : BitVec 32 := Scalar.addi c0_i32_578 v835
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_579 : BitVec 32 := 4#32
  let v837 : BitVec 32 := Scalar.muli v5 c4_i32_579
  let v838 : BitVec 32 := Scalar.addi v836 v837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_580 : BitVec 32 := 1#32
  let v839 : BitVec 32 := Scalar.muli v43 c1_i32_580
  let v840 : BitVec 32 := Scalar.addi v838 v839
  v840.toNat
def k0_dev29 (d0 : Dev nD) : Nat :=
  let c0_i32_604 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_603 : BitVec 32 := 16#32
  let v877 : BitVec 32 := Scalar.muli v44 c16_i32_603
  let v878 : BitVec 32 := Scalar.addi c0_i32_604 v877
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_605 : BitVec 32 := 4#32
  let v879 : BitVec 32 := Scalar.muli v5 c4_i32_605
  let v880 : BitVec 32 := Scalar.addi v878 v879
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_606 : BitVec 32 := 1#32
  let v881 : BitVec 32 := Scalar.muli v8 c1_i32_606
  let v882 : BitVec 32 := Scalar.addi v880 v881
  v882.toNat
def k0_dev30 (d0 : Dev nD) : Nat :=
  let c0_i32_638 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_637 : BitVec 32 := 16#32
  let v931 : BitVec 32 := Scalar.muli v2 c16_i32_637
  let v932 : BitVec 32 := Scalar.addi c0_i32_638 v931
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_639 : BitVec 32 := 4#32
  let v933 : BitVec 32 := Scalar.muli v5 c4_i32_639
  let v934 : BitVec 32 := Scalar.addi v932 v933
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_640 : BitVec 32 := 1#32
  let v935 : BitVec 32 := Scalar.muli v43 c1_i32_640
  let v936 : BitVec 32 := Scalar.addi v934 v935
  v936.toNat
def k0_dev31 (d0 : Dev nD) : Nat :=
  let c0_i32_664 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_663 : BitVec 32 := 16#32
  let v973 : BitVec 32 := Scalar.muli v44 c16_i32_663
  let v974 : BitVec 32 := Scalar.addi c0_i32_664 v973
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_665 : BitVec 32 := 4#32
  let v975 : BitVec 32 := Scalar.muli v5 c4_i32_665
  let v976 : BitVec 32 := Scalar.addi v974 v975
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_666 : BitVec 32 := 1#32
  let v977 : BitVec 32 := Scalar.muli v8 c1_i32_666
  let v978 : BitVec 32 := Scalar.addi v976 v977
  v978.toNat
def k0_dev32 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v1015 : BitVec 32 := Scalar.muli v2 c16_i32_689
  let v1016 : BitVec 32 := Scalar.addi c0_i32_690 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_691 : BitVec 32 := 4#32
  let v1017 : BitVec 32 := Scalar.muli v5 c4_i32_691
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_692 : BitVec 32 := 1#32
  let v1019 : BitVec 32 := Scalar.muli v43 c1_i32_692
  let v1020 : BitVec 32 := Scalar.addi v1018 v1019
  v1020.toNat
def k0_dev33 (d0 : Dev nD) : Nat :=
  let c0_i32_716 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_715 : BitVec 32 := 16#32
  let v1057 : BitVec 32 := Scalar.muli v44 c16_i32_715
  let v1058 : BitVec 32 := Scalar.addi c0_i32_716 v1057
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_717 : BitVec 32 := 4#32
  let v1059 : BitVec 32 := Scalar.muli v5 c4_i32_717
  let v1060 : BitVec 32 := Scalar.addi v1058 v1059
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_718 : BitVec 32 := 1#32
  let v1061 : BitVec 32 := Scalar.muli v8 c1_i32_718
  let v1062 : BitVec 32 := Scalar.addi v1060 v1061
  v1062.toNat
def k0_dev34 (d0 : Dev nD) : Nat :=
  let c0_i32_750 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_749 : BitVec 32 := 16#32
  let v1111 : BitVec 32 := Scalar.muli v2 c16_i32_749
  let v1112 : BitVec 32 := Scalar.addi c0_i32_750 v1111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_751 : BitVec 32 := 4#32
  let v1113 : BitVec 32 := Scalar.muli v5 c4_i32_751
  let v1114 : BitVec 32 := Scalar.addi v1112 v1113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_752 : BitVec 32 := 1#32
  let v1115 : BitVec 32 := Scalar.muli v43 c1_i32_752
  let v1116 : BitVec 32 := Scalar.addi v1114 v1115
  v1116.toNat
def k0_dev35 (d0 : Dev nD) : Nat :=
  let c0_i32_776 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_775 : BitVec 32 := 16#32
  let v1153 : BitVec 32 := Scalar.muli v44 c16_i32_775
  let v1154 : BitVec 32 := Scalar.addi c0_i32_776 v1153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_777 : BitVec 32 := 4#32
  let v1155 : BitVec 32 := Scalar.muli v5 c4_i32_777
  let v1156 : BitVec 32 := Scalar.addi v1154 v1155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_778 : BitVec 32 := 1#32
  let v1157 : BitVec 32 := Scalar.muli v8 c1_i32_778
  let v1158 : BitVec 32 := Scalar.addi v1156 v1157
  v1158.toNat
def k0_dev36 (d0 : Dev nD) : Nat :=
  let c0_i32_802 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_801 : BitVec 32 := 16#32
  let v1195 : BitVec 32 := Scalar.muli v2 c16_i32_801
  let v1196 : BitVec 32 := Scalar.addi c0_i32_802 v1195
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_803 : BitVec 32 := 4#32
  let v1197 : BitVec 32 := Scalar.muli v5 c4_i32_803
  let v1198 : BitVec 32 := Scalar.addi v1196 v1197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_21 : BitVec 32 := 1#32
  let v41 : BitVec 32 := Scalar.addi v8 c1_i32_21
  let c2_i32_22 : BitVec 32 := 2#32
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v42 : BitVec 32 := Scalar.muli c2_i32_22 v40
  let v43 : BitVec 32 := Scalar.subi v41 v42
  let c1_i32_804 : BitVec 32 := 1#32
  let v1199 : BitVec 32 := Scalar.muli v43 c1_i32_804
  let v1200 : BitVec 32 := Scalar.addi v1198 v1199
  v1200.toNat
def k0_dev37 (d0 : Dev nD) : Nat :=
  let c0_i32_828 : BitVec 32 := 0#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let c16_i32_827 : BitVec 32 := 16#32
  let v1237 : BitVec 32 := Scalar.muli v44 c16_i32_827
  let v1238 : BitVec 32 := Scalar.addi c0_i32_828 v1237
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_829 : BitVec 32 := 4#32
  let v1239 : BitVec 32 := Scalar.muli v5 c4_i32_829
  let v1240 : BitVec 32 := Scalar.addi v1238 v1239
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v1241 : BitVec 32 := Scalar.muli v8 c1_i32_830
  let v1242 : BitVec 32 := Scalar.addi v1240 v1241
  v1242.toNat
def k0_off15 (d0 : Dev nD) (c0_i32_834 : BitVec 32) (c0_i32_844 : BitVec 32) : Fin 2 → Nat :=
  let c2_i32_28 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v52 : BitVec 32 := Scalar.muli c2_i32_28 v44
  let c1_i32_29 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v53 : BitVec 32 := Scalar.subi c1_i32_29 v40
  let v54 : BitVec 32 := Scalar.addi v52 v53
  let c64_i32_842 : BitVec 32 := 64#32
  let v1273 : BitVec 32 := Scalar.muli v54 c64_i32_842
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1261 : BitVec 32 := Scalar.subi v5 c0_i32_834
  let c1_i32_835 : BitVec 32 := 1#32
  let v1262 : BitVec 32 := Scalar.subi v1261 c1_i32_835
  let c4_i32_836 : BitVec 32 := 4#32
  let c0_i32_837 : BitVec 32 := 0#32
  let v1263 : BitVec 1 := Scalar.cmpi .eq c4_i32_836 c0_i32_837
  let c1_i32_838 : BitVec 32 := 1#32
  let v1264 : BitVec 32 := Scalar.select v1263 c1_i32_838 c4_i32_836
  let v1265 : BitVec 32 := Scalar.remsi v1262 v1264
  let c0_i32_840 : BitVec 32 := 0#32
  let v1267 : BitVec 1 := Scalar.cmpi .slt v1265 c0_i32_840
  let c0_i32_841 : BitVec 32 := 0#32
  let v1268 : BitVec 1 := Scalar.cmpi .slt v1264 c0_i32_841
  let v1269 : BitVec 1 := Scalar.xori v1267 v1268
  let c0_i32_839 : BitVec 32 := 0#32
  let v1266 : BitVec 1 := Scalar.cmpi .ne v1265 c0_i32_839
  let v1270 : BitVec 1 := Scalar.andi v1269 v1266
  let v1271 : BitVec 32 := Scalar.addi v1265 v1264
  let v1272 : BitVec 32 := Scalar.select v1270 v1271 v1265
  let c4096_i32_843 : BitVec 32 := 4096#32
  let v1274 : BitVec 32 := Scalar.muli v1272 c4096_i32_843
  let v1275 : BitVec 32 := Scalar.addi v1274 c0_i32_844
  let c1024_i32_845 : BitVec 32 := 1024#32
  let v1276 : BitVec 32 := Scalar.muli v40 c1024_i32_845
  let v1277 : BitVec 32 := Scalar.addi v1275 v1276
  ![v1273.toNat, v1277.toNat]
def k0_off16 (d0 : Dev nD) (c0_i32_834 : BitVec 32) (c0_i32_857 : BitVec 32) : Fin 2 → Nat :=
  let c2_i32_28 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v52 : BitVec 32 := Scalar.muli c2_i32_28 v44
  let c1_i32_29 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v53 : BitVec 32 := Scalar.subi c1_i32_29 v40
  let v54 : BitVec 32 := Scalar.addi v52 v53
  let c64_i32_855 : BitVec 32 := 64#32
  let v1289 : BitVec 32 := Scalar.muli v54 c64_i32_855
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1261 : BitVec 32 := Scalar.subi v5 c0_i32_834
  let c1_i32_835 : BitVec 32 := 1#32
  let v1262 : BitVec 32 := Scalar.subi v1261 c1_i32_835
  let c4_i32_836 : BitVec 32 := 4#32
  let c0_i32_837 : BitVec 32 := 0#32
  let v1263 : BitVec 1 := Scalar.cmpi .eq c4_i32_836 c0_i32_837
  let c1_i32_838 : BitVec 32 := 1#32
  let v1264 : BitVec 32 := Scalar.select v1263 c1_i32_838 c4_i32_836
  let v1265 : BitVec 32 := Scalar.remsi v1262 v1264
  let c0_i32_840 : BitVec 32 := 0#32
  let v1267 : BitVec 1 := Scalar.cmpi .slt v1265 c0_i32_840
  let c0_i32_841 : BitVec 32 := 0#32
  let v1268 : BitVec 1 := Scalar.cmpi .slt v1264 c0_i32_841
  let v1269 : BitVec 1 := Scalar.xori v1267 v1268
  let c0_i32_839 : BitVec 32 := 0#32
  let v1266 : BitVec 1 := Scalar.cmpi .ne v1265 c0_i32_839
  let v1270 : BitVec 1 := Scalar.andi v1269 v1266
  let v1271 : BitVec 32 := Scalar.addi v1265 v1264
  let v1272 : BitVec 32 := Scalar.select v1270 v1271 v1265
  let c4096_i32_856 : BitVec 32 := 4096#32
  let v1290 : BitVec 32 := Scalar.muli v1272 c4096_i32_856
  let v1291 : BitVec 32 := Scalar.addi v1290 c0_i32_857
  let c1_i32_854 : BitVec 32 := 1#32
  let v1288 : BitVec 32 := Scalar.subi c1_i32_854 v40
  let c1024_i32_858 : BitVec 32 := 1024#32
  let v1292 : BitVec 32 := Scalar.muli v1288 c1024_i32_858
  let v1293 : BitVec 32 := Scalar.addi v1291 v1292
  ![v1289.toNat, v1293.toNat]
def k0_off17 (d0 : Dev nD) (c0_i32_834 : BitVec 32) (c0_i32_868 : BitVec 32) : Fin 2 → Nat :=
  let c2_i32_28 : BitVec 32 := 2#32
  let c1_i32_23 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v44 : BitVec 32 := Scalar.subi c1_i32_23 v2
  let v52 : BitVec 32 := Scalar.muli c2_i32_28 v44
  let c1_i32_29 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_15 : BitVec 32 := 2#32
  let c0_i32_16 : BitVec 32 := 0#32
  let v31 : BitVec 1 := Scalar.cmpi .eq c2_i32_15 c0_i32_16
  let c1_i32_17 : BitVec 32 := 1#32
  let v32 : BitVec 32 := Scalar.select v31 c1_i32_17 c2_i32_15
  let v33 : BitVec 32 := Scalar.remsi v8 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let v53 : BitVec 32 := Scalar.subi c1_i32_29 v40
  let v54 : BitVec 32 := Scalar.addi v52 v53
  let c64_i32_869 : BitVec 32 := 64#32
  let v1306 : BitVec 32 := Scalar.muli v54 c64_i32_869
  let v1307 : Index := Scalar.indexCast v1306
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v1261 : BitVec 32 := Scalar.subi v5 c0_i32_834
  let c1_i32_835 : BitVec 32 := 1#32
  let v1262 : BitVec 32 := Scalar.subi v1261 c1_i32_835
  let c4_i32_836 : BitVec 32 := 4#32
  let c0_i32_837 : BitVec 32 := 0#32
  let v1263 : BitVec 1 := Scalar.cmpi .eq c4_i32_836 c0_i32_837
  let c1_i32_838 : BitVec 32 := 1#32
  let v1264 : BitVec 32 := Scalar.select v1263 c1_i32_838 c4_i32_836
  let v1265 : BitVec 32 := Scalar.remsi v1262 v1264
  let c0_i32_840 : BitVec 32 := 0#32
  let v1267 : BitVec 1 := Scalar.cmpi .slt v1265 c0_i32_840
  let c0_i32_841 : BitVec 32 := 0#32
  let v1268 : BitVec 1 := Scalar.cmpi .slt v1264 c0_i32_841
  let v1269 : BitVec 1 := Scalar.xori v1267 v1268
  let c0_i32_839 : BitVec 32 := 0#32
  let v1266 : BitVec 1 := Scalar.cmpi .ne v1265 c0_i32_839
  let v1270 : BitVec 1 := Scalar.andi v1269 v1266
  let v1271 : BitVec 32 := Scalar.addi v1265 v1264
  let v1272 : BitVec 32 := Scalar.select v1270 v1271 v1265
  let c4096_i32_867 : BitVec 32 := 4096#32
  let v1304 : BitVec 32 := Scalar.muli v1272 c4096_i32_867
  let v1305 : BitVec 32 := Scalar.addi v1304 c0_i32_868
  let v1308 : Index := Scalar.indexCast v1305
  ![v1307.toNat, v1308.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S256x512 : Shape := ⟨2, ![256, 512]⟩
abbrev S512x16384 : Shape := ⟨2, ![512, 16384]⟩
abbrev S256x16384 : Shape := ⟨2, ![256, 16384]⟩
abbrev S_ : Shape := ⟨0, ![]⟩
abbrev S256 : Shape := ⟨1, ![256]⟩
abbrev S256x1 : Shape := ⟨2, ![256, 1]⟩

abbrev nBuf : Space → Nat
  | .hbm => 14
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x16384, .f32⟩
  | .hbm, ⟨2, _⟩ => ⟨S256x16384, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S256x16384, .f32⟩
  | .hbm, ⟨7, _⟩ => ⟨S256x16384, .f32⟩
  | .hbm, ⟨8, _⟩ => ⟨S256x16384, .f32⟩
  | .hbm, ⟨9, _⟩ => ⟨S_, .f32⟩
  | .hbm, ⟨10, _⟩ => ⟨S256, .f32⟩
  | .hbm, ⟨11, _⟩ => ⟨S256x1, .f32⟩
  | .hbm, ⟨12, _⟩ => ⟨S256x16384, .f32⟩
  | .hbm, ⟨13, _⟩ => ⟨S256x16384, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Devices.lean ====
module

public import proofs.«01_k».proof.Proof.Gen.KernelIdeal
public import Idealize.ShloMosaic.Lib.Tactic

@[expose] public section

/-!
# The mesh of devices and the copies between them

The thirty-two devices form a mesh: device `16 x + 4 y + z` with `x < 2`, `y < 4`, `z < 4`. The rows
of the result come in four bands of 64 rows; device `(x, y, z)` is given band `2 x + z % 2`, and the
four devices with the same `y` and the same `z / 2` hold the four bands between them.

Each device issues thirty-three copies, numbered here:

* `2 ev + s` for `ev < 3`, `s < 2`: hop `ev` of half `s` around the ring along `y`, to the right
  neighbour, of the sender's own band;
* `6 + 2 ev + s`: the band received at hop `ev`, to the neighbour along `x`;
* `12 + 2 ev + s`: the same band, to the neighbour along `z`;
* `18 + 2 ev + s`: half of the band received from the neighbour along `z`, to the neighbour along `x`;
* `24 + 2 ev + s`: half of the band received from the neighbour along `x`, to the neighbour along `z`;
* `30 + h`: hop `h` of the row sums around the ring along `y`, to the right neighbour.
-/

namespace Cert.KernelIdeal.Pf

open Cert.KernelIdeal Cert.KernelIdeal.Gen
open Idealize.ShloMosaic

/-- The device at `(x, y, z)`, each coordinate read modulo its axis. -/
def mk (x y z : ℕ) : Dev nD := ⟨16 * (x % 2) + 4 * (y % 4) + z % 4, by show _ < 32; omega⟩

/-- The coordinate along `x`. -/
def cx (c : Dev nD) : ℕ := c.val / 16
/-- The coordinate along `y`. -/
def cy (c : Dev nD) : ℕ := c.val / 4 % 4
/-- The coordinate along `z`. -/
def cz (c : Dev nD) : ℕ := c.val % 4
/-- Which of its pair along `z` a device is. -/
def zb (c : Dev nD) : ℕ := c.val % 2

/-- The right neighbour on the ring along `y`. -/
def rt (c : Dev nD) : Dev nD := mk (cx c) (cy c + 1) (cz c)
/-- The left neighbour on the ring along `y`. -/
def lf (c : Dev nD) : Dev nD := mk (cx c) (cy c + 3) (cz c)
/-- The partner along `x`. -/
def px (c : Dev nD) : Dev nD := mk (cx c + 1) (cy c) (cz c)
/-- The partner along `z`. -/
def pz (c : Dev nD) : Dev nD := mk (cx c) (cy c) (cz c + 1 - 2 * zb c)

/-- A device's own band of rows. -/
def bMine (c : Dev nD) : ℕ := 2 * cx c + zb c
/-- The band of the partner along `x`. -/
def bX (c : Dev nD) : ℕ := 2 * (1 - cx c) + zb c
/-- The band of the partner along `z`. -/
def bZ (c : Dev nD) : ℕ := 2 * cx c + (1 - zb c)
/-- The band of the partner along both. -/
def bD (c : Dev nD) : ℕ := 2 * (1 - cx c) + (1 - zb c)

/-- Which neighbour a copy goes to: `0` the right one, `1` the one along `x`, `2` the one along `z`. -/
def cls (k : Fin 33) : Fin 3 :=
  if k.val < 6 ∨ 30 ≤ k.val then 0 else if k.val / 6 = 1 ∨ k.val / 6 = 3 then 1 else 2

/-- The device copy `k` of device `c` goes to. -/
def tgt (k : Fin 33) (c : Dev nD) : Dev nD :=
  if cls k = 0 then rt c else if cls k = 1 then px c else pz c

/-- The device copy `k` landing on device `c` comes from. -/
def org (k : Fin 33) (c : Dev nD) : Dev nD :=
  if cls k = 0 then lf c else if cls k = 1 then px c else pz c

theorem org_tgt : ∀ k c, org k (tgt k c) = c := by decide +kernel
theorem tgt_org : ∀ k c, tgt k (org k c) = c := by decide +kernel
theorem rt_lf : ∀ c, rt (lf c) = c := by decide +kernel
theorem lf_rt : ∀ c, lf (rt c) = c := by decide +kernel
theorem px_px : ∀ c, px (px c) = c := by decide +kernel
theorem pz_pz : ∀ c, pz (pz c) = c := by decide +kernel

theorem tgt_cls0 {k : Fin 33} (h : cls k = 0) (c : Dev nD) : tgt k c = rt c := by simp [tgt, h]
theorem tgt_cls1 {k : Fin 33} (h : cls k = 1) (c : Dev nD) : tgt k c = px c := by simp [tgt, h]
theorem tgt_cls2 {k : Fin 33} (h : cls k = 2) (c : Dev nD) : tgt k c = pz c := by simp [tgt, h]

/-! ## Pieces of the gathered array

A device's copy of the whole array falls into twenty-six pieces: its own two half-blocks (`0`, `1`),
then for each of the four bands (own, along `x`, along `z`, along both) and each `ev < 3`, `s < 2`
half `s` of the block at distance `ev + 1` to the left. -/

/-- The block of columns at distance `ev + 1` to the left of `c`. -/
def oBlk (c : Dev nD) (ev : ℕ) : ℕ := (cy c + 3 - ev) % 4

/-- The band of rows piece `p` lies in (for the own half-blocks, all of them). -/
def pBand (p : Fin 26) (c : Dev nD) : ℕ :=
  if p.val < 2 then 0 else if p.val < 8 then bMine c else if p.val < 14 then bX c
  else if p.val < 20 then bZ c else bD c

/-- The half-block of columns piece `p` lies in. -/
def pCol (p : Fin 26) (c : Dev nD) : ℕ :=
  if p.val < 2 then 2 * cy c + p.val else 2 * oBlk c ((p.val - 2) % 6 / 2) + p.val % 2

/-- The corner of piece `p` on device `c`. -/
def pOff (p : Fin 26) (c : Dev nD) : Fin 2 → ℕ := ![64 * pBand p c, 2048 * pCol p c]

/-- The number of rows of piece `p`. -/
def pH (p : Fin 26) : ℕ := if p.val < 2 then 256 else 64

/-- Which piece of device `c` a band of rows and a half-block of columns belong to. -/
def pieceOf (c : Dev nD) (rb : Fin 4) (cb : Fin 8) : Fin 26 :=
  if cb.val / 2 = cy c then ⟨cb.val % 2, by omega⟩
  else
    ⟨2 + 6 * (if rb.val = bMine c then 0 else if rb.val = bX c then 1 else if rb.val = bZ c then 2 else 3)
      + 2 * ((cy c + 3 - cb.val / 2) % 4 % 3) + cb.val % 2, by split_ifs <;> omega⟩

theorem pieceOf_iff : ∀ (c : Dev nD) (rb : Fin 4) (cb : Fin 8) (p : Fin 26),
    pieceOf c rb cb = p ↔ ((p.val < 2 ∨ rb.val = pBand p c) ∧ cb.val = pCol p c) := by decide +kernel

/-! ## Where a copy lands and where it is read -/

/-- The corner of the elements copy `k` writes on the device `c` it lands on (`k < 30`). -/
def rOff (k : Fin 33) (c : Dev nD) : Fin 2 → ℕ :=
  if k.val < 6 then ![64 * bMine c, 2048 * (2 * oBlk c (k.val % 6 / 2) + k.val % 2)]
  else if k.val < 12 then ![64 * bX c, 2048 * (2 * oBlk c (k.val % 6 / 2) + k.val % 2)]
  else if k.val < 18 then ![64 * bZ c, 2048 * (2 * oBlk c (k.val % 6 / 2) + k.val % 2)]
  else if k.val < 24 then ![64 * bD c, 2048 * (2 * oBlk c (k.val % 6 / 2) + k.val % 2) + 1024 * zb c]
  else ![64 * bD c, 2048 * (2 * oBlk c (k.val % 6 / 2) + k.val % 2) + 1024 * (1 - zb c)]

/-- The number of columns of copy `k` (`k < 30`). -/
def cW (k : Fin 33) : ℕ := if k.val < 18 then 2048 else 1024

/-- The corner of the elements copy `k` of device `c` reads: the same place as where they land. -/
def sOff (k : Fin 33) (c : Dev nD) : Fin 2 → ℕ := rOff k (tgt k c)

/-- The device whose block and band the elements at band `rb` of half-block `cb` on device `c` are. -/
def devOf (c : Dev nD) (rb : ℕ) (cb : ℕ) : Dev nD :=
  if cb / 2 = cy c then c else mk (rb / 2) (cb / 2) (2 * (cz c / 2) + rb % 2)

/-- Sender and receiver of copy `k` agree on the device the copied elements are from. -/
theorem devOf_copy : ∀ (k : Fin 33) (c : Dev nD), k.val < 30 → ∀ (rb : Fin 4) (cb : Fin 8),
    64 * rb.val = sOff k c 0 → cb.val = sOff k c 1 / 2048 →
    devOf c rb.val cb.val = devOf (tgt k c) rb.val cb.val := by decide +kernel

theorem rOff_shape : ∀ (k : Fin 33) (c : Dev nD), k.val < 30 →
    rOff k c 0 % 64 = 0 ∧ rOff k c 0 < 256 ∧ rOff k c 1 % cW k = 0 ∧ rOff k c 1 + cW k ≤ 16384 := by
  decide +kernel

/-! ## The printed offsets and device numbers in closed form -/

set_option maxRecDepth 100000

theorem off1_eq0 (c : Dev nD) : k0_off1 c 0#32 = pOff 0 c := by revert c; decide +kernel
theorem off1_eq1 (c : Dev nD) : k0_off1 c 2048#32 = pOff 1 c := by revert c; decide +kernel
theorem off2_eq : ∀ (c : Dev nD) (s : Fin 2), k0_off2 c (BitVec.ofNat 32 (2048 * s.val)) = sOff ⟨s.val, by omega⟩ c := by
  decide +kernel
theorem off3_eq : ∀ (c : Dev nD), k0_off3 c = ![0, 64 * bMine c, 0] := by decide +kernel
theorem off4_eq : ∀ (c : Dev nD), k0_off4 c = ![0, 64 * bX c, 0] := by decide +kernel
theorem off5_eq : ∀ (c : Dev nD), k0_off5 c = ![0, 64 * bZ c, 0] := by decide +kernel
theorem off6_eq : ∀ (c : Dev nD), k0_off6 c = ![0, 64 * bD c, 0] := by decide +kernel

/-- Every offset of the copies and the stores of a band, hop `ev` and half `s` at a time. -/
theorem off7_eq : ∀ (c : Dev nD) (ev : Fin 3) (s : Fin 2),
    k0_off7 c (BitVec.ofNat 32 ev.val) (BitVec.ofNat 32 (2048 * s.val)) = rOff ⟨2 * ev.val + s.val, by omega⟩ c := by
  decide +kernel
theorem off8_eq : ∀ (c : Dev nD) (ev : Fin 3) (s : Fin 2),
    k0_off8 c (BitVec.ofNat 32 ev.val) (BitVec.ofNat 32 (2048 * s.val)) = pOff ⟨2 + 2 * ev.val + s.val, by omega⟩ c := by
  decide +kernel
theorem off9_eq : ∀ (c : Dev nD) (ev : Fin 3) (s : Fin 2),
    k0_off9 c (BitVec.ofNat 32 ev.val) (BitVec.ofNat 32 (2048 * s.val)) = rOff ⟨6 + 2 * ev.val + s.val, by omega⟩ c := by
  decide +kernel
theorem off10_eq : ∀ (c : Dev nD) (ev : Fin 3) (s : Fin 2),
    k0_off10 c (BitVec.ofNat 32 ev.val) (BitVec.ofNat 32 (2048 * s.val)) = sOff ⟨24 + 2 * ev.val + s.val, by omega⟩ c := by
  decide +kernel
theorem off11_eq : ∀ (c : Dev nD) (ev : Fin 3) (s : Fin 2),
    k0_off11 c (BitVec.ofNat 32 ev.val) (BitVec.ofNat 32 (2048 * s.val)) = pOff ⟨8 + 2 * ev.val + s.val, by omega⟩ c := by
  decide +kernel
theorem off12_eq : ∀ (c : Dev nD) (ev : Fin 3) (s : Fin 2),
    k0_off12 c (BitVec.ofNat 32 ev.val) (BitVec.ofNat 32 (2048 * s.val)) = rOff ⟨12 + 2 * ev.val + s.val, by omega⟩ c := by
  decide +kernel
theorem off13_eq : ∀ (c : Dev nD) (ev : Fin 3) (s : Fin 2),
    k0_off13 c (BitVec.ofNat 32 ev.val) (BitVec.ofNat 32 (2048 * s.val)) = sOff ⟨18 + 2 * ev.val + s.val, by omega⟩ c := by
  decide +kernel
theorem off14_eq : ∀ (c : Dev nD) (ev : Fin 3) (s : Fin 2),
    k0_off14 c (BitVec.ofNat 32 ev.val) (BitVec.ofNat 32 (2048 * s.val)) = pOff ⟨14 + 2 * ev.val + s.val, by omega⟩ c := by
  decide +kernel
theorem off15_eq : ∀ (c : Dev nD) (ev : Fin 3) (s : Fin 2),
    k0_off15 c (BitVec.ofNat 32 ev.val) (BitVec.ofNat 32 (2048 * s.val)) = rOff ⟨18 + 2 * ev.val + s.val, by omega⟩ c := by
  decide +kernel
theorem off16_eq : ∀ (c : Dev nD) (ev : Fin 3) (s : Fin 2),
    k0_off16 c (BitVec.ofNat 32 ev.val) (BitVec.ofNat 32 (2048 * s.val)) = rOff ⟨24 + 2 * ev.val + s.val, by omega⟩ c := by
  decide +kernel
theorem off17_eq : ∀ (c : Dev nD) (ev : Fin 3) (s : Fin 2),
    k0_off17 c (BitVec.ofNat 32 ev.val) (BitVec.ofNat 32 (2048 * s.val)) = pOff ⟨20 + 2 * ev.val + s.val, by omega⟩ c := by
  decide +kernel

/-- A copy forwarding the band received at hop `ev` reads where hop `ev` landed. -/
theorem sOff_fwd : ∀ (c : Dev nD) (j : Fin 6),
    sOff ⟨6 + j.val, by omega⟩ c = rOff ⟨j.val, by omega⟩ c ∧ sOff ⟨12 + j.val, by omega⟩ c = rOff ⟨j.val, by omega⟩ c
      ∧ (∀ h : j.val < 4, sOff ⟨2 + j.val, by omega⟩ c = rOff ⟨j.val, by omega⟩ c) := by decide +kernel

/-- A whole piece landed by one copy. -/
theorem rOff_piece : ∀ (c : Dev nD) (k : Fin 18), rOff ⟨k.val, by omega⟩ c = pOff ⟨2 + k.val, by omega⟩ c := by
  decide +kernel

theorem dev1_eq : ∀ c : Dev nD, (⟨k0_dev1 c, k0_dev1_lt c⟩ : Dev nD) = lf c := by decide +kernel
theorem dev2_eq : ∀ c : Dev nD, (⟨k0_dev2 c, k0_dev2_lt c⟩ : Dev nD) = rt c := by decide +kernel
theorem dev3_eq : ∀ c : Dev nD, (⟨k0_dev3 c, k0_dev3_lt c⟩ : Dev nD) = px c := by decide +kernel
theorem dev4_eq : ∀ c : Dev nD, (⟨k0_dev4 c, k0_dev4_lt c⟩ : Dev nD) = pz c := by decide +kernel
theorem dev5_eq : ∀ c : Dev nD, (⟨k0_dev5 c, k0_dev5_lt c⟩ : Dev nD) = tgt 0 c := by decide +kernel
theorem dev6_eq : ∀ c : Dev nD, (⟨k0_dev6 c, k0_dev6_lt c⟩ : Dev nD) = tgt 1 c := by decide +kernel
theorem dev7_eq : ∀ c : Dev nD, (⟨k0_dev7 c, k0_dev7_lt c⟩ : Dev nD) = tgt 30 c := by decide +kernel
theorem dev8_eq : ∀ c : Dev nD, (⟨k0_dev8 c, k0_dev8_lt c⟩ : Dev nD) = tgt 31 c := by decide +kernel
theorem dev9_eq : ∀ c : Dev nD, (⟨k0_dev9 c, k0_dev9_lt c⟩ : Dev nD) = tgt 32 c := by decide +kernel
theorem dev10_eq : ∀ c : Dev nD, (⟨k0_dev10 c, k0_dev10_lt c⟩ : Dev nD) = tgt 2 c := by decide +kernel
theorem dev11_eq : ∀ c : Dev nD, (⟨k0_dev11 c, k0_dev11_lt c⟩ : Dev nD) = tgt 6 c := by decide +kernel
theorem dev12_eq : ∀ c : Dev nD, (⟨k0_dev12 c, k0_dev12_lt c⟩ : Dev nD) = tgt 12 c := by decide +kernel
theorem dev13_eq : ∀ c : Dev nD, (⟨k0_dev13 c, k0_dev13_lt c⟩ : Dev nD) = tgt 3 c := by decide +kernel
theorem dev14_eq : ∀ c : Dev nD, (⟨k0_dev14 c, k0_dev14_lt c⟩ : Dev nD) = tgt 7 c := by decide +kernel
theorem dev15_eq : ∀ c : Dev nD, (⟨k0_dev15 c, k0_dev15_lt c⟩ : Dev nD) = tgt 13 c := by decide +kernel
theorem dev16_eq : ∀ c : Dev nD, (⟨k0_dev16 c, k0_dev16_lt c⟩ : Dev nD) = tgt 4 c := by decide +kernel
theorem dev17_eq : ∀ c : Dev nD, (⟨k0_dev17 c, k0_dev17_lt c⟩ : Dev nD) = tgt 8 c := by decide +kernel
theorem dev18_eq : ∀ c : Dev nD, (⟨k0_dev18 c, k0_dev18_lt c⟩ : Dev nD) = tgt 14 c := by decide +kernel
theorem dev19_eq : ∀ c : Dev nD, (⟨k0_dev19 c, k0_dev19_lt c⟩ : Dev nD) = tgt 5 c := by decide +kernel
theorem dev20_eq : ∀ c : Dev nD, (⟨k0_dev20 c, k0_dev20_lt c⟩ : Dev nD) = tgt 9 c := by decide +kernel
theorem dev21_eq : ∀ c : Dev nD, (⟨k0_dev21 c, k0_dev21_lt c⟩ : Dev nD) = tgt 15 c := by decide +kernel
theorem dev22_eq : ∀ c : Dev nD, (⟨k0_dev22 c, k0_dev22_lt c⟩ : Dev nD) = tgt 10 c := by decide +kernel
theorem dev23_eq : ∀ c : Dev nD, (⟨k0_dev23 c, k0_dev23_lt c⟩ : Dev nD) = tgt 16 c := by decide +kernel
theorem dev24_eq : ∀ c : Dev nD, (⟨k0_dev24 c, k0_dev24_lt c⟩ : Dev nD) = tgt 11 c := by decide +kernel
theorem dev25_eq : ∀ c : Dev nD, (⟨k0_dev25 c, k0_dev25_lt c⟩ : Dev nD) = tgt 17 c := by decide +kernel
theorem dev26_eq : ∀ c : Dev nD, (⟨k0_dev26 c, k0_dev26_lt c⟩ : Dev nD) = tgt 24 c := by decide +kernel
theorem dev27_eq : ∀ c : Dev nD, (⟨k0_dev27 c, k0_dev27_lt c⟩ : Dev nD) = tgt 18 c := by decide +kernel
theorem dev28_eq : ∀ c : Dev nD, (⟨k0_dev28 c, k0_dev28_lt c⟩ : Dev nD) = tgt 25 c := by decide +kernel
theorem dev29_eq : ∀ c : Dev nD, (⟨k0_dev29 c, k0_dev29_lt c⟩ : Dev nD) = tgt 19 c := by decide +kernel
theorem dev30_eq : ∀ c : Dev nD, (⟨k0_dev30 c, k0_dev30_lt c⟩ : Dev nD) = tgt 26 c := by decide +kernel
theorem dev31_eq : ∀ c : Dev nD, (⟨k0_dev31 c, k0_dev31_lt c⟩ : Dev nD) = tgt 20 c := by decide +kernel
theorem dev32_eq : ∀ c : Dev nD, (⟨k0_dev32 c, k0_dev32_lt c⟩ : Dev nD) = tgt 27 c := by decide +kernel
theorem dev33_eq : ∀ c : Dev nD, (⟨k0_dev33 c, k0_dev33_lt c⟩ : Dev nD) = tgt 21 c := by decide +kernel
theorem dev34_eq : ∀ c : Dev nD, (⟨k0_dev34 c, k0_dev34_lt c⟩ : Dev nD) = tgt 28 c := by decide +kernel
theorem dev35_eq : ∀ c : Dev nD, (⟨k0_dev35 c, k0_dev35_lt c⟩ : Dev nD) = tgt 22 c := by decide +kernel
theorem dev36_eq : ∀ c : Dev nD, (⟨k0_dev36 c, k0_dev36_lt c⟩ : Dev nD) = tgt 29 c := by decide +kernel
theorem dev37_eq : ∀ c : Dev nD, (⟨k0_dev37 c, k0_dev37_lt c⟩ : Dev nD) = tgt 23 c := by decide +kernel

end Cert.KernelIdeal.Pf
-- ==== Proof.Contents.lean ====
module

public import proofs.«01_k».proof.Proof.Devices
public import proofs.«01_k».proof.Proof.Gen.KernelIdeal.Skeleton

@[expose] public section

/-!
# What every buffer holds

The contents of the arrays each device keeps, as functions of the launch's memory: the exponentials of
its block (`eBf`), the gathered array of exponentials (`commF`), the ring of row sums (`dsF`), the
reciprocal of the row sums' total (`invV`), and the result (`outF`). Each is written at one symbolic
device and by the payloads the kernel stores.
-/

noncomputable section

namespace Cert.KernelIdeal.Pf

open Cert.KernelIdeal Cert.KernelIdeal.Gen
open Idealize.ShloMosaic Idealize.ShloMosaic.TcCoe
open Idealize.SL Idealize.SL.Sem

variable {F : FTy → Type} [FloatOps F]

/-! ## Indices and rectangles -/

/-- The index at a row and a column. -/
def i2 {a b : ℕ} (r : Fin a) (q : Fin b) : (⟨2, ![a, b]⟩ : Shape).Idx := fun | 0 => r | 1 => q
/-- The index at a plane, a row and a lane. -/
def i3 {a b e : ℕ} (p : Fin a) (r : Fin b) (q : Fin e) : (⟨3, ![a, b, e]⟩ : Shape).Idx := fun | 0 => p | 1 => r | 2 => q

/-- The elements of a rectangle of the gathered array and of the result: `h` rows and `w` columns at a corner. -/
def R (off : Fin 2 → ℕ) (h w : ℕ) : Finset S256x16384.Idx :=
  Finset.univ.filter fun i => (off 0 ≤ (i 0).val ∧ (i 0).val < off 0 + h) ∧ (off 1 ≤ (i 1).val ∧ (i 1).val < off 1 + w)

theorem mem_R {off : Fin 2 → ℕ} {h w : ℕ} {i : S256x16384.Idx} :
    i ∈ R off h w ↔ (off 0 ≤ (i 0).val ∧ (i 0).val < off 0 + h) ∧ (off 1 ≤ (i 1).val ∧ (i 1).val < off 1 + w) := by
  simp [R]

theorem unit_set {off size : Fin 2 → ℕ} (inb : ∀ a, off a + size a ≤ S256x16384.size a) :
    (Rect.unit (s := S256x16384) off size inb).set = R off (size 0) (size 1) := by
  ext i
  rw [Rect.mem_set_unit, mem_R]
  exact Fin.forall_fin_two

/-- The elements of one plane of the ring of row sums. -/
def Pl (h : ℕ) : Finset S4x256x128.Idx := Finset.univ.filter fun i => (i 0).val = h

theorem mem_Pl {h : ℕ} {i : S4x256x128.Idx} : i ∈ Pl h ↔ (i 0).val = h := by simp [Pl]

theorem plane_set {h : ℕ} (inb : ∀ a, (![h, 0, 0] : Fin 3 → ℕ) a + S1x256x128.size a ≤ S4x256x128.size a) :
    (Rect.unit (s := S4x256x128) ![h, 0, 0] S1x256x128.size inb).set = Pl h := by
  ext i
  rw [Rect.mem_set_unit, mem_Pl]
  constructor
  · intro H
    have h0 : h ≤ (i 0).val ∧ (i 0).val < h + 1 := H 0
    omega
  · intro H
    have h1 : (i 1).val < 256 := (i 1).isLt
    have h2 : (i 2).val < 128 := (i 2).isLt
    intro a
    match a with
    | 0 => show h ≤ (i 0).val ∧ (i 0).val < h + 1; omega
    | 1 => show 0 ≤ (i 1).val ∧ (i 1).val < 0 + 256; omega
    | 2 => show 0 ≤ (i 2).val ∧ (i 2).val < 0 + 128; omega

/-! ## The operands as staged -/

abbrev xM : Memref sig .tc .vmem S256x512 .f32 := Memref.whole cc0_stg0_0
abbrev wM : Memref sig .tc .vmem S512x4096 .f32 := Memref.whole cc0_stg1_0
abbrev oM : Memref sig .tc .vmem S256x16384 .f32 := Memref.whole cc0_stg2_0
abbrev cM : Memref sig .tc .vmem S256x16384 .bf16 := Memref.whole cc0_scratch0
abbrev dM : Memref sig .tc .vmem S4x256x128 .f32 := Memref.whole cc0_scratch1

variable (m : (ℓ : Loc nD τ sig) → Buf (Elt F) ℓ)

/-- Device `c`'s left operand as staged. -/
def xstg (c : Dev nD) : (cc0_stg0_0 : Ref sig .tc).ty.Contents (Elt F) :=
  (win0_0.blk (0 : Fin 1)).view.read (Elt F) (m ((c : Thread nD τ).loc main_arg0))
/-- Device `c`'s block of the right operand as staged. -/
def wstg (c : Dev nD) : (cc0_stg1_0 : Ref sig .tc).ty.Contents (Elt F) :=
  (win0_1.blk (0 : Fin 1)).view.read (Elt F) (m ((c : Thread nD τ).loc main_arg1))

/-- The left operand as the kernel reads it. -/
def xV (c : Dev nD) : Vec F S256x512 .f32 :=
  (xM.access (Rect.unit (s := S256x512) ![0, 0] S256x512.size inb_S256x512_S256x512_0_0)).read (Elt F) (xstg m c)
/-- The two halves of the right operand's block as the kernel reads them. -/
def wV0 (c : Dev nD) : Vec F S512x2048 .f32 :=
  (wM.access (Rect.unit (s := S512x4096) ![0, 0] S512x2048.size inb_S512x4096_S512x2048_0_0)).read (Elt F) (wstg m c)
def wV1 (c : Dev nD) : Vec F S512x2048 .f32 :=
  (wM.access (Rect.unit (s := S512x4096) ![0, 2048] S512x2048.size inb_S512x4096_S512x2048_0_2048)).read (Elt F) (wstg m c)

/-! ## The exponentials -/

/-- The exponentials of the two half-blocks, and as rounded for the copies. -/
def e0 (c : Dev nD) : FVec F S256x2048 .f32 := k0_pay3 (xV m c) (wV0 m c)
def e1 (c : Dev nD) : FVec F S256x2048 .f32 := k0_pay6 (k0_pay2 (xV m c)) (wV1 m c)
def eBf (c : Dev nD) (s : ℕ) : FVec F S256x2048 .bf16 :=
  if s = 0 then k0_pay4 (xV m c) (wV0 m c) else k0_pay7 (k0_pay2 (xV m c)) (wV1 m c)

/-- The gathered array on device `c`. -/
def commF (c : Dev nD) : S256x16384.Idx → F .bf16 := fun i =>
  eBf m (devOf c ((i 0).val / 64) ((i 1).val / 2048)) ((i 1).val / 2048 % 2)
    (i2 ⟨(i 0).val, (i 0).isLt⟩ ⟨(i 1).val % 2048, Nat.mod_lt _ (by decide)⟩)

/-- Sender and receiver agree on the elements copied. -/
theorem commF_copy (k : Fin 33) (hk : k.val < 30) (c : Dev nD) {i : S256x16384.Idx}
    (hi : i ∈ R (sOff k c) 64 (cW k)) : commF m c i = commF m (tgt k c) i := by
  obtain ⟨⟨h1, h2⟩, h3, h4⟩ := mem_R.mp hi
  obtain ⟨s1, s2, s3, s4⟩ := rOff_shape k (tgt k c) hk
  have hr : (i 0).val < 256 := (i 0).isLt
  have hc : (i 1).val < 16384 := (i 1).isLt
  have h3' : rOff k (tgt k c) 1 ≤ (i 1).val := h3
  have h4' : (i 1).val < rOff k (tgt k c) 1 + cW k := h4
  have h1' : rOff k (tgt k c) 0 ≤ (i 0).val := h1
  have h2' : (i 0).val < rOff k (tgt k c) 0 + 64 := h2
  have hW : cW k = 2048 ∨ cW k = 1024 := by unfold cW; split <;> simp
  have key := devOf_copy k c hk ⟨(i 0).val / 64, by omega⟩ ⟨(i 1).val / 2048, by omega⟩
    (by show 64 * ((i 0).val / 64) = rOff k (tgt k c) 0; omega)
    (by show (i 1).val / 2048 = rOff k (tgt k c) 1 / 2048; rcases hW with hW | hW <;> rw [hW] at s3 h4' <;> omega)
  unfold commF
  rw [show devOf c ((i 0).val / 64) ((i 1).val / 2048) = devOf (tgt k c) ((i 0).val / 64) ((i 1).val / 2048) from key]

/-- The own half-blocks hold what the kernel stores there. -/
theorem commF_own (s : Fin 2) (c : Dev nD) (inb : ∀ a, pOff ⟨s.val, by omega⟩ c a + S256x2048.size a ≤ S256x16384.size a)
    (x : S256x2048.Idx) :
    commF m c ((Rect.unit (s := S256x16384) (pOff ⟨s.val, by omega⟩ c) S256x2048.size inb).emb x) = eBf m c s.val x := by
  have hx1 : (x 1).val < 2048 := (x 1).isLt
  have hs := s.isLt
  have hcol : pCol ⟨s.val, by omega⟩ c = 2 * cy c + s.val := if_pos s.isLt
  have hband : pBand ⟨s.val, by omega⟩ c = 0 := if_pos s.isLt
  have e0' : (((Rect.unit (s := S256x16384) (pOff ⟨s.val, by omega⟩ c) S256x2048.size inb).emb x) 0).val = (x 0).val := by
    show 64 * pBand ⟨s.val, by omega⟩ c + 1 * (x 0).val = _; rw [hband]; omega
  have e1' : (((Rect.unit (s := S256x16384) (pOff ⟨s.val, by omega⟩ c) S256x2048.size inb).emb x) 1).val = 2048 * (2 * cy c + s.val) + (x 1).val := by
    show 2048 * pCol ⟨s.val, by omega⟩ c + 1 * (x 1).val = _; rw [hcol]; omega
  unfold commF
  simp only [e0', e1']
  have d1 : (2048 * (2 * cy c + s.val) + (x 1).val) / 2048 = 2 * cy c + s.val := by omega
  have d2 : (2048 * (2 * cy c + s.val) + (x 1).val) % 2048 = (x 1).val := by omega
  have d3 : (2 * cy c + s.val) % 2 = s.val := by omega
  have d4 : (2 * cy c + s.val) / 2 = cy c := by omega
  have hdev : devOf c ((x 0).val / 64) (2 * cy c + s.val) = c := by unfold devOf; rw [d4, if_pos rfl]
  simp only [d1, d2, d3, hdev]
  congr 1
  funext a
  match a with
  | 0 => rfl
  | 1 => rfl

/-! ## The row sums around the ring -/

/-- The row sums of a device's block. -/
def dV (c : Dev nD) : FVec F S256x1 .f32 := k0_pay8 (k0_pay5 k0_pay1 (e0 m c)) (e1 m c)
/-- The plane a device stores its row sums in. -/
def dPl (c : Dev nD) : FVec F S1x256x128 .f32 := k0_pay9 (k0_pay5 k0_pay1 (e0 m c)) (e1 m c)

/-- The device `h` places to the left. -/
def lfN : ℕ → Dev nD → Dev nD
  | 0, c => c
  | h + 1, c => lf (lfN h c)

theorem lfN_rt : ∀ (h : Fin 3) (c : Dev nD), lfN (h.val + 1) (rt c) = lfN h.val c := by decide +kernel

/-- The ring's planes on device `c`: plane `h` holds the row sums of the device `h` places to the left. -/
def dsF (c : Dev nD) : S4x256x128.Idx → F .f32 := fun i =>
  dPl m (lfN (i 0).val c) (i3 0 ⟨(i 1).val, (i 1).isLt⟩ ⟨(i 2).val, (i 2).isLt⟩)

theorem inb_pl1 (h : Fin 4) : ∀ a, (![h.val, 0, 0] : Fin 3 → ℕ) a + S1x256x1.size a ≤ S4x256x128.size a := by
  revert h; decide

/-- The row sums read back from plane `h`. -/
def dRd (c : Dev nD) (h : Fin 4) : Vec F S1x256x1 .f32 :=
  (dM.access (Rect.unit (s := S4x256x128) ![h.val, 0, 0] S1x256x1.size (inb_pl1 h))).read (Elt F) (dsF m c)

/-- The sum of the first two, of the first three, and the fourth row sums. -/
def d2 (c : Dev nD) : FVec F S256x1 .f32 := k0_pay10 (dV m c) (dRd m c 1)
def d3 (c : Dev nD) : FVec F S256x1 .f32 := k0_pay11 (d2 m c) (dRd m c 2)
def d4 (c : Dev nD) : FVec F S256x1 .f32 := k0_pay12 (dRd m c 3)

/-- The reciprocal of each row's total. -/
def invV (c : Dev nD) : FVec F S256x1 .f32 := k0_pay13 (d3 m c) (d4 m c)

/-- Plane `0` once the reciprocals are stored there (the other planes as before). -/
def dsG (c : Dev nD) : S4x256x128.Idx → F .f32 := fun i => invV m c (i2 ⟨(i 1).val, (i 1).isLt⟩ 0)

/-! ## The result -/

/-- The result on device `c`. -/
def outF (c : Dev nD) : S256x16384.Idx → F .f32 := fun i =>
  FloatOps.mulf (FloatOps.extf .f32 bitsLt_bf16_f32 (commF m c i)) (invV m c (i2 ⟨(i 0).val, (i 0).isLt⟩ 0))

end Cert.KernelIdeal.Pf
-- ==== Proof.Protocol.lean ====
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

/-!
# The protocol

A device signals its four partners (left, right, across `x`, across `z`) and waits for four signals.
Each signal hands over the regions of the sender that its receiver will write by its copies. Then come
33 copies out of each device, numbered as in `Devices`: copy `k` has a send cell on its source and a
receive cell on its target, one duty each, whose payloads are the source region given back and the
landing region with its contents. Levels rank the cells: barrier, the ring of row sums, the ring of
blocks, the direct copies across, and the forwarded halves.
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

/-- The duties of a barrier cell; every other cell uses duty `0` alone. -/
abbrev Dt : Type := Fin 4
abbrev UB : Type := URounds (GSem nD τ sig) Dt
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

abbrev 𝒱₀ : Variants := Variants.none

/-! ## Semaphores and cells -/

/-- The barrier semaphore. -/
abbrev barS : Sem sig := (SemArray.scalar (sig.barrier 3 rfl) : Sems sig S_).sem

/-- The send and the receive semaphore of copy `k`. -/
def sS (k : Fin 33) : DmaSem sig :=
  ⟨if k.val < 30 then 3 + 12 * (k.val / 6) + k.val % 6 else 33 + k.val, by show _ < 69; split <;> omega⟩
def rS (k : Fin 33) : DmaSem sig :=
  ⟨if k.val < 30 then 9 + 12 * (k.val / 6) + k.val % 6 else 36 + k.val, by show _ < 69; split <;> omega⟩

/-- Whether a semaphore is a receive semaphore, and of which copy it is. -/
def isR (q : DmaSem sig) : Bool := if q.val < 63 then decide (6 ≤ (q.val - 3) % 12) else decide (66 ≤ q.val)
def ck (q : DmaSem sig) : Fin 33 :=
  ⟨(if q.val < 63 then 6 * ((q.val - 3) / 12) + (q.val - 3) % 6 else if q.val < 66 then q.val - 33 else q.val - 36) % 33,
    Nat.mod_lt _ (by decide)⟩

theorem isR_sS : ∀ k, isR (sS k) = false := by decide
theorem isR_rS : ∀ k, isR (rS k) = true := by decide
theorem ck_sS : ∀ k, ck (sS k) = k := by decide
theorem ck_rS : ∀ k, ck (rS k) = k := by decide
theorem sS_ge : ∀ k, 3 ≤ (sS k).val := by decide
theorem rS_ge : ∀ k, 3 ≤ (rS k).val := by decide

abbrev bC (c : Dev nD) : GSem nD τ sig := ((c : Thread nD τ), .reg barS)
abbrev sC (k : Fin 33) (c : Dev nD) : GSem nD τ sig := ((c : Thread nD τ), .dma (sS k))
abbrev rC (k : Fin 33) (c : Dev nD) : GSem nD τ sig := ((c : Thread nD τ), .dma (rS k))

/-- A device's cells: the barrier, and a send and a receive cell for every copy. -/
abbrev CI : Type := Option (Bool × Fin 33)
def csem : CI → SemLoc sig
  | none => .reg barS
  | some (false, k) => .dma (sS k)
  | some (true, k) => .dma (rS k)
abbrev kcell (p : Dev nD × CI) : GSem nD τ sig := ((p.1 : Thread nD τ), csem p.2)

/-- The units copy `k` credits. -/
def cN (k : Fin 33) : ℕ :=
  if k.val < 18 then cc0_scratch0.dmaCredit S64x2048 .bf16
  else if k.val < 30 then cc0_scratch0.dmaCredit S64x1024 .bf16 else cc0_scratch1.dmaCredit S256x128 .f32

theorem cN_pos : ∀ k, 0 < cN k := by decide +kernel

/-! ## Regions -/

/-- Elements `I` of a device's gathered array, at a share, holding `f`. -/
def cP (c : Dev nD) (I : Finset S256x16384.Idx) (q : PosShare TreeShare) (f : S256x16384.Idx → F .bf16) : sProp 𝕄 :=
  ((c : Thread nD τ).loc cc0_scratch0) ↦[I]{q} (f : Buf (Elt F) ((c : Thread nD τ).loc cc0_scratch0))
/-- Elements `I` of a device's ring of row sums, holding `f`. -/
def dP (c : Dev nD) (I : Finset S4x256x128.Idx) (f : S4x256x128.Idx → F .f32) : sProp 𝕄 :=
  ((c : Thread nD τ).loc cc0_scratch1) ↦[I]{fullShare} (f : Buf (Elt F) ((c : Thread nD τ).loc cc0_scratch1))

instance cP_storable (c : Dev nD) (I q f) : BI.Storable (upEmb : UEmb _ 𝕄) (cP (F := F) c I q f) := by unfold cP; infer_instance
instance dP_storable (c : Dev nD) (I f) : BI.Storable (upEmb : UEmb _ 𝕄) (dP (F := F) c I f) := by unfold dP; infer_instance

/-- The share of its source that copy `k` holds in flight. -/
def shr (k : Fin 33) : PosShare TreeShare :=
  if k.val < 2 then fullShare.right
  else if k.val < 6 then fullShare.right.right.left
  else if k.val < 12 then fullShare.right.left
  else if k.val < 18 then fullShare.right.right.right
  else fullShare.right

/-- Device `c`'s source region of copy `k`, as the copy holds it and gives it back. -/
def SP (c : Dev nD) (k : Fin 33) : sProp 𝕄 :=
  if k.val < 30 then cP c (R (sOff k c) 64 (cW k)) (shr k) (commF m c) else dP c (Pl (k.val - 30)) (dsF m c)
/-- Device `c`'s landing region of copy `k`, landed. -/
def RP (c : Dev nD) (k : Fin 33) : sProp 𝕄 :=
  if k.val < 30 then cP c (R (rOff k c) 64 (cW k)) fullShare (commF m c) else dP c (Pl (k.val - 29)) (dsF m c)
/-- Device `c`'s landing region of copy `k`, before. -/
def LP (c : Dev nD) (k : Fin 33) : sProp 𝕄 :=
  if k.val < 30 then iprop(∃ f, cP c (R (rOff k c) 64 (cW k)) fullShare f) else iprop(∃ f, dP c (Pl (k.val - 29)) f)

instance SP_storable (c : Dev nD) (k) : BI.Storable (upEmb : UEmb _ 𝕄) (SP m c k) := by unfold SP; split <;> infer_instance
instance RP_storable (c : Dev nD) (k) : BI.Storable (upEmb : UEmb _ 𝕄) (RP m c k) := by unfold RP; split <;> infer_instance
instance LP_storable (c : Dev nD) (k) : BI.Storable (upEmb : UEmb _ 𝕄) (LP (F := F) c k) := by unfold LP; split <;> infer_instance

/-- What a signal of duty `d` hands device `c`: the landing regions at the targets of `c`'s copies of
    class `d` (none for duty `3`). -/
def bP (c : Dev nD) (d : Dt) : sProp 𝕄 :=
  bigSep Finset.univ fun k : Fin 33 => if (cls k).val = d.val then LP (tgt k c) k else iprop(emp)

instance bP_storable (c : Dev nD) (d) : BI.Storable (upEmb : UEmb _ 𝕄) (bP (F := F) c d) := by
  unfold bP
  have : ∀ k : Fin 33, BI.Storable (upEmb : UEmb _ 𝕄) (if (cls k).val = d.val then LP (F := F) (tgt k c) k else iprop(emp)) := fun k => by
    split <;> infer_instance
  infer_instance

/-! ## The schedule -/

/-- One round: four duties of one unit on a barrier cell, one duty on each copy's two cells. -/
def Rd : Rounds.Schedule (GSem nD τ sig) Dt 𝕄 where
  duties g r :=
    if r = 0 ∧ g.1.2 = .tc then
      match g.2 with
      | .reg s => if s = barS then Finset.univ else ∅
      | .dma q => if 3 ≤ q.val then {0} else ∅
    else ∅
  unitless _ := False
  amount g _ _ := match g.2 with
    | .reg _ => 1
    | .dma q => cN (ck q)
  payload g _ d := match g.2 with
    | .reg _ => bP g.1.1 d
    | .dma q => if isR q = true then RP m g.1.1 (ck q) else SP m g.1.1 (ck q)
  amount_pos g _ _ _ := by
    rcases g with ⟨t, s | q⟩
    · exact Nat.one_pos
    · exact cN_pos _

instance Rd_payload_storable (g : GSem nD τ sig) (r : ℕ) (d : Dt) :
    BI.Storable (upEmb : UEmb _ 𝕄) ((Rd m).payload g r d) := by
  rcases g with ⟨t, s | q⟩
  · show BI.Storable upEmb (bP t.1 d); infer_instance
  · show BI.Storable upEmb (if isR q = true then RP m t.1 (ck q) else SP m t.1 (ck q))
    split <;> infer_instance

theorem duties_bar (c : Dev nD) : (Rd m).duties (bC c) 0 = Finset.univ := by
  dsimp only [Rd]; rw [if_pos ⟨rfl, rfl⟩]; exact if_pos rfl
theorem duties_dma (c : Dev nD) (q : DmaSem sig) (hq : 3 ≤ q.val) :
    (Rd m).duties ((c : Thread nD τ), .dma q) 0 = {0} := by
  dsimp only [Rd]; rw [if_pos ⟨rfl, rfl⟩]; exact if_pos hq
theorem duties_s (k : Fin 33) (c : Dev nD) : (Rd m).duties (sC k c) 0 = {0} := duties_dma m c _ (sS_ge k)
theorem duties_r (k : Fin 33) (c : Dev nD) : (Rd m).duties (rC k c) 0 = {0} := duties_dma m c _ (rS_ge k)
theorem duties_later (g : GSem nD τ sig) : ∀ r, 1 ≤ r → (Rd m).duties g r = ∅ := fun r hr => by
  dsimp only [Rd]; exact if_neg fun h => by omega

theorem amount_bar (c : Dev nD) (d : Dt) : (Rd m).amount (bC c) 0 d = 1 := rfl
theorem amount_s (k : Fin 33) (c : Dev nD) (d : Dt) : (Rd m).amount (sC k c) 0 d = cN k := by
  dsimp only [Rd]; rw [ck_sS]
theorem amount_r (k : Fin 33) (c : Dev nD) (d : Dt) : (Rd m).amount (rC k c) 0 d = cN k := by
  dsimp only [Rd]; rw [ck_rS]

theorem expect_bar (c : Dev nD) : (Rd m).expect (bC c) 0 = 4 := by
  unfold Schedule.expect Schedule.amountOf
  rw [duties_bar, Finset.sum_congr rfl fun d _ => amount_bar m c d]; rfl
theorem expect_s (k : Fin 33) (c : Dev nD) : (Rd m).expect (sC k c) 0 = cN k := by
  unfold Schedule.expect Schedule.amountOf; rw [duties_s, Finset.sum_singleton, amount_s]
theorem expect_r (k : Fin 33) (c : Dev nD) : (Rd m).expect (rC k c) 0 = cN k := by
  unfold Schedule.expect Schedule.amountOf; rw [duties_r, Finset.sum_singleton, amount_r]

theorem payload_bar (c : Dev nD) (d : Dt) : (Rd m).payload (bC c) 0 d = bP c d := rfl
theorem payload_s (k : Fin 33) (c : Dev nD) (d : Dt) : (Rd m).payload (sC k c) 0 d = SP m c k := by
  dsimp only [Rd]; rw [isR_sS, ck_sS, if_neg Bool.false_ne_true]
theorem payload_r (k : Fin 33) (c : Dev nD) (d : Dt) : (Rd m).payload (rC k c) 0 d = RP m c k := by
  dsimp only [Rd]; rw [isR_rS, ck_rS, if_pos rfl]

theorem rest_bar (c : Dev nD) : bigSep ((Rd m).duties (bC c) 0 \ ∅) (fun d => (Rd m).payload (bC c) 0 d)
    = bigSep Finset.univ fun d : Dt => bP (F := F) c d := by
  rw [Finset.sdiff_empty, duties_bar]; rfl
theorem rest_s (k : Fin 33) (c : Dev nD) :
    bigSep ((Rd m).duties (sC k c) 0 \ ∅) (fun d => (Rd m).payload (sC k c) 0 d) = SP m c k := by
  rw [Finset.sdiff_empty, duties_s, bigSep_singleton, payload_s]
theorem rest_r (k : Fin 33) (c : Dev nD) :
    bigSep ((Rd m).duties (rC k c) 0 \ ∅) (fun d => (Rd m).payload (rC k c) 0 d) = RP m c k := by
  rw [Finset.sdiff_empty, duties_r, bigSep_singleton, payload_r]

/-! ## Orders, debts, levels -/

/-- The order a device starts its copies in, and the order it waits for arrivals in. -/
def sord : List (Fin 33) :=
  [0, 1, 30, 31, 32, 2, 6, 12, 3, 7, 13, 4, 8, 14, 5, 9, 15, 10, 16, 11, 17,
    24, 18, 25, 19, 26, 20, 27, 21, 28, 22, 29, 23]
def rord : List (Fin 33) :=
  [30, 31, 32, 0, 1, 2, 3, 4, 5, 6, 12, 7, 13, 8, 14, 9, 15, 10, 16, 11, 17,
    18, 24, 19, 25, 20, 26, 21, 27, 22, 28, 23, 29]

/-- The receive credits a device owes for the copies of a list. -/
def osum (c : Dev nD) : List (Fin 33) → CellTallies nD τ sig Unit
  | [] => 0
  | k :: l => osum c l + tallyAt (rC k (tgt k c)) () (cN k)

theorem osum_cons (c : Dev nD) (k : Fin 33) (l : List (Fin 33)) :
    osum c (k :: l) = osum c l + tallyAt (rC k (tgt k c)) () (cN k) := rfl

/-- What a device owes when its body starts: the copies' credits and its four signals. -/
def O₁ (c : Dev nD) : CellTallies nD τ sig Unit := osum c sord + tallyAt (bC (pz c)) () 1
def O₂ (c : Dev nD) : CellTallies nD τ sig Unit := O₁ c + tallyAt (bC (px c)) () 1
def O₃ (c : Dev nD) : CellTallies nD τ sig Unit := O₂ c + tallyAt (bC (rt c)) () 1
def O₀ (c : Dev nD) : CellTallies nD τ sig Unit := O₃ c + tallyAt (bC (lf c)) () 1

def L (g : GSem nD τ sig) : Finset Unit := if g.1.2 = .tc then {()} else ∅

/-- The level of copy `k`'s receive cell. -/
def rlev (k : Fin 33) : ℕ := if 30 ≤ k.val then k.val - 20 else if k.val < 6 then 20 + k.val else if k.val < 18 then 40 else 60

/-- The level of each cell. -/
def lv (g : GSem nD τ sig) (_ : Unit) : ℕ := match g.2 with
  | .reg _ => 1
  | .dma q => if isR q = true then rlev (ck q) else 0

theorem L_of_ne (g : GSem nD τ sig) (h : g.1.2 ≠ .tc) : L g = ∅ := if_neg h
theorem L_tc (c : Dev nD) (sm : SemLoc sig) : L ((c : Thread nD τ), sm) = {()} := if_pos rfl
theorem lv_r (k : Fin 33) (c : Dev nD) : lv (rC k c) () = rlev k := by
  dsimp only [lv]; rw [isR_rS, ck_rS, if_pos rfl]
theorem lv_s (k : Fin 33) (c : Dev nD) : lv (sC k c) () = 0 := by
  dsimp only [lv]; rw [isR_sS, if_neg Bool.false_ne_true]

theorem osum_pos {c : Dev nD} {l : List (Fin 33)} {g : GSem nD τ sig} {u : Unit} (h : 0 < osum c l g u) :
    ∃ k ∈ l, g = rC k (tgt k c) := by
  induction l with
  | nil => exact absurd h (Nat.lt_irrefl 0)
  | cons k l ih =>
    rw [osum_cons, Pi.add_apply, Finsupp.add_apply, tallyAt_apply] at h
    by_cases hk : g = rC k (tgt k c) ∧ u = ()
    · exact ⟨k, List.mem_cons_self, hk.1⟩
    · rw [if_neg hk, Nat.add_zero] at h
      obtain ⟨k', hk', hg⟩ := ih h
      exact ⟨k', List.mem_cons_of_mem _ hk', hg⟩

theorem O₀_pos {c : Dev nD} {g : GSem nD τ sig} {u : Unit} (h : 0 < O₀ c g u) :
    (∃ d, g = bC d) ∨ ∃ k ∈ sord, g = rC k (tgt k c) := by
  unfold O₀ O₃ O₂ O₁ at h
  simp only [Pi.add_apply, Finsupp.add_apply, tallyAt_apply] at h
  by_contra hn
  rw [not_or] at hn
  have hb : ∀ d, ¬ (g = bC d ∧ True) := fun d h' => hn.1 ⟨d, h'.1⟩
  rw [if_neg (hb _), if_neg (hb _), if_neg (hb _), if_neg (hb _)] at h
  exact hn.2 (osum_pos (c := c) (l := sord) (g := g) (u := u) (by omega))

/-- A wait is in order when everything owed ranks above the cell waited on. -/
theorem mayWait_of (c : Dev nD) (sm : SemLoc sig) (O : CellTallies nD τ sig Unit)
    (h : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

theorem mayWait_osum (c : Dev nD) (sm : SemLoc sig) (l : List (Fin 33))
    (h : ∀ k ∈ l, lv ((c : Thread nD τ), sm) () < rlev k) :
    (levAts L lv : sProp 𝕄) ⊢ MayWait (c : Thread nD τ) sm () (osum c l) :=
  mayWait_of c sm _ fun g u hg => by
    obtain ⟨k, hk, rfl⟩ := osum_pos hg
    exact ⟨rfl, lt_of_lt_of_eq (h k hk) (lv_r k _).symm⟩

theorem mayWait_stage (c : Dev nD) (q : DmaSem sig) (hq : isR q = false) (O : CellTallies nD τ sig Unit) (hO : O = O₀ c ∨ O = 0) :
    (levAts L lv : sProp 𝕄) ⊢ MayWait (c : Thread nD τ) (.dma q) () O := by
  have h0 : lv ((c : Thread nD τ), .dma q) () = 0 := by dsimp only [lv]; rw [hq, if_neg Bool.false_ne_true]
  rcases hO with rfl | rfl
  · refine mayWait_of c _ _ fun g u hg => ?_
    rw [h0]
    rcases O₀_pos hg with ⟨d, rfl⟩ | ⟨k, hk, rfl⟩
    · exact ⟨rfl, Nat.one_pos⟩
    · refine ⟨rfl, lt_of_lt_of_eq ?_ (lv_r k _).symm⟩
      exact (by decide : ∀ k, 0 < rlev k) k
  · exact mayWait_of c _ _ fun g u hg => absurd hg (Nat.lt_irrefl 0)

/-! ## A device's records and bundles -/

/-- The cells' invariants under names `K`, and that each is at its round. -/
def recAt (K : Dev nD × CI → ℕ) (p : Dev nD × CI) : sProp 𝕄 :=
  iprop(cellInv ER (Rd m) (K p) (kcell p) ∗ reached ER (kcell p) 0)
instance recAt_persistent (K : Dev nD × CI → ℕ) (p) : BI.Persistent (recAt m K p) := by unfold recAt; infer_instance
def Recs (K : Dev nD × CI → ℕ) : sProp 𝕄 := iprop(levAts L lv ∗ bigSep Finset.univ (recAt m K))
instance Recs_persistent (K : Dev nD × CI → ℕ) : BI.Persistent (Recs m K) := by unfold Recs; infer_instance

theorem Recs_at (K : Dev nD × CI → ℕ) (p : Dev nD × CI) :
    Recs m K ⊢ iprop(levAts L lv ∗ cellInv ER (Rd m) (K p) (kcell p) ∗ reached ER (kcell p) 0) := by
  unfold Recs
  iintro ⟨#H1, #H2⟩
  have he : bigSep Finset.univ (recAt m K) ⊢ recAt m K p := bigSep_elim (Finset.mem_univ p)
  ihave #H3 := he $$ H2
  unfold recAt
  icases H3 with ⟨#H4, #H5⟩
  isplitr; · iexact H1
  isplitr; · iexact H4
  iexact H5

/-- What starting copy `k` takes beside its source. -/
def SK (c : Dev nD) (k : Fin 33) : sProp 𝕄 :=
  iprop(dutyTok ER (sC k c) 0 0 ∗ dutyTok ER (rC k (tgt k c)) 0 0 ∗ atPos ER (sC k c) 0 ∅ 0 ∗ LP (tgt k c) k)
/-- What waiting for the arrival of copy `k` takes. -/
def RK (c : Dev nD) (k : Fin 33) : sProp 𝕄 :=
  iprop(atPos ER (rC k c) 0 ∅ 0 ∗ cred (tallyAt (rC k c) () (cN k)))
/-- What waiting for the end of the started copy `k` takes. -/
def FK (c : Dev nD) (k : Fin 33) : sProp 𝕄 :=
  iprop(atPos ER (sC k c) 0 ∅ 0 ∗ cred (tallyAt (sC k c) () (cN k)))

/-- The sending side: `n` copies started, those of `l` in flight, those of `z` ended. -/
def Tx (c : Dev nD) (n : ℕ) (l z : List (Fin 33)) : sProp 𝕄 :=
  iprop((∃ W, owes (c : Thread nD τ) (osum c (sord.drop n)) W) ∗ bigSepL (sord.drop n) (SK c)
    ∗ bigSepL l (FK c) ∗ bigSepL z fun k => semVal (sC k c) 0)
/-- The receiving side: `n` arrivals waited for. -/
def Rx (c : Dev nD) (n : ℕ) : sProp 𝕄 :=
  iprop(bigSepL (rord.drop n) (RK c) ∗ bigSepL (rord.take n).reverse fun k => semVal (rC k c) 0)

end Cert.KernelIdeal.Pf
-- ==== Proof.Steps.lean ====
module

public import proofs.«01_k».proof.Proof.Protocol

@[expose] public section

/-!
# One operation at a time

What starting a copy, waiting for an arrival and waiting for a started copy's end do to the bundles of
`Protocol`, once for every copy.
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a copy writes -/

/-- A copy between the same rectangle of two gathered arrays writes the source's elements there. -/
theorem write_slice {off sz : Fin 2 → ℕ} (inb : ∀ a, off a + sz a ≤ S256x16384.size a) (h h')
    (fd fs : S256x16384.Idx → F .bf16) {i : S256x16384.Idx} (hi : i ∈ (Rect.unit (s := S256x16384) off sz inb).set) :
    (cM.slice (Rect.unit (s := S256x16384) off sz inb) h).view.write (Elt F) fd
      ((cM.slice (Rect.unit (s := S256x16384) off sz inb) h').view.read (Elt F) fs) Finset.univ i = fs i := by
  rw [← Rect.map_emb_univ] at hi
  obtain ⟨x, -, rfl⟩ := Finset.mem_map.mp hi
  have := View.write_emb_of_mem (v := (cM.slice (Rect.unit (s := S256x16384) off sz inb) h).view) (Val := Elt F) fd
    ((cM.slice (Rect.unit (s := S256x16384) off sz inb) h').view.read (Elt F) fs) (Finset.mem_univ x)
  exact this

/-- Plane `h` of the ring of row sums, as the copies around the ring address it. -/
abbrev plM (off : Fin 3 → ℕ) (inb : ∀ a, off a + S1x256x128.size a ≤ S4x256x128.size a) :
    Memref sig .tc .vmem S256x128 .f32 :=
  (dM.slice (Rect.unit (s := S4x256x128) off S1x256x128.size inb) (fun _ => rfl)).squeeze S256x128 squeezes_S1x256x128_S256x128

theorem plM_set (h : ℕ) (inb) : (plM ![h, 0, 0] inb).view.set = Pl h := by
  show (((View.whole cc0_scratch1).slice (Rect.unit (s := S4x256x128) ![h, 0, 0] S1x256x128.size inb)).reshape S256x128 _).set = _
  rw [View.set_reshape, View.set_slice_whole, plane_set]

theorem dsF_next (h : Fin 3) (c : Dev nD) (i j : S4x256x128.Idx) (h0 : (i 0).val = h.val) (h0' : (j 0).val = h.val + 1)
    (h1 : (i 1).val = (j 1).val) (h2 : (i 2).val = (j 2).val) : dsF m c i = dsF m (rt c) j := by
  unfold dsF
  rw [h0, h0', lfN_rt]
  congr 1
  funext a
  match a with
  | 0 => rfl
  | 1 => exact Fin.ext h1
  | 2 => exact Fin.ext h2

theorem write_plane (h : Fin 3) (c : Dev nD) (inb inb') (fd : S4x256x128.Idx → F .f32) {j : S4x256x128.Idx} (hj : j ∈ Pl (h.val + 1)) :
    (plM ![h.val + 1, 0, 0] inb').view.write (Elt F) fd ((plM ![h.val, 0, 0] inb).view.read (Elt F) (dsF m c)) Finset.univ (j : (plM ![h.val + 1, 0, 0] inb').view.ty.Idx)
      = dsF m (rt c) j := by
  rw [← plM_set _ inb'] at hj
  obtain ⟨x, -, rfl⟩ := Finset.mem_map.mp hj
  have := View.write_emb_of_mem (v := (plM ![h.val + 1, 0, 0] inb').view) (Val := Elt F) fd
    ((plM ![h.val, 0, 0] inb).view.read (Elt F) (dsF m c)) (Finset.mem_univ x)
  refine this.trans ?_
  have hy : ∀ y : S1x256x128.Idx, (y 0).val = 0 := fun y => by
    have : (y 0).val < 1 := (y 0).isLt
    omega
  refine dsF_next m h c ((plM ![h.val, 0, 0] inb).view.emb x) _ ?_ ?_ rfl rfl
  · show h.val + 1 * ((Shape.reshapeEquiv _ x : S1x256x128.Idx) 0).val = h.val
    rw [hy]; omega
  · show h.val + 1 + 1 * ((Shape.reshapeEquiv _ x : S1x256x128.Idx) 0).val = h.val + 1
    rw [hy]

/-! ## The steps -/

variable (K : Dev nD × CI → ℕ)

section

/-- Starting copy `k` of a rectangle of the gathered array. -/
theorem wp_send_c {α : Type} {Q : α → sProp 𝕄} {k' : PUnit → Prog (TpuEff nD τ sig (Elt F) Λ₀ .tc) α}
    (c n : Dev nD) (k : Fin 33) (hn : n = tgt k c) (hk : k.val < 30)
    (nc : ℕ) (l z : List (Fin 33)) (hd : sord.drop nc = k :: sord.drop (nc + 1))
    {off sz : Fin 2 → ℕ} {inb : ∀ a, off a + sz a ≤ S256x16384.size a} (hoff : off = sOff k c)
    (hsz : sz 0 = 64 ∧ sz 1 = cW k) (hN : cc0_scratch0.dmaCredit ⟨2, sz⟩ .bf16 = cN k)
    {s1 s2 : DmaSem sig} (hs1 : s1 = sS k) (hs2 : s2 = rS k) {h₁ h₂}
    {hsc : (cM.slice (Rect.unit (s := S256x16384) off sz inb) h₂ : Memref sig (Dev.tc n : Thread nD τ).2.kind .vmem _ .bf16).view.ref.isScScratch = false}
    {hsrc : (cM.slice (Rect.unit (s := S256x16384) off sz inb) h₁).view.WordExact}
    {hdst : (cM.slice (Rect.unit (s := S256x16384) off sz inb) h₂).view.WordExact}
    {hsem : DmaTarget.Typed .vmem (.dma s2) (.remote (Dev.tc n : Thread nD τ) (cM.slice (Rect.unit (s := S256x16384) off sz inb) h₂) (.dma s1) hsc)} :
    iprop(Recs m K ∗ Tx c nc l z ∗ SP m c k)
      ⊢ iprop((Tx c (nc + 1) (k :: l) z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (cM.slice (Rect.unit (s := S256x16384) off sz inb) h₁)
                (.remote (Dev.tc n : Thread nD τ) (cM.slice (Rect.unit (s := S256x16384) off sz inb) h₂) (.dma s1) hsc) (.dma s2) hsrc hdst hsem) k') Q) := by
  subst hn hs1 hs2 hoff
  have hset : (Rect.unit (s := S256x16384) (sOff k c) sz inb).set = R (sOff k c) 64 (cW k) := by
    rw [unit_set, hsz.1, hsz.2]
  have hLP : LP (F := F) (tgt k c) k = iprop(∃ f, cP (tgt k c) (R (sOff k c) 64 (cW k)) fullShare f) := if_pos hk
  have hSP : SP m c k = cP c (R (sOff k c) 64 (cW k)) (shr k) (commF m c) := if_pos hk
  have hRP : RP m (tgt k c) k = cP (tgt k c) (R (sOff k c) 64 (cW k)) fullShare (commF m (tgt k c)) := if_pos hk
  unfold Tx
  rw [hd, bigSepL_cons', bigSepL_cons', osum_cons]
  unfold SK
  rw [hLP, hSP]
  iintro ⟨#Hr, ⟨⟨%W, HO⟩, ⟨⟨Ht1, Ht2, Hat, ⟨%fd, Hd⟩⟩, HS⟩, Hl, Hz⟩, Hsrc⟩ Hk
  ihave #H1 := (Recs_at m K (c, some (false, k))) $$ Hr
  ihave #H2 := (Recs_at m K (tgt k c, some (true, k))) $$ Hr
  icases H1 with ⟨-, #HI1, #Hre1⟩
  icases H2 with ⟨-, #HI2, #Hre2⟩
  unfold cP
  rw [← hset]
  iapply (Rounds.wp_send_pointsTo 𝒱₀ ER (Rd m) (c : Thread nD τ) none (c' := (tgt k c : Thread nD τ)) (sS := .dma (sS k)) (sem := .dma (rS k)) (κ₁ := K (c, some (false, k))) (κ₂ := K (tgt k c, some (true, k)))
    (src := cM.slice (Rect.unit (s := S256x16384) (sOff k c) sz inb) h₁) (dst := cM.slice (Rect.unit (s := S256x16384) (sOff k c) sz inb) h₂)
    (r₁ := 0) (r₂ := 0) (d₁ := 0) (d₂ := 0) (fd := fd) (fs := commF m c) (q := shr k)
    (by rw [duties_s]; exact Finset.mem_singleton_self _) (by rw [duties_r]; exact Finset.mem_singleton_self _)
    () () (cN k) hN (amount_s m k c 0) (amount_r m k (tgt k c) 0) (osum c (sord.drop (nc + 1))) rfl (W := W)
    (by
      rw [payload_s, hSP]; unfold cP; rw [← hset]
      rw [show (cM.slice (Rect.unit (s := S256x16384) (sOff k c) sz inb) h₁).view.set = (Rect.unit (s := S256x16384) (sOff k c) sz inb).set from View.set_slice_whole _ _])
    (by
      rw [payload_r, hRP]; unfold cP; rw [← hset]
      rw [show (cM.slice (Rect.unit (s := S256x16384) (sOff k c) sz inb) h₂).view.set = (Rect.unit (s := S256x16384) (sOff k c) sz inb).set from View.set_slice_whole _ _]
      refine Entails.of_eq (pointsTo_congr fun i hi => ?_)
      refine (write_slice inb _ _ _ _ hi).trans ?_
      rw [hset] at hi
      exact commF_copy m k hk c hi)) $$ [HO Ht1 Ht2 Hd Hsrc]
  · isplitr; · iexact HI1
    isplitr; · iexact HI2
    isplitl [Hsrc]
    · rw [show (cM.slice (Rect.unit (s := S256x16384) (sOff k c) sz inb) h₁).view.set = (Rect.unit (s := S256x16384) (sOff k c) sz inb).set from View.set_slice_whole _ _]
      iexact Hsrc
    isplitl [Hd]
    · rw [show (cM.slice (Rect.unit (s := S256x16384) (sOff k c) sz inb) h₂).view.set = (Rect.unit (s := S256x16384) (sOff k c) sz inb).set from View.set_slice_whole _ _]
      iexact Hd
    isplitl [HO]; · iexact HO
    isplitl [Ht1]; · iexact Ht1
    isplitr; · iexact Hre1
    isplitl [Ht2]; · iexact Ht2
    iexact Hre2
  iintro ⟨Hc, HO⟩
  iapply Hk
  isplitl [HO]; · iexists W; iexact HO
  isplitl [HS]; · iexact HS
  isplitr [Hz]
  · unfold FK
    isplitr [Hl]
    · isplitl [Hat]; · iexact Hat
      iexact Hc
    iexact Hl
  iexact Hz

/-- The copy of plane `h` of the ring of row sums. -/
abbrev dk (h : Fin 3) : Fin 33 := ⟨30 + h.val, by omega⟩

theorem cls_ring : ∀ h : Fin 3, cls (dk h) = 0 := by decide

/-- Starting the copy of plane `h` of the ring of row sums to the right neighbour's next plane. -/
theorem wp_send_d {α : Type} {Q : α → sProp 𝕄} {k' : PUnit → Prog (TpuEff nD τ sig (Elt F) Λ₀ .tc) α}
    (c n : Dev nD) (h : Fin 3) (hn : n = tgt (dk h) c)
    (nc : ℕ) (l z : List (Fin 33)) (hd : sord.drop nc = (dk h) :: sord.drop (nc + 1))
    {off off' : Fin 3 → ℕ} (ho : off = ![h.val, 0, 0]) (ho' : off' = ![h.val + 1, 0, 0]) {inb inb'}
    {s1 s2 : DmaSem sig} (hs1 : s1 = sS (dk h)) (hs2 : s2 = rS (dk h))
    {hsc : (plM off' inb' : Memref sig (Dev.tc n : Thread nD τ).2.kind .vmem _ .f32).view.ref.isScScratch = false}
    {hsrc : (plM off inb).view.WordExact} {hdst : (plM off' inb').view.WordExact}
    {hsem : DmaTarget.Typed .vmem (.dma s2) (.remote (Dev.tc n : Thread nD τ) (plM off' inb') (.dma s1) hsc)} :
    iprop(Recs m K ∗ Tx c nc l z ∗ SP m c (dk h))
      ⊢ iprop((Tx c (nc + 1) ((dk h) :: l) z -∗ wp frame (wpE (defs₀ (F := F)) 𝒱₀ (c : Thread nD τ) none) Set.univ (k' ⟨⟩) Q)
          -∗ wp frame (wpE (defs₀ (F := F)) 𝒱₀ (c : Thread nD τ) none) Set.univ
              (.op (.enqueueDma (plM off inb)
                (.remote (Dev.tc n : Thread nD τ) (plM off' inb') (.dma s1) hsc) (.dma s2) hsrc hdst hsem) k') Q) := by
  subst hn hs1 hs2 ho ho'
  have hk : ¬ (30 + h.val < 30) := by omega
  have e1 : (dk h).val - 29 = h.val + 1 := by show 30 + h.val - 29 = _; omega
  have e0 : (dk h).val - 30 = h.val := by show 30 + h.val - 30 = _; omega
  have hLP : ∀ d, LP (F := F) d (dk h) = iprop(∃ f, dP d (Pl (h.val + 1)) f) := fun d => by
    unfold LP; rw [if_neg hk, e1]
  have hSP : SP m c (dk h) = dP c (Pl h.val) (dsF m c) := by
    unfold SP; rw [if_neg hk, e0]
  have hRP : ∀ d, RP m d (dk h) = dP d (Pl (h.val + 1)) (dsF m d) := fun d => by
    unfold RP; rw [if_neg hk, e1]
  have htg : tgt (dk h) c = rt c := tgt_cls0 (cls_ring h) c
  have hN : (plM ![h.val + 1, 0, 0] inb').view.dmaCredit = cN (dk h) := by
    have hk' : ¬ (30 + h.val < 18) := by omega
    unfold cN; rw [if_neg hk', if_neg hk]
  unfold Tx
  rw [hd, bigSepL_cons', bigSepL_cons', osum_cons]
  unfold SK
  rw [hLP, hSP]
  iintro ⟨#Hr, ⟨⟨%W, HO⟩, ⟨⟨Ht1, Ht2, Hat, ⟨%fd, Hd⟩⟩, HS⟩, Hl, Hz⟩, Hsrc⟩ Hk
  ihave #H1 := (Recs_at m K (c, some (false, (dk h)))) $$ Hr
  ihave #H2 := (Recs_at m K (tgt (dk h) c, some (true, (dk h)))) $$ Hr
  icases H1 with ⟨-, #HI1, #Hre1⟩
  icases H2 with ⟨-, #HI2, #Hre2⟩
  unfold dP
  iapply (Rounds.wp_send_pointsTo 𝒱₀ ER (Rd m) (c : Thread nD τ) none (c' := (tgt (dk h) c : Thread nD τ)) (sS := .dma (sS (dk h))) (sem := .dma (rS (dk h))) (κ₁ := K (c, some (false, (dk h)))) (κ₂ := K (tgt (dk h) c, some (true, (dk h))))
    (src := plM ![h.val, 0, 0] inb) (dst := plM ![h.val + 1, 0, 0] inb')
    (r₁ := 0) (r₂ := 0) (d₁ := 0) (d₂ := 0) (fd := fd) (fs := dsF m c) (q := fullShare)
    (by rw [duties_s]; exact Finset.mem_singleton_self _) (by rw [duties_r]; exact Finset.mem_singleton_self _)
    () () (cN (dk h)) hN (amount_s m _ c 0) (amount_r m _ (tgt _ c) 0) (osum c (sord.drop (nc + 1))) rfl (W := W)
    (by
      rw [payload_s, hSP]; unfold dP
      rw [plM_set])
    (by
      rw [payload_r, hRP]; unfold dP
      rw [plM_set]
      refine Entails.of_eq (pointsTo_congr fun i hi => ?_)
      rw [write_plane m h c inb inb' fd hi, htg])) $$ [HO Ht1 Ht2 Hd Hsrc]
  · isplitr; · iexact HI1
    isplitr; · iexact HI2
    isplitl [Hsrc]; · rw [plM_set]; iexact Hsrc
    isplitl [Hd]; · rw [plM_set]; iexact Hd
    isplitl [HO]; · iexact HO
    isplitl [Ht1]; · iexact Ht1
    isplitr; · iexact Hre1
    isplitl [Ht2]; · iexact Ht2
    iexact Hre2
  iintro ⟨Hc, HO⟩
  iapply Hk
  isplitl [HO]; · iexists W; iexact HO
  isplitl [HS]; · iexact HS
  isplitr [Hz]
  · unfold FK
    isplitr [Hl]
    · isplitl [Hat]; · iexact Hat
      iexact Hc
    iexact Hl
  iexact Hz

/-- Waiting for the arrival of copy `k`: its landing region, landed. -/
theorem wp_wait_r {α : Type} {Q : α → sProp 𝕄} {k' : PUnit → Prog (TpuEff nD τ sig (Elt F) Λ₀ .tc) α}
    (c : Dev nD) (k : Fin 33) (nc nr : ℕ) (l z : List (Fin 33))
    (hd : rord.drop nr = k :: rord.drop (nr + 1)) (ht : (rord.take (nr + 1)).reverse = k :: (rord.take nr).reverse)
    (hlev : ∀ j ∈ sord.drop nc, rlev k < rlev j)
    {s1 : DmaSem sig} (hs1 : s1 = rS k) {sp sp' : Space} {s s' : Shape} {e e' : EltTy}
    {src : Memref sig .tc sp' s' e'} {dst : Memref sig .tc sp s e} (hN : dst.view.dmaCredit = cN k)
    {hsrc : src.view.WordExact} {hdst : dst.view.WordExact} :
    iprop(Recs m K ∗ Tx c nc l z ∗ Rx c nr)
      ⊢ iprop(((Tx c nc l z ∗ Rx c (nr + 1) ∗ RP m c k) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s1 src dst hsrc hdst) k') Q) := by
  subst hs1
  unfold Tx Rx
  rw [hd, ht, bigSepL_cons', bigSepL_cons']
  unfold RK
  iintro ⟨#Hr, ⟨⟨%W, HO⟩, HS⟩, ⟨⟨⟨Hat, Hc⟩, HR⟩, HZ⟩⟩ Hk
  ihave #H1 := (Recs_at m K (c, some (true, k))) $$ Hr
  icases H1 with ⟨#Hlev, #HI, -⟩
  iapply (Rounds.wp_wait_rest_token 𝒱₀ ER (Rd m) (c : Thread nD τ) none (κ := K (c, some (true, k)))
      (wpE_waitDma2_eq 𝒱₀ (c : Thread nD τ) none Set.univ) (Set.mem_univ _) () (O := osum c (sord.drop nc)) (W := W) (R := 0) (m := 0) (T := ∅)
      (by rw [Nat.zero_add]; exact hN.trans (expect_r m k c).symm)) $$ [Hc HO Hat]
  · isplitr; · iexact HI
    isplitl [Hc]; · rw [hN]; iexact Hc
    isplitl [HO]; · iexact HO
    isplitr
    · iapply (mayWait_osum c (.dma (rS k)) (sord.drop nc) (fun j hj => by rw [lv_r]; exact hlev j hj)); iexact Hlev
    iexact Hat
  iintro ⟨HO, Hat, -, Hpay⟩
  imod (Rounds.cell_close ER (Rd m) (Set.mem_univ (K (c, some (true, k)))) (fun h => h) (R := 0 + 1) (duties_later m (rC k c))) $$ [Hat] with Hz
  · isplitr; · iexact HI
    iexact Hat
  ihave Hp := (Entails.of_eq (rest_r m k c)) $$ Hpay
  iapply Hk
  isplitl [HO HS]
  · isplitl [HO]; · iexists _; iexact HO
    iexact HS
  isplitr [Hp]
  · isplitl [HR]; · iexact HR
    isplitl [Hz]; · iexact Hz
    iexact HZ
  iexact Hp

/-- Waiting for the end of a started copy: its source region back. -/
theorem wp_wait_s {α : Type} {Q : α → sProp 𝕄} {k' : PUnit → Prog (TpuEff nD τ sig (Elt F) Λ₀ .tc) α}
    (c : Dev nD) (k : Fin 33) (nc : ℕ) (l z : List (Fin 33))
    {s1 : DmaSem sig} (hs1 : s1 = sS k) {sp sp' : Space} {s s' : Shape} {e e' : EltTy}
    {src : Memref sig .tc sp' s' e'} {dst : Memref sig .tc sp s e} (hN : dst.view.dmaCredit = cN k)
    {hsrc : src.view.WordExact} {hdst : dst.view.WordExact} :
    iprop(Recs m K ∗ Tx c nc (k :: l) z)
      ⊢ iprop(((Tx c nc l (k :: z) ∗ SP m c k) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s1 src dst hsrc hdst) k') Q) := by
  subst hs1
  unfold Tx
  rw [bigSepL_cons', bigSepL_cons']
  unfold FK
  iintro ⟨#Hr, ⟨%W, HO⟩, HS, ⟨⟨Hat, Hc⟩, Hl⟩, HZ⟩ Hk
  ihave #H1 := (Recs_at m K (c, some (false, k))) $$ Hr
  icases H1 with ⟨#Hlev, #HI, -⟩
  iapply (Rounds.wp_wait_rest_token 𝒱₀ ER (Rd m) (c : Thread nD τ) none (κ := K (c, some (false, k)))
      (wpE_waitDma2_eq 𝒱₀ (c : Thread nD τ) none Set.univ) (Set.mem_univ _) () (O := osum c (sord.drop nc)) (W := W) (R := 0) (m := 0) (T := ∅)
      (by rw [Nat.zero_add]; exact hN.trans (expect_s m k c).symm)) $$ [Hc HO Hat]
  · isplitr; · iexact HI
    isplitl [Hc]; · rw [hN]; iexact Hc
    isplitl [HO]; · iexact HO
    isplitr
    · iapply (mayWait_osum c (.dma (sS k)) (sord.drop nc) (fun j hj => by
        rw [lv_s]; exact (by decide : ∀ j, 0 < rlev j) j)); iexact Hlev
    iexact Hat
  iintro ⟨HO, Hat, -, Hpay⟩
  imod (Rounds.cell_close ER (Rd m) (Set.mem_univ (K (c, some (false, k)))) (fun h => h) (R := 0 + 1) (duties_later m (sC k c))) $$ [Hat] with Hz
  · isplitr; · iexact HI
    iexact Hat
  ihave Hp := (Entails.of_eq (rest_s m k c)) $$ Hpay
  iapply Hk
  isplitr [Hp]
  · isplitl [HO]; · iexists _; iexact HO
    isplitl [HS]; · iexact HS
    isplitl [Hl]; · iexact Hl
    isplitl [Hz]; · iexact Hz
    iexact HZ
  iexact Hp

end

end Cert.KernelIdeal.Pf
-- ==== Proof.Mem.lean ====
module

public import proofs.«01_k».proof.Proof.Steps

@[expose] public section

/-!
# Pieces of the gathered array and of the result

The gathered array as 26 pieces (two own halves, and 24 received pieces): how a received piece splits
into what is kept for reading and what is sent on, and how the pieces join again.
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Rectangles -/

theorem R_sub {off off' : Fin 2 → ℕ} {h h' w w' : ℕ} (h0 : off' 0 ≤ off 0) (h1 : off 0 + h ≤ off' 0 + h')
    (h2 : off' 1 ≤ off 1) (h3 : off 1 + w ≤ off' 1 + w') : R off h w ⊆ R off' h' w' := fun i hi => by
  obtain ⟨⟨a, b⟩, d, e⟩ := mem_R.mp hi
  exact mem_R.mpr ⟨⟨by omega, by omega⟩, by omega, by omega⟩

/-- A piece's rectangle. -/
def PR (p : Fin 26) (c : Dev nD) : Finset S256x16384.Idx := R (pOff p c) (pH p) 2048
/-- A copy's source and landing rectangles. -/
def SR (k : Fin 33) (c : Dev nD) : Finset S256x16384.Idx := R (sOff k c) 64 (cW k)
def LR (k : Fin 33) (c : Dev nD) : Finset S256x16384.Idx := R (rOff k c) 64 (cW k)

theorem own_num : ∀ (s : Fin 2) (c : Dev nD),
    sOff ⟨s.val, by omega⟩ c 0 + 64 ≤ pOff ⟨s.val, by omega⟩ c 0 + 256 ∧ pOff ⟨s.val, by omega⟩ c 0 ≤ sOff ⟨s.val, by omega⟩ c 0
      ∧ pOff ⟨s.val, by omega⟩ c 1 = sOff ⟨s.val, by omega⟩ c 1 := by decide +kernel
theorem y_num : ∀ (j : Fin 6) (c : Dev nD),
    sOff ⟨6 + j.val, by omega⟩ c = pOff ⟨2 + j.val, by omega⟩ c ∧ sOff ⟨12 + j.val, by omega⟩ c = pOff ⟨2 + j.val, by omega⟩ c := by
  decide +kernel
theorem yy_num : ∀ (j : Fin 4) (c : Dev nD), sOff ⟨2 + j.val, by omega⟩ c = pOff ⟨2 + j.val, by omega⟩ c := by decide +kernel
theorem zf_num : ∀ (j : Fin 6) (c : Dev nD),
    sOff ⟨24 + j.val, by omega⟩ c 0 = pOff ⟨8 + j.val, by omega⟩ c 0 ∧ pOff ⟨8 + j.val, by omega⟩ c 1 ≤ sOff ⟨24 + j.val, by omega⟩ c 1
      ∧ sOff ⟨24 + j.val, by omega⟩ c 1 + 1024 ≤ pOff ⟨8 + j.val, by omega⟩ c 1 + 2048 := by decide +kernel
theorem xf_num : ∀ (j : Fin 6) (c : Dev nD),
    sOff ⟨18 + j.val, by omega⟩ c 0 = pOff ⟨14 + j.val, by omega⟩ c 0 ∧ pOff ⟨14 + j.val, by omega⟩ c 1 ≤ sOff ⟨18 + j.val, by omega⟩ c 1
      ∧ sOff ⟨18 + j.val, by omega⟩ c 1 + 1024 ≤ pOff ⟨14 + j.val, by omega⟩ c 1 + 2048 := by decide +kernel
theorem rd_num : ∀ (j : Fin 6) (c : Dev nD),
    rOff ⟨18 + j.val, by omega⟩ c 0 = pOff ⟨20 + j.val, by omega⟩ c 0 ∧ rOff ⟨24 + j.val, by omega⟩ c 0 = pOff ⟨20 + j.val, by omega⟩ c 0
      ∧ ((rOff ⟨18 + j.val, by omega⟩ c 1 = pOff ⟨20 + j.val, by omega⟩ c 1 ∧ rOff ⟨24 + j.val, by omega⟩ c 1 = pOff ⟨20 + j.val, by omega⟩ c 1 + 1024)
        ∨ (rOff ⟨24 + j.val, by omega⟩ c 1 = pOff ⟨20 + j.val, by omega⟩ c 1 ∧ rOff ⟨18 + j.val, by omega⟩ c 1 = pOff ⟨20 + j.val, by omega⟩ c 1 + 1024)) := by
  decide +kernel

theorem pH_lt {p : Fin 26} (h : p.val < 2) : pH p = 256 := if_pos h
theorem pH_ge {p : Fin 26} (h : ¬ p.val < 2) : pH p = 64 := if_neg h
theorem cW_lt {k : Fin 33} (h : k.val < 18) : cW k = 2048 := if_pos h
theorem cW_ge {k : Fin 33} (h : ¬ k.val < 18) : cW k = 1024 := if_neg h

theorem SR_own (s : Fin 2) (c : Dev nD) : SR ⟨s.val, by omega⟩ c ⊆ PR ⟨s.val, by omega⟩ c := by
  have h := s.isLt
  obtain ⟨h1, h2, h3⟩ := own_num s c
  unfold SR PR; rw [pH_lt h, cW_lt (by show s.val < 18; omega)]
  exact R_sub h2 h1 h3.le (by rw [h3])
theorem SR_xd (j : Fin 6) (c : Dev nD) : SR ⟨6 + j.val, by omega⟩ c = PR ⟨2 + j.val, by omega⟩ c := by
  have h := j.isLt
  unfold SR PR; rw [(y_num j c).1, pH_ge (by show ¬ 2 + j.val < 2; omega), cW_lt (by show 6 + j.val < 18; omega)]
theorem SR_zd (j : Fin 6) (c : Dev nD) : SR ⟨12 + j.val, by omega⟩ c = PR ⟨2 + j.val, by omega⟩ c := by
  have h := j.isLt
  unfold SR PR; rw [(y_num j c).2, pH_ge (by show ¬ 2 + j.val < 2; omega), cW_lt (by show 12 + j.val < 18; omega)]
theorem SR_y (j : Fin 4) (c : Dev nD) : SR ⟨2 + j.val, by omega⟩ c = PR ⟨2 + j.val, by omega⟩ c := by
  have h := j.isLt
  unfold SR PR; rw [yy_num j c, pH_ge (by show ¬ 2 + j.val < 2; omega), cW_lt (by show 2 + j.val < 18; omega)]
theorem SR_zf (j : Fin 6) (c : Dev nD) : SR ⟨24 + j.val, by omega⟩ c ⊆ PR ⟨8 + j.val, by omega⟩ c := by
  have h := j.isLt
  obtain ⟨h1, h2, h3⟩ := zf_num j c
  unfold SR PR; rw [pH_ge (by show ¬ 8 + j.val < 2; omega), cW_ge (by show ¬ 24 + j.val < 18; omega)]
  exact R_sub h1.ge (by rw [h1]) h2 h3
theorem SR_xf (j : Fin 6) (c : Dev nD) : SR ⟨18 + j.val, by omega⟩ c ⊆ PR ⟨14 + j.val, by omega⟩ c := by
  have h := j.isLt
  obtain ⟨h1, h2, h3⟩ := xf_num j c
  unfold SR PR; rw [pH_ge (by show ¬ 14 + j.val < 2; omega), cW_ge (by show ¬ 18 + j.val < 18; omega)]
  exact R_sub h1.ge (by rw [h1]) h2 h3
theorem LR_lt (k : Fin 18) (c : Dev nD) : LR ⟨k.val, by omega⟩ c = PR ⟨2 + k.val, by omega⟩ c := by
  have h := k.isLt
  unfold LR PR; rw [rOff_piece, pH_ge (by show ¬ 2 + k.val < 2; omega), cW_lt h]
theorem LR_rd (j : Fin 6) (c : Dev nD) :
    PR ⟨20 + j.val, by omega⟩ c = LR ⟨18 + j.val, by omega⟩ c ∪ LR ⟨24 + j.val, by omega⟩ c
      ∧ Disjoint (LR ⟨18 + j.val, by omega⟩ c) (LR ⟨24 + j.val, by omega⟩ c) := by
  have h := j.isLt
  obtain ⟨h1, h2, h3⟩ := rd_num j c
  unfold LR PR; rw [pH_ge (by show ¬ 20 + j.val < 2; omega), cW_ge (by show ¬ 18 + j.val < 18; omega), cW_ge (by show ¬ 24 + j.val < 18; omega)]
  constructor
  · ext i
    rw [Finset.mem_union, mem_R, mem_R, mem_R]
    omega
  · rw [Finset.disjoint_left]
    intro i hi hj
    rw [mem_R] at hi hj
    omega

/-! ## Pieces -/

theorem SP_lt {c : Dev nD} {k : Fin 33} (hk : k.val < 30) : SP m c k = cP c (SR k c) (shr k) (commF m c) := if_pos hk
theorem RP_lt {c : Dev nD} {k : Fin 33} (hk : k.val < 30) : RP m c k = cP c (LR k c) fullShare (commF m c) := if_pos hk
theorem LP_lt {c : Dev nD} {k : Fin 33} (hk : k.val < 30) : LP (F := F) c k = iprop(∃ f, cP c (LR k c) fullShare f) := if_pos hk

/-- A piece on device `c` at a share, holding what it finally holds. -/
abbrev pc (c : Dev nD) (p : Fin 26) (q : PosShare TreeShare) : sProp 𝕄 := cP c (PR p c) q (commF m c)

/-- A copy's number. -/
abbrev fk (n : ℕ) : Fin 33 := ⟨n % 33, Nat.mod_lt _ (by decide)⟩

theorem fk_of {n : ℕ} (h : n < 33) : fk n = ⟨n, h⟩ := Fin.ext (Nat.mod_eq_of_lt h)

/-- What of piece `p` no copy takes. -/
def rem (c : Dev nD) (p : Fin 26) : sProp 𝕄 :=
  if p.val < 2 then cP c (PR p c \ SR (fk p.val) c) fullShare.right (commF m c)
  else if p.val < 6 then iprop(emp)
  else if p.val < 8 then pc m c p fullShare.right.right.left
  else if p.val < 14 then cP c (PR p c \ SR (fk (p.val + 16)) c) fullShare.right (commF m c)
  else if p.val < 20 then cP c (PR p c \ SR (fk (p.val + 4)) c) fullShare.right (commF m c)
  else pc m c p fullShare.right
/-- What device `c` keeps of piece `p`: the left half of its share, and the remainder. -/
def Kp (c : Dev nD) (p : Fin 26) : sProp 𝕄 := iprop(pc m c p fullShare.left ∗ rem m c p)

/-- The copies whose sources piece `p` lends. -/
def needs (p : Fin 26) : List (Fin 33) :=
  if p.val < 2 then [fk p.val]
  else if p.val < 6 then [fk p.val, fk (p.val + 4), fk (p.val + 10)]
  else if p.val < 8 then [fk (p.val + 4), fk (p.val + 10)]
  else if p.val < 14 then [fk (p.val + 16)]
  else if p.val < 20 then [fk (p.val + 4)]
  else []

theorem cP_share (c : Dev nD) (I q) (f : S256x16384.Idx → F .bf16) :
    cP c I q f ⊣⊢ iprop(cP c I q.left f ∗ cP c I q.right f) := by
  unfold cP; exact pointsTo_share (PosShare.mem_left_op_right q)

theorem cP_diff (c : Dev nD) {I J} (h : J ⊆ I) (q) (f : S256x16384.Idx → F .bf16) :
    cP c I q f ⊣⊢ iprop(cP c J q f ∗ cP c (I \ J) q f) := by
  unfold cP; exact pointsTo_split_subset h

theorem shr_own {k : Fin 33} (h : k.val < 2) : shr k = fullShare.right := if_pos h
theorem shr_y {k : Fin 33} (h : ¬ k.val < 2) (h' : k.val < 6) : shr k = fullShare.right.right.left := by
  unfold shr; rw [if_neg h, if_pos h']
theorem shr_xd {k : Fin 33} (h : ¬ k.val < 6) (h' : k.val < 12) : shr k = fullShare.right.left := by
  unfold shr; rw [if_neg (by omega), if_neg h, if_pos h']
theorem shr_zd {k : Fin 33} (h : ¬ k.val < 12) (h' : k.val < 18) : shr k = fullShare.right.right.right := by
  unfold shr; rw [if_neg (by omega), if_neg (by omega), if_neg h, if_pos h']
theorem shr_fw {k : Fin 33} (h : ¬ k.val < 18) : shr k = fullShare.right := by
  unfold shr; rw [if_neg (by omega), if_neg (by omega), if_neg (by omega), if_neg h]

/-- One lender: the left half, the lent part of the right half, the rest of it. -/
theorem split_one (c : Dev nD) (p : Fin 26) (k : Fin 33) (hk : k.val < 30) (hsh : shr k = fullShare.right) (hs : SR k c ⊆ PR p c)
    (hr : rem m c p = cP c (PR p c \ SR k c) fullShare.right (commF m c)) (hn : needs p = [k]) :
    pc m c p fullShare ⊣⊢ iprop(Kp m c p ∗ bigSepL (needs p) (SP m c)) := by
  rw [hn, bigSepL_singleton, SP_lt m hk, hsh]
  unfold Kp; rw [hr]
  constructor
  · iintro H
    ihave H := (cP_share c _ _ _).1 $$ H
    icases H with ⟨Hl, Hr⟩
    ihave Hr := (cP_diff c hs _ _).1 $$ Hr
    icases Hr with ⟨H1, H2⟩
    isplitr [H1]
    · isplitl [Hl]; · iexact Hl
      iexact H2
    iexact H1
  · iintro ⟨⟨Hl, H2⟩, H1⟩
    iapply (cP_share c _ _ _).2
    isplitl [Hl]; · iexact Hl
    iapply (cP_diff c hs _ _).2
    isplitl [H1]; · iexact H1
    iexact H2

theorem bigSepL_two {ι : Type} (a b : ι) (P : ι → sProp 𝕄) : bigSepL [a, b] P = iprop(P a ∗ P b) := rfl
theorem bigSepL_three {ι : Type} (a b d : ι) (P : ι → sProp 𝕄) : bigSepL [a, b, d] P = iprop(P a ∗ P b ∗ P d) := rfl

theorem needs_y (j : Fin 4) : needs ⟨2 + j.val, by omega⟩ = [⟨2 + j.val, by omega⟩, ⟨6 + j.val, by omega⟩, ⟨12 + j.val, by omega⟩] := by
  revert j; decide
theorem needs_y2 (j : Fin 2) : needs ⟨6 + j.val, by omega⟩ = [⟨10 + j.val, by omega⟩, ⟨16 + j.val, by omega⟩] := by
  revert j; decide
theorem needs_xd (j : Fin 6) : needs ⟨8 + j.val, by omega⟩ = [⟨24 + j.val, by omega⟩] := by revert j; decide
theorem needs_zd (j : Fin 6) : needs ⟨14 + j.val, by omega⟩ = [⟨18 + j.val, by omega⟩] := by revert j; decide
theorem needs_own (s : Fin 2) : needs ⟨s.val, by omega⟩ = [⟨s.val, by omega⟩] := by revert s; decide

theorem split_y (c : Dev nD) (j : Fin 4) :
    pc m c ⟨2 + j.val, by omega⟩ fullShare ⊣⊢ iprop(Kp m c ⟨2 + j.val, by omega⟩ ∗ bigSepL (needs ⟨2 + j.val, by omega⟩) (SP m c)) := by
  have h := j.isLt
  rw [needs_y, bigSepL_three,
    SP_lt m (k := ⟨6 + j.val, by omega⟩) (by show 6 + j.val < 30; omega), SP_lt m (k := ⟨12 + j.val, by omega⟩) (by show 12 + j.val < 30; omega),
    SP_lt m (k := ⟨2 + j.val, by omega⟩) (by show 2 + j.val < 30; omega),
    shr_xd (k := ⟨6 + j.val, by omega⟩) (by show ¬ 6 + j.val < 6; omega) (by show 6 + j.val < 12; omega),
    shr_zd (k := ⟨12 + j.val, by omega⟩) (by show ¬ 12 + j.val < 12; omega) (by show 12 + j.val < 18; omega),
    shr_y (k := ⟨2 + j.val, by omega⟩) (by show ¬ 2 + j.val < 2; omega) (by show 2 + j.val < 6; omega),
    SR_xd ⟨j.val, by omega⟩ c, SR_zd ⟨j.val, by omega⟩ c, SR_y j c]
  have hr : rem m c ⟨2 + j.val, by omega⟩ = iprop(emp) := by
    unfold rem; rw [if_neg (by show ¬ 2 + j.val < 2; omega), if_pos (by show 2 + j.val < 6; omega)]
  unfold Kp; rw [hr]
  constructor
  · iintro H
    ihave H := (cP_share c _ _ _).1 $$ H
    icases H with ⟨Hl, Hr⟩
    ihave Hr := (cP_share c _ _ _).1 $$ Hr
    icases Hr with ⟨H1, H2⟩
    ihave H2 := (cP_share c _ _ _).1 $$ H2
    icases H2 with ⟨H2, H3⟩
    isplitl [Hl]
    · isplitl [Hl]; · iexact Hl
      iempintro
    isplitl [H2]; · iexact H2
    isplitl [H1]; · iexact H1
    iexact H3
  · iintro ⟨⟨Hl, -⟩, H2, H1, H3⟩
    iapply (cP_share c _ _ _).2
    isplitl [Hl]; · iexact Hl
    iapply (cP_share c _ _ _).2
    isplitl [H1]; · iexact H1
    iapply (cP_share c _ _ _).2
    isplitl [H2]; · iexact H2
    iexact H3

theorem split_y2 (c : Dev nD) (j : Fin 2) :
    pc m c ⟨6 + j.val, by omega⟩ fullShare ⊣⊢ iprop(Kp m c ⟨6 + j.val, by omega⟩ ∗ bigSepL (needs ⟨6 + j.val, by omega⟩) (SP m c)) := by
  have h := j.isLt
  have e1 : SR ⟨10 + j.val, by omega⟩ c = PR ⟨6 + j.val, by omega⟩ c := by
    have := SR_xd ⟨4 + j.val, by omega⟩ c
    simp only [show 6 + (4 + j.val) = 10 + j.val by omega, show 2 + (4 + j.val) = 6 + j.val by omega] at this
    exact this
  have e2 : SR ⟨16 + j.val, by omega⟩ c = PR ⟨6 + j.val, by omega⟩ c := by
    have := SR_zd ⟨4 + j.val, by omega⟩ c
    simp only [show 12 + (4 + j.val) = 16 + j.val by omega, show 2 + (4 + j.val) = 6 + j.val by omega] at this
    exact this
  rw [needs_y2, bigSepL_two,
    SP_lt m (k := ⟨10 + j.val, by omega⟩) (by show 10 + j.val < 30; omega), SP_lt m (k := ⟨16 + j.val, by omega⟩) (by show 16 + j.val < 30; omega),
    shr_xd (k := ⟨10 + j.val, by omega⟩) (by show ¬ 10 + j.val < 6; omega) (by show 10 + j.val < 12; omega),
    shr_zd (k := ⟨16 + j.val, by omega⟩) (by show ¬ 16 + j.val < 12; omega) (by show 16 + j.val < 18; omega), e1, e2]
  have hr : rem m c ⟨6 + j.val, by omega⟩ = pc m c ⟨6 + j.val, by omega⟩ fullShare.right.right.left := by
    unfold rem; rw [if_neg (by show ¬ 6 + j.val < 2; omega), if_neg (by show ¬ 6 + j.val < 6; omega), if_pos (by show 6 + j.val < 8; omega)]
  unfold Kp; rw [hr]
  constructor
  · iintro H
    ihave H := (cP_share c _ _ _).1 $$ H
    icases H with ⟨Hl, Hr⟩
    ihave Hr := (cP_share c _ _ _).1 $$ Hr
    icases Hr with ⟨H1, H2⟩
    ihave H2 := (cP_share c _ _ _).1 $$ H2
    icases H2 with ⟨H2, H3⟩
    isplitl [Hl H2]
    · isplitl [Hl]; · iexact Hl
      iexact H2
    isplitl [H1]; · iexact H1
    iexact H3
  · iintro ⟨⟨Hl, H2⟩, H1, H3⟩
    iapply (cP_share c _ _ _).2
    isplitl [Hl]; · iexact Hl
    iapply (cP_share c _ _ _).2
    isplitl [H1]; · iexact H1
    iapply (cP_share c _ _ _).2
    isplitl [H2]; · iexact H2
    iexact H3

/-- A piece held in full is what the device keeps of it and the sources it lends. -/
theorem pc_split (c : Dev nD) (p : Fin 26) : pc m c p fullShare ⊣⊢ iprop(Kp m c p ∗ bigSepL (needs p) (SP m c)) := by
  obtain ⟨n, hn⟩ := p
  by_cases h2 : n < 2
  · refine split_one m c ⟨n, hn⟩ ⟨n, by omega⟩ (by show n < 30; omega) (shr_own h2) (SR_own ⟨n, h2⟩ c) ?_ (needs_own ⟨n, h2⟩)
    unfold rem; rw [if_pos h2, fk_of (by omega)]
  by_cases h6 : n < 6
  · obtain ⟨j, rfl⟩ : ∃ j, n = 2 + j := ⟨n - 2, by omega⟩
    exact split_y m c ⟨j, by omega⟩
  by_cases h8 : n < 8
  · obtain ⟨j, rfl⟩ : ∃ j, n = 6 + j := ⟨n - 6, by omega⟩
    exact split_y2 m c ⟨j, by omega⟩
  by_cases h14 : n < 14
  · obtain ⟨j, rfl⟩ : ∃ j, n = 8 + j := ⟨n - 8, by omega⟩
    refine split_one m c _ ⟨24 + j, by omega⟩ (by show 24 + j < 30; omega) (shr_fw (by show ¬ 24 + j < 18; omega)) (SR_zf ⟨j, by omega⟩ c) ?_ (needs_xd ⟨j, by omega⟩)
    unfold rem
    rw [if_neg h2, if_neg h6, if_neg h8, if_pos h14, show fk (8 + j + 16) = ⟨24 + j, by omega⟩ from by rw [fk_of (by omega)]; exact Fin.ext (by show 8 + j + 16 = 24 + j; omega)]
  by_cases h20 : n < 20
  · obtain ⟨j, rfl⟩ : ∃ j, n = 14 + j := ⟨n - 14, by omega⟩
    refine split_one m c _ ⟨18 + j, by omega⟩ (by show 18 + j < 30; omega) (shr_fw (by show ¬ 18 + j < 18; omega)) (SR_xf ⟨j, by omega⟩ c) ?_ (needs_zd ⟨j, by omega⟩)
    unfold rem
    rw [if_neg h2, if_neg h6, if_neg h8, if_neg h14, if_pos h20, show fk (14 + j + 4) = ⟨18 + j, by omega⟩ from by rw [fk_of (by omega)]; exact Fin.ext (by show 14 + j + 4 = 18 + j; omega)]
  · have hnd : needs ⟨n, hn⟩ = [] := by
      unfold needs; rw [if_neg h2, if_neg h6, if_neg h8, if_neg h14, if_neg h20]
    have hr : rem m c ⟨n, hn⟩ = pc m c ⟨n, hn⟩ fullShare.right := by
      unfold rem; rw [if_neg h2, if_neg h6, if_neg h8, if_neg h14, if_neg h20]
    rw [hnd, bigSepL_nil]
    unfold Kp; rw [hr]
    constructor
    · iintro H
      ihave H := (cP_share c _ _ _).1 $$ H
      isplitl [H]; · iexact H
      iempintro
    · iintro ⟨H, -⟩
      iapply (cP_share c _ _ _).2
      iexact H

/-- A landed region of the ring or of a direct copy is its piece. -/
theorem RP_pc (c : Dev nD) (k : Fin 18) : RP m c ⟨k.val, by omega⟩ = pc m c ⟨2 + k.val, by omega⟩ fullShare := by
  rw [RP_lt m (by show k.val < 30; omega), LR_lt]

/-- The two landed halves are their piece. -/
theorem RP_rd (c : Dev nD) (j : Fin 6) :
    iprop(RP m c ⟨18 + j.val, by omega⟩ ∗ RP m c ⟨24 + j.val, by omega⟩) ⊢ Kp m c ⟨20 + j.val, by omega⟩ := by
  have h := j.isLt
  obtain ⟨e, hd⟩ := LR_rd j c
  rw [RP_lt m (by show 18 + j.val < 30; omega), RP_lt m (by show 24 + j.val < 30; omega)]
  have h1 : iprop(cP c (LR ⟨18 + j.val, by omega⟩ c) fullShare (commF m c) ∗ cP c (LR ⟨24 + j.val, by omega⟩ c) fullShare (commF m c))
      ⊢ pc m c ⟨20 + j.val, by omega⟩ fullShare := by
    unfold pc; rw [e]; unfold cP; exact (pointsTo_union hd).2
  refine h1.trans ((pc_split m c _).1.trans ?_)
  iintro ⟨H, -⟩
  iexact H

/-! ## All the pieces -/

theorem mem_PR {c : Dev nD} {p : Fin 26} {i : S256x16384.Idx} :
    i ∈ PR p c ↔ pieceOf c ⟨(i 0).val / 64, by have : (i 0).val < 256 := (i 0).isLt; omega⟩
      ⟨(i 1).val / 2048, by have : (i 1).val < 16384 := (i 1).isLt; omega⟩ = p := by
  have h0 : (i 0).val < 256 := (i 0).isLt
  have h1 : (i 1).val < 16384 := (i 1).isLt
  unfold PR
  rw [mem_R, pieceOf_iff]
  show ((64 * pBand p c ≤ _ ∧ _ < 64 * pBand p c + pH p) ∧ 2048 * pCol p c ≤ _ ∧ _ < 2048 * pCol p c + 2048) ↔ _
  by_cases hp : p.val < 2
  · have hb : pBand p c = 0 := if_pos hp
    rw [pH_lt hp, hb]
    constructor
    · rintro ⟨-, h⟩; exact ⟨Or.inl hp, by show (i 1).val / 2048 = _; omega⟩
    · rintro ⟨-, h⟩
      have h' : (i 1).val / 2048 = pCol p c := h
      omega
  · rw [pH_ge hp]
    constructor
    · rintro ⟨h, h'⟩; exact ⟨Or.inr (by show (i 0).val / 64 = _; omega), by show (i 1).val / 2048 = _; omega⟩
    · rintro ⟨h | h, h'⟩
      · exact absurd h hp
      have g : (i 0).val / 64 = pBand p c := h
      have g' : (i 1).val / 2048 = pCol p c := h'
      omega

theorem PR_disj (c : Dev nD) : ∀ p ∈ (Finset.univ : Finset (Fin 26)), ∀ p' ∈ (Finset.univ : Finset (Fin 26)), p ≠ p' → Disjoint (PR p c) (PR p' c) := by
  intro p _ p' _ h
  rw [Finset.disjoint_left]
  intro i hi hi'
  exact h ((mem_PR.mp hi).symm.trans (mem_PR.mp hi'))

theorem PR_cover (c : Dev nD) : (Finset.univ : Finset (Fin 26)).biUnion (fun p => PR p c) = Finset.univ := by
  ext i
  simp only [Finset.mem_biUnion, Finset.mem_univ, true_and, iff_true]
  exact ⟨_, mem_PR.mpr rfl⟩

/-- The whole gathered array is its pieces. -/
theorem cP_pieces (c : Dev nD) (q) (f : S256x16384.Idx → F .bf16) :
    cP c Finset.univ q f = bigSep Finset.univ fun p : Fin 26 => cP c (PR p c) q f := by
  rw [← PR_cover c]; unfold cP; exact pointsTo_biUnion _ _ (PR_disj c)

end Cert.KernelIdeal.Pf
-- ==== Proof.Acc.lean ====
module

public import proofs.«01_k».proof.Proof.Mem

@[expose] public section

/-!
# A device's state between two operations

`St` bundles what a device holds between two of the kernel's operations: its records, the copies still
to start, those in flight and those waited for, the arrivals still to come, the pieces it keeps, the
result as far as it is stored, and the sources and halves in hand. One lemma for each kind of operation
moves it.
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-! ## Values -/

/-- The reciprocals of the 64 rows of band `b`. -/
def ivB (c : Dev nD) (b : ℕ) : FVec F S64x1 .f32 := fun x =>
  invV m c (i2 ⟨(64 * b + (x 0).val) % 256, Nat.mod_lt _ (by decide)⟩ 0)

/-- Piece `p` (of 64 rows) as read back. -/
def pcV (c : Dev nD) (p : Fin 26) : Vec F S64x2048 .bf16 := fun x =>
  commF m c (i2 ⟨(64 * pBand p c + (x 0).val) % 256, Nat.mod_lt _ (by decide)⟩ ⟨(2048 * pCol p c + (x 1).val) % 16384, Nat.mod_lt _ (by decide)⟩)

/-- The 64 rows of result piece `p`. -/
def oV (c : Dev nD) (b : ℕ) (p : Fin 26) : FVec F S64x2048 .f32 :=
  mulf (extf .f32 (pcV m c p) bitsLt_bf16_f32) (broadcastTo S64x2048 (ivB m c b) broadcasts_S64x1_S64x2048)

/-- The rows of an own result piece. -/
def oW (c : Dev nD) (s : ℕ) : FVec F S256x2048 .f32 :=
  mulf (extf .f32 (eBf m c s) bitsLt_bf16_f32) (broadcastTo S256x2048 (invV m c) broadcasts_S256x1_S256x2048)

theorem oV_out (c : Dev nD) (b : ℕ) (p : Fin 26) (hp : 2 ≤ p.val) (hb : pBand p c = b)
    (inb : ∀ a, pOff p c a + S64x2048.size a ≤ S256x16384.size a) (x : S64x2048.Idx) :
    oV m c b p x = outF m c ((Rect.unit (s := S256x16384) (pOff p c) S64x2048.size inb).emb x) := by
  have h0 : 64 * pBand p c + 64 ≤ 256 := inb 0
  have h1 : 2048 * pCol p c + 2048 ≤ 16384 := inb 1
  have x0 : (x 0).val < 64 := (x 0).isLt
  have x1 : (x 1).val < 2048 := (x 1).isLt
  subst hb
  show FloatOps.mulf (FloatOps.extf .f32 bitsLt_bf16_f32 (pcV m c p x)) (broadcastTo S64x2048 (ivB m c (pBand p c)) broadcasts_S64x1_S64x2048 x) = _
  unfold outF
  congr 1
  · congr 1
    unfold pcV
    congr 1
    funext a
    match a with
    | 0 => exact Fin.ext (by show (64 * pBand p c + (x 0).val) % 256 = 64 * pBand p c + 1 * (x 0).val; omega)
    | 1 => exact Fin.ext (by show (2048 * pCol p c + (x 1).val) % 16384 = 2048 * pCol p c + 1 * (x 1).val; omega)
  · show invV m c _ = _
    congr 1
    funext a
    match a with
    | 0 => exact Fin.ext (by show (64 * pBand p c + (x 0).val) % 256 = 64 * pBand p c + 1 * (x 0).val; omega)
    | 1 => rfl

theorem oW_out (c : Dev nD) (s : Fin 2)
    (inb : ∀ a, pOff ⟨s.val, by omega⟩ c a + S256x2048.size a ≤ S256x16384.size a) (x : S256x2048.Idx) :
    oW m c s.val x = outF m c ((Rect.unit (s := S256x16384) (pOff ⟨s.val, by omega⟩ c) S256x2048.size inb).emb x) := by
  have hband : pBand ⟨s.val, by omega⟩ c = 0 := if_pos s.isLt
  show FloatOps.mulf (FloatOps.extf .f32 bitsLt_bf16_f32 (eBf m c s.val x)) (broadcastTo S256x2048 (invV m c) broadcasts_S256x1_S256x2048 x) = _
  unfold outF
  rw [commF_own]
  congr 1
  show invV m c _ = _
  congr 1
  funext a
  match a with
  | 0 => exact Fin.ext (by show (x 0).val = 64 * pBand ⟨s.val, _⟩ c + 1 * (x 0).val; rw [hband]; omega)
  | 1 => rfl

/-- A statement about a rectangle's elements at an equal offset. -/
theorem at_off {α : Type} {off off' sz : Fin 2 → ℕ} {inb : ∀ a, off a + sz a ≤ S256x16384.size a} (h : off = off')
    {w : (⟨2, sz⟩ : Shape).Idx → α} {g : S256x16384.Idx → α}
    (H : ∀ (inb : ∀ a, off' a + sz a ≤ S256x16384.size a) x, w x = g ((Rect.unit (s := S256x16384) off' sz inb).emb x)) :
    ∀ x, w x = g ((Rect.unit (s := S256x16384) off sz inb).emb x) := by
  subst h; exact H inb

/-- A separating conjunction over a list does not depend on its order. -/
theorem sepL_perm {ι : Type} {l l' : List ι} (h : l.Perm l') (P : ι → sProp 𝕄) : bigSepL l P ⊢ bigSepL l' P := by
  induction h with
  | nil => exact .rfl
  | cons x _ ih =>
    rw [bigSepL_cons', bigSepL_cons']
    iintro ⟨H, H'⟩
    isplitl [H]; · iexact H
    iapply ih; iexact H'
  | swap x y l =>
    rw [bigSepL_cons', bigSepL_cons', bigSepL_cons', bigSepL_cons']
    iintro ⟨H, H', H''⟩
    isplitl [H']; · iexact H'
    isplitl [H]; · iexact H
    iexact H''
  | trans _ _ ih ih' => exact ih.trans ih'

/-! ## The bundle -/

theorem hX : (xM : Memref sig .tc .vmem S256x512 .f32).IsWhole := Memref.isWhole_whole _
theorem hW : (wM : Memref sig .tc .vmem S512x4096 .f32).IsWhole := Memref.isWhole_whole _
theorem hO : (oM : Memref sig .tc .vmem S256x16384 .f32).IsWhole := Memref.isWhole_whole _
theorem hC : (cM : Memref sig .tc .vmem S256x16384 .bf16).IsWhole := Memref.isWhole_whole _
theorem hD : (dM : Memref sig .tc .vmem S4x256x128 .f32).IsWhole := Memref.isWhole_whole _

/-- The result array as staged, holding `f`. -/
def oP (c : Dev nD) (f : S256x16384.Idx → F .f32) : sProp 𝕄 :=
  ((c : Thread nD τ).loc cc0_stg2_0) ↦{fullShare} (f : Buf (Elt F) ((c : Thread nD τ).loc cc0_stg2_0))

/-- The result with the pieces of a list stored. -/
def OutSt (c : Dev nD) (od : List (Fin 26)) : sProp 𝕄 :=
  iprop(∃ f, ⌜∀ p ∈ od, ∀ i ∈ PR p c, f i = outF m c i⌝ ∗ oP c f)

/-- A device's state: `nc` copies started, `nr` arrivals, `l` in flight, `z` waited for, pieces `kp`
    kept, result pieces `od` stored, sources `pd` and landed halves `ex` in hand. -/
def St (c : Dev nD) (nc nr : ℕ) (l z : List (Fin 33)) (kp od : List (Fin 26)) (pd ex : List (Fin 33)) : sProp 𝕄 :=
  iprop(Recs m K ∗ Tx c nc l z ∗ Rx c nr ∗ bigSepL kp (Kp m c) ∗ OutSt m c od ∗ bigSepL pd (SP m c) ∗ bigSepL ex (RP m c))

/-- The weakest precondition of device `c`'s program. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A landed piece is what is kept of it and the sources it lends. -/
theorem RP_keep (c : Dev nD) (k : Fin 33) (p : Fin 26) (hk : k.val < 18) (hp : p.val = 2 + k.val) :
    RP m c k ⊢ iprop(Kp m c p ∗ bigSepL (needs p) (SP m c)) := by
  obtain ⟨k, h⟩ := k
  obtain ⟨p, h'⟩ := p
  have hp' : p = 2 + k := hp
  subst hp'
  rw [show RP m c ⟨k, h⟩ = pc m c ⟨2 + k, h'⟩ fullShare from RP_pc m c ⟨k, hk⟩]
  exact (pc_split m c _).1

/-- Two landed halves are a kept piece. -/
theorem RP_join (c : Dev nD) (j : Fin 6) (k0 k : Fin 33) (p : Fin 26) (hk0 : k0.val = 18 + j.val) (hk : k.val = 24 + j.val)
    (hp : p.val = 20 + j.val) : iprop(RP m c k0 ∗ RP m c k) ⊢ Kp m c p := by
  obtain ⟨k0, h0⟩ := k0
  obtain ⟨k, h⟩ := k
  obtain ⟨p, h'⟩ := p
  have e0 : k0 = 18 + j.val := hk0
  have e1 : k = 24 + j.val := hk
  have e2 : p = 20 + j.val := hp
  subst e0 e1 e2
  exact RP_rd m c j

/-- A program that has returned. -/
theorem Wp_ret (c : Dev nD) {α : Type} {a : α} {Q : α → sProp 𝕄} : Q a ⊢ Wp (F := F) c (Prog.ret a) Q := by
  show Q a ⊢ wp frame (wpE (defs₀ (F := F)) 𝒱₀ (c : Thread nD τ) none) Set.univ (Prog.ret a) Q
  rw [wp_ret]
  iintro H
  imodintro
  iexact H

/-- Starting copy `k` of a rectangle whose source is in hand. -/
theorem st_send {α : Type} {Q : α → sProp 𝕄} {k' : PUnit → Prog (TpuEff nD τ sig (Elt F) Λ₀ .tc) α}
    (c : Dev nD) (k : Fin 33) (nc nr : ℕ) (l l' z kp od pd pd' ex) {n : Dev nD} (hpd : pd = k :: pd') (hl' : l' = k :: l)
    (hk : k.val < 30) (hd : sord.drop nc = k :: sord.drop (nc + 1)) (hn : n = tgt k c)
    {off sz : Fin 2 → ℕ} {inb : ∀ a, off a + sz a ≤ S256x16384.size a} (hoff : off = sOff k c)
    (hsz : sz 0 = 64 ∧ sz 1 = cW k) (hN : cc0_scratch0.dmaCredit ⟨2, sz⟩ .bf16 = cN k)
    {s1 s2 : DmaSem sig} (hs1 : s1 = sS k) (hs2 : s2 = rS k) {h₁ h₂}
    {hsc : (cM.slice (Rect.unit (s := S256x16384) off sz inb) h₂ : Memref sig (Dev.tc n : Thread nD τ).2.kind .vmem _ .bf16).view.ref.isScScratch = false}
    {hsrc : (cM.slice (Rect.unit (s := S256x16384) off sz inb) h₁).view.WordExact}
    {hdst : (cM.slice (Rect.unit (s := S256x16384) off sz inb) h₂).view.WordExact}
    {hsem : DmaTarget.Typed .vmem (.dma s2) (.remote (Dev.tc n : Thread nD τ) (cM.slice (Rect.unit (s := S256x16384) off sz inb) h₂) (.dma s1) hsc)} :
    St m K c nc nr l z kp od pd ex
      ⊢ iprop((St m K c (nc + 1) nr l' z kp od pd' ex -∗ Wp c (k' ⟨⟩) Q)
          -∗ Wp c (.op (.enqueueDma (cM.slice (Rect.unit (s := S256x16384) off sz inb) h₁)
                (.remote (Dev.tc n : Thread nD τ) (cM.slice (Rect.unit (s := S256x16384) off sz inb) h₂) (.dma s1) hsc) (.dma s2) hsrc hdst hsem) k') Q) := by
  subst hpd hl'
  unfold St
  rw [bigSepL_cons']
  iintro ⟨#HR, HT, HX, HK, HO, ⟨HP, HPs⟩, HE⟩ Hk
  iapply (wp_send_c m K c n k hn hk nc l z hd hoff hsz hN hs1 hs2) $$ [HT HP]
  · isplitr; · iexact HR
    isplitl [HT]; · iexact HT
    iexact HP
  iintro HT
  iapply Hk
  isplitr; · iexact HR
  isplitl [HT]; · iexact HT
  isplitl [HX]; · iexact HX
  isplitl [HK]; · iexact HK
  isplitl [HO]; · iexact HO
  isplitl [HPs]; · iexact HPs
  iexact HE

/-- Waiting for the arrival of copy `k` of the ring or across: the piece is kept, its sources in hand. -/
theorem st_recv {α : Type} {Q : α → sProp 𝕄} {k' : PUnit → Prog (TpuEff nD τ sig (Elt F) Λ₀ .tc) α}
    (c : Dev nD) (k : Fin 33) (p : Fin 26) (nc nr : ℕ) (l z kp kp' od pd' ex) (hk : k.val < 18) (hp : p.val = 2 + k.val)
    (hpd : needs p = pd') (hkp : kp' = p :: kp)
    (hd : rord.drop nr = k :: rord.drop (nr + 1)) (ht : (rord.take (nr + 1)).reverse = k :: (rord.take nr).reverse)
    (hlev : ∀ j ∈ sord.drop nc, rlev k < rlev j) {s1 : DmaSem sig} (hs1 : s1 = rS k)
    {sp sp' : Space} {sh sh' : Shape} {e e' : EltTy} {src : Memref sig .tc sp sh e} {dst : Memref sig .tc sp' sh' e'} {h₁ h₂} (hN : dst.view.dmaCredit = cN k) :
    St m K c nc nr l z kp od [] ex
      ⊢ iprop((St m K c nc (nr + 1) l z kp' od pd' ex -∗ Wp c (k' ⟨⟩) Q)
          -∗ Wp c (.op (.waitDma2 s1 src dst h₁ h₂) k') Q) := by
  subst hpd hkp
  unfold St
  rw [bigSepL_cons', bigSepL_nil]
  iintro ⟨#HR, HT, HX, HK, HO, -, HE⟩ Hk
  iapply (wp_wait_r m K c k nc nr l z hd ht hlev hs1 hN) $$ [HT HX]
  · isplitr; · iexact HR
    isplitl [HT]; · iexact HT
    iexact HX
  iintro ⟨HT, HX, HP⟩
  have he := RP_keep m c k p hk hp
  ihave HP := he $$ HP
  icases HP with ⟨HP, HN⟩
  iapply Hk
  isplitr; · iexact HR
  isplitl [HT]; · iexact HT
  isplitl [HX]; · iexact HX
  isplitl [HP HK]
  · isplitl [HP]; · iexact HP
    iexact HK
  isplitl [HO]; · iexact HO
  isplitl [HN]; · iexact HN
  iexact HE

/-- Waiting for the first half of a forwarded piece. -/
theorem st_recv_x {α : Type} {Q : α → sProp 𝕄} {k' : PUnit → Prog (TpuEff nD τ sig (Elt F) Λ₀ .tc) α}
    (c : Dev nD) (k : Fin 33) (nc nr : ℕ) (l z kp od pd)
    (hd : rord.drop nr = k :: rord.drop (nr + 1)) (ht : (rord.take (nr + 1)).reverse = k :: (rord.take nr).reverse)
    (hlev : ∀ j ∈ sord.drop nc, rlev k < rlev j) {s1 : DmaSem sig} (hs1 : s1 = rS k)
    {sp sp' : Space} {sh sh' : Shape} {e e' : EltTy} {src : Memref sig .tc sp sh e} {dst : Memref sig .tc sp' sh' e'} {h₁ h₂} (hN : dst.view.dmaCredit = cN k) :
    St m K c nc nr l z kp od pd []
      ⊢ iprop((St m K c nc (nr + 1) l z kp od pd [k] -∗ Wp c (k' ⟨⟩) Q)
          -∗ Wp c (.op (.waitDma2 s1 src dst h₁ h₂) k') Q) := by
  unfold St
  rw [bigSepL_singleton]
  iintro ⟨#HR, HT, HX, HK, HO, HS, -⟩ Hk
  iapply (wp_wait_r m K c k nc nr l z hd ht hlev hs1 hN) $$ [HT HX]
  · isplitr; · iexact HR
    isplitl [HT]; · iexact HT
    iexact HX
  iintro ⟨HT, HX, HP⟩
  iapply Hk
  isplitr; · iexact HR
  isplitl [HT]; · iexact HT
  isplitl [HX]; · iexact HX
  isplitl [HK]; · iexact HK
  isplitl [HO]; · iexact HO
  isplitl [HS]; · iexact HS
  iexact HP

/-- Waiting for the second half: the piece is whole. -/
theorem st_recv_z {α : Type} {Q : α → sProp 𝕄} {k' : PUnit → Prog (TpuEff nD τ sig (Elt F) Λ₀ .tc) α}
    (c : Dev nD) (j : Fin 6) (k0 k : Fin 33) (p : Fin 26) (nc nr : ℕ) (l z kp kp' od pd) (hk0 : k0.val = 18 + j.val) (hk : k.val = 24 + j.val)
    (hp : p.val = 20 + j.val) (hkp : kp' = p :: kp)
    (hd : rord.drop nr = k :: rord.drop (nr + 1)) (ht : (rord.take (nr + 1)).reverse = k :: (rord.take nr).reverse)
    (hlev : ∀ j ∈ sord.drop nc, rlev k < rlev j) {s1 : DmaSem sig} (hs1 : s1 = rS k)
    {sp sp' : Space} {sh sh' : Shape} {e e' : EltTy} {src : Memref sig .tc sp sh e} {dst : Memref sig .tc sp' sh' e'} {h₁ h₂} (hN : dst.view.dmaCredit = cN k) :
    St m K c nc nr l z kp od pd [k0]
      ⊢ iprop((St m K c nc (nr + 1) l z kp' od pd [] -∗ Wp c (k' ⟨⟩) Q)
          -∗ Wp c (.op (.waitDma2 s1 src dst h₁ h₂) k') Q) := by
  subst hkp
  unfold St
  rw [bigSepL_singleton, bigSepL_cons', bigSepL_nil]
  iintro ⟨#HR, HT, HX, HK, HO, HS, HE⟩ Hk
  iapply (wp_wait_r m K c k nc nr l z hd ht hlev hs1 hN) $$ [HT HX]
  · isplitr; · iexact HR
    isplitl [HT]; · iexact HT
    iexact HX
  iintro ⟨HT, HX, HP⟩
  have he := RP_join m c j k0 k p hk0 hk hp
  ihave HP := he $$ [HE HP]
  · isplitl [HE]; · iexact HE
    iexact HP
  iapply Hk
  isplitr; · iexact HR
  isplitl [HT]; · iexact HT
  isplitl [HX]; · iexact HX
  isplitl [HP HK]
  · isplitl [HP]; · iexact HP
    iexact HK
  isplitl [HO]; · iexact HO
  isplitl [HS]; · iexact HS
  iempintro

/-- Waiting for the source of copy `k` to be free again. -/
theorem st_waits {α : Type} {Q : α → sProp 𝕄} {k' : PUnit → Prog (TpuEff nD τ sig (Elt F) Λ₀ .tc) α}
    (c : Dev nD) (k : Fin 33) (nc nr : ℕ) (l l' z z' kp od pd pd' ex) (hl : l = k :: l') (hz : z' = k :: z) (hpd : pd' = k :: pd)
    {s1 : DmaSem sig} (hs1 : s1 = sS k)
    {sp sp' : Space} {sh sh' : Shape} {e e' : EltTy} {src : Memref sig .tc sp sh e} {dst : Memref sig .tc sp' sh' e'} {h₁ h₂} (hN : dst.view.dmaCredit = cN k) :
    St m K c nc nr l z kp od pd ex
      ⊢ iprop((St m K c nc nr l' z' kp od pd' ex -∗ Wp c (k' ⟨⟩) Q)
          -∗ Wp c (.op (.waitDma2 s1 src dst h₁ h₂) k') Q) := by
  subst hl hz hpd
  unfold St
  rw [bigSepL_cons' k pd]
  iintro ⟨#HR, HT, HX, HK, HO, HS, HE⟩ Hk
  iapply (wp_wait_s m K c k nc l' z hs1 hN) $$ [HT]
  · isplitr; · iexact HR
    iexact HT
  iintro ⟨HT, HP⟩
  iapply Hk
  isplitr; · iexact HR
  isplitl [HT]; · iexact HT
  isplitl [HX]; · iexact HX
  isplitl [HK]; · iexact HK
  isplitl [HO]; · iexact HO
  isplitl [HP HS]
  · isplitl [HP]; · iexact HP
    iexact HS
  iexact HE

/-- Reading the piece kept last. -/
theorem st_load {α : Type} {Q : α → sProp 𝕄} {k' : Vec F S64x2048 .bf16 → Prog (TpuEff nD τ sig (Elt F) Λ₀ .tc) α}
    (c : Dev nD) (p : Fin 26) (nc nr : ℕ) (l z kp kp' od pd ex) (hkp : kp = p :: kp') (hp : 2 ≤ p.val)
    {off : Fin 2 → ℕ} {inb : ∀ a, off a + S64x2048.size a ≤ S256x16384.size a} (hoff : off = pOff p c) {hl} :
    St m K c nc nr l z kp od pd ex
      ⊢ iprop((St m K c nc nr l z kp od pd ex -∗ Wp c (k' (pcV m c p)) Q)
          -∗ Wp c (.op (.load cM (Rect.unit (s := S256x16384) off S64x2048.size inb).toLoadRect hl) k') Q) := by
  subst hkp hoff
  have hset : (cM.access (Rect.unit (s := S256x16384) (pOff p c) S64x2048.size inb)).set = PR p c := by
    have := View.set_slice_whole cc0_scratch0 (Rect.unit (s := S256x16384) (pOff p c) S64x2048.size inb)
    refine this.trans ?_
    rw [unit_set]; unfold PR; rw [pH_ge (by omega)]; rfl
  have hv : (cM.access (Rect.unit (s := S256x16384) (pOff p c) S64x2048.size inb)).read (Elt F) (commF m c) = pcV m c p := by
    have h0 : 64 * pBand p c + 64 ≤ 256 := inb 0
    have h1 : 2048 * pCol p c + 2048 ≤ 16384 := inb 1
    funext x
    have x0 : (x 0).val < 64 := (x 0).isLt
    have x1 : (x 1).val < 2048 := (x 1).isLt
    show commF m c _ = commF m c _
    congr 1
    funext a
    match a with
    | 0 => exact Fin.ext (by show 64 * pBand p c + 1 * (x 0).val = (64 * pBand p c + (x 0).val) % 256; omega)
    | 1 => exact Fin.ext (by show 2048 * pCol p c + 1 * (x 1).val = (2048 * pCol p c + (x 1).val) % 16384; omega)
  unfold St Kp pc cP
  rw [bigSepL_cons']
  iintro ⟨#HR, HT, HX, ⟨⟨HK, HM⟩, HKs⟩, HO, HS, HE⟩ Hk
  rw [← hv]
  iapply (wp_load_rect 𝒱₀ (c : Thread nD τ) none Set.univ (hl := hl) (S := PR p c) (by rw [hset])) $$ [HK]
  · iexact HK
  iintro HK
  iapply Hk
  isplitr; · iexact HR
  isplitl [HT]; · iexact HT
  isplitl [HX]; · iexact HX
  isplitl [HK HM HKs]
  · isplitl [HK HM]
    · isplitl [HK]; · iexact HK
      iexact HM
    iexact HKs
  isplitl [HO]; · iexact HO
  isplitl [HS]; · iexact HS
  iexact HE

/-- Reading an own piece. -/
theorem st_load_own {α : Type} {Q : α → sProp 𝕄} {k' : Vec F S256x2048 .bf16 → Prog (TpuEff nD τ sig (Elt F) Λ₀ .tc) α}
    (c : Dev nD) (s : ℕ) (p : Fin 26) (hs : p.val = s) (hp : p.val < 2) (nc nr : ℕ) (l z kp kp' od pd ex) (hkp : kp.Perm (p :: kp')) (hnd : kp.Nodup)
    {off : Fin 2 → ℕ} {inb : ∀ a, off a + S256x2048.size a ≤ S256x16384.size a} (hoff : off = pOff p c) {hl} :
    St m K c nc nr l z kp od pd ex
      ⊢ iprop((St m K c nc nr l z kp od pd ex -∗ Wp c (k' (eBf m c s)) Q)
          -∗ Wp c (.op (.load cM (Rect.unit (s := S256x16384) off S256x2048.size inb).toLoadRect hl) k') Q) := by
  subst hoff
  have hset : (cM.access (Rect.unit (s := S256x16384) (pOff p c) S256x2048.size inb)).set = (PR p c : Finset S256x16384.Idx) := by
    have := View.set_slice_whole cc0_scratch0 (Rect.unit (s := S256x16384) (pOff p c) S256x2048.size inb)
    refine this.trans ?_
    rw [unit_set]; unfold PR; rw [pH_lt hp]; rfl
  have hv : (cM.access (Rect.unit (s := S256x16384) (pOff p c) S256x2048.size inb)).read (Elt F) (commF m c) = eBf m c s :=
    by
    subst hs
    exact funext fun x => commF_own m ⟨p.val, hp⟩ c inb x
  have hin := sepL_perm hkp (Kp m c)
  have hout := sepL_perm hkp.symm (Kp m c)
  rw [bigSepL_cons'] at hin hout
  unfold St
  iintro ⟨#HR, HT, HX, HK, HO, HS, HE⟩ Hk
  ihave HK := hin $$ HK
  icases HK with ⟨HK, HKs⟩
  have hkp : Kp m c p ⊢ iprop(cP c (PR p c) fullShare.left (commF m c) ∗ rem m c p) := .rfl
  have hkp' : iprop(cP c (PR p c) fullShare.left (commF m c) ∗ rem m c p) ⊢ Kp m c p := .rfl
  ihave HK := hkp $$ HK
  icases HK with ⟨HK, HM⟩
  unfold cP at hkp'
  unfold cP
  rw [← hv]
  iapply (wp_load_rect 𝒱₀ (c : Thread nD τ) none Set.univ (hl := hl) (S := PR p c) (by rw [hset])) $$ [HK]
  · iexact HK
  iintro HK
  iapply Hk
  isplitr; · iexact HR
  isplitl [HT]; · iexact HT
  isplitl [HX]; · iexact HX
  isplitl [HK HM HKs]
  · iapply hout
    isplitl [HK HM]
    · iapply hkp'
      isplitl [HK]; · iexact HK
      iexact HM
    iexact HKs
  isplitl [HO]; · iexact HO
  isplitl [HS]; · iexact HS
  iexact HE

/-- A read of the result whose value is not used. -/
theorem st_dead {α : Type} {Q : α → sProp 𝕄} {sz : Fin 2 → ℕ} {k' : Vec F ⟨2, sz⟩ .f32 → Prog (TpuEff nD τ sig (Elt F) Λ₀ .tc) α}
    (c : Dev nD) (nc nr : ℕ) (l z kp od pd ex)
    {off : Fin 2 → ℕ} {inb : ∀ a, off a + sz a ≤ S256x16384.size a} {hl} :
    St m K c nc nr l z kp od pd ex
      ⊢ iprop((∀ v, St m K c nc nr l z kp od pd ex -∗ Wp c (k' v) Q)
          -∗ Wp c (.op (.load oM (Rect.unit (s := S256x16384) off sz inb).toLoadRect hl) k') Q) := by
  unfold St OutSt oP
  iintro ⟨#HR, HT, HX, HK, ⟨%f, %hf, HO⟩, HS, HE⟩ Hk
  iapply (wp_load_rect 𝒱₀ (c : Thread nD τ) none Set.univ (hl := hl) (S := Finset.univ) (q := fullShare) (f := f) (Finset.subset_univ _)) $$ [HO]
  · iexact HO
  iintro HO
  iapply Hk
  isplitr; · iexact HR
  isplitl [HT]; · iexact HT
  isplitl [HX]; · iexact HX
  isplitl [HK]; · iexact HK
  isplitl [HO]
  · iexists f
    isplitr; · ipureintro; exact hf
    iexact HO
  isplitl [HS]; · iexact HS
  iexact HE

/-- Storing a piece of the result. -/
theorem st_store {α : Type} {Q : α → sProp 𝕄} {k' : PUnit → Prog (TpuEff nD τ sig (Elt F) Λ₀ .tc) α}
    (c : Dev nD) (p : Fin 26) (nc nr : ℕ) (l z kp od od' pd ex) (hod : od' = p :: od)
    {off sz : Fin 2 → ℕ} {inb : ∀ a, off a + sz a ≤ S256x16384.size a} (hoff : off = pOff p c) (hsz : sz 0 = pH p ∧ sz 1 = 2048)
    {w : Vec F ⟨2, sz⟩ .f32} (hw : ∀ x, w x = outF m c ((Rect.unit (s := S256x16384) off sz inb).emb x)) {hx hm} :
    St m K c nc nr l z kp od pd ex
      ⊢ iprop((St m K c nc nr l z kp od' pd ex -∗ Wp c (k' ⟨⟩) Q)
          -∗ Wp c (.op (.store oM (Rect.unit (s := S256x16384) off sz inb) w Finset.univ hx hm) k') Q) := by
  subst hod hoff
  have hset : (Rect.unit (s := S256x16384) (pOff p c) sz inb).set = PR p c := by
    rw [unit_set, hsz.1, hsz.2]; rfl
  unfold St OutSt oP
  iintro ⟨#HR, HT, HX, HK, ⟨%f, %hf, HO⟩, HS, HE⟩ Hk
  iapply (wp_store 𝒱₀ (c : Thread nD τ) none Set.univ (m := oM) (r := Rect.unit (s := S256x16384) (pOff p c) sz inb) (Mk := Finset.univ) (f := f) (S := Finset.univ) (Finset.subset_univ _)) $$ [HO]
  · iexact HO
  iintro HO
  iapply Hk
  isplitr; · iexact HR
  isplitl [HT]; · iexact HT
  isplitl [HX]; · iexact HX
  isplitl [HK]; · iexact HK
  isplitl [HO]
  · iexists ((oM.access (Rect.unit (s := S256x16384) (pOff p c) sz inb)).write (Elt F) f w Finset.univ)
    isplitr
    · ipureintro
      intro p' hp' i hi
      by_cases hin : i ∈ (Rect.unit (s := S256x16384) (pOff p c) sz inb).set
      · rw [← Rect.map_emb_univ] at hin
        obtain ⟨x, -, rfl⟩ := Finset.mem_map.mp hin
        have := View.write_emb_of_mem (v := oM.access (Rect.unit (s := S256x16384) (pOff p c) sz inb)) (Val := Elt F) f w (Finset.mem_univ x)
        exact this.trans (hw x)
      · have hne : p' ≠ p := fun h => hin (by rw [hset, ← h]; exact hi)
        have hp'' : p' ∈ od := (List.mem_cons.mp hp').resolve_left hne
        have hno : i ∉ (oM.access (Rect.unit (s := S256x16384) (pOff p c) sz inb)).setOn Finset.univ := fun h => hin (by
          have e := View.set_slice_whole cc0_stg2_0 (Rect.unit (s := S256x16384) (pOff p c) sz inb)
          exact e ▸ h)
        exact (View.write_of_not_mem f w Finset.univ hno).trans (hf p' hp'' i hi)
    iexact HO
  isplitl [HS]; · iexact HS
  iexact HE

end Cert.KernelIdeal.Pf
-- ==== Proof.Front.lean ====
module

public import proofs.«01_k».proof.Proof.Acc
public import Idealize.ShloMosaic.Lib.ValueLayout

@[expose] public section

/-!
# The barrier, the exponentials and the first copies
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-! ## The barrier's payloads -/

theorem bP_list (c : Dev nD) (d : Dt) :
    bP (F := F) c d = bigSepL sord fun k => if (cls k).val = d.val then LP (tgt k c) k else iprop(emp) :=
  bigSep_univ_eq_bigSepL sord (by decide) (by decide) _

theorem bP_all (c : Dev nD) :
    (bigSep Finset.univ fun d : Dt => bP (F := F) c d) = iprop(bP c 0 ∗ bP c 1 ∗ bP c 2 ∗ bP c 3) :=
  bigSep_univ_eq_bigSepL [0, 1, 2, 3] (by decide) (by decide) _

theorem sepL_two {ι : Type} (l : List ι) (A B : ι → sProp 𝕄) :
    iprop(bigSepL l A ∗ bigSepL l B) ⊢ bigSepL l fun i => iprop(A i ∗ B i) := by
  induction l with
  | nil => rw [bigSepL_nil, bigSepL_nil]; iintro ⟨-, -⟩; iempintro
  | cons i l ih =>
    rw [bigSepL_cons', bigSepL_cons', bigSepL_cons']
    iintro ⟨⟨HA, HAs⟩, HB, HBs⟩
    isplitl [HA HB]
    · isplitl [HA]; · iexact HA
      iexact HB
    iapply ih
    isplitl [HAs]; · iexact HAs
    iexact HBs

theorem sepL_two' {ι : Type} (l : List ι) (A B : ι → sProp 𝕄) :
    (bigSepL l fun i => iprop(A i ∗ B i)) ⊢ iprop(bigSepL l A ∗ bigSepL l B) := by
  induction l with
  | nil => rw [bigSepL_nil, bigSepL_nil]; iintro -; isplitr <;> iempintro
  | cons i l ih =>
    rw [bigSepL_cons', bigSepL_cons', bigSepL_cons']
    iintro ⟨⟨HA, HB⟩, Hs⟩
    ihave Hs := ih $$ Hs
    icases Hs with ⟨HAs, HBs⟩
    isplitl [HA HAs]
    · isplitl [HA]; · iexact HA
      iexact HAs
    isplitl [HB]; · iexact HB
    iexact HBs

/-- What the four signals of a barrier hand over: the landing regions of all the copies. -/
theorem bars_LP (c : Dev nD) :
    (bigSep Finset.univ fun d : Dt => bP (F := F) c d) ⊢ bigSepL sord fun k => LP (tgt k c) k := by
  rw [bP_all, bP_list, bP_list, bP_list, bP_list]
  refine (sep_mono_right (sep_mono_right (sepL_two _ _ _))).trans ((sep_mono_right (sepL_two _ _ _)).trans ((sepL_two _ _ _).trans ?_))
  refine bigSepL_mono fun k _ => ?_
  have h : (cls k).val < 3 := (cls k).isLt
  by_cases h0 : (cls k).val = 0
  · rw [if_pos (show (cls k).val = (0 : Dt).val from h0)]
    iintro ⟨H, -⟩; iexact H
  by_cases h1 : (cls k).val = 1
  · rw [if_pos (show (cls k).val = (1 : Dt).val from h1)]
    iintro ⟨-, H, -⟩; iexact H
  · rw [if_pos (show (cls k).val = (2 : Dt).val from by show (cls k).val = 2; omega)]
    iintro ⟨-, -, H, -⟩; iexact H

/-- A device's own landing regions are what its four signals hand over. -/
theorem LP_bars (c : Dev nD) :
    bigSepL sord (LP (F := F) c) ⊢ iprop(bP (lf c) 0 ∗ bP (px c) 1 ∗ bP (pz c) 2 ∗ bP (rt c) 3) := by
  rw [bP_list, bP_list, bP_list, bP_list]
  refine BIBase.Entails.trans ?_ (sep_mono_right (sep_mono_right (sepL_two' _ _ _)))
  refine BIBase.Entails.trans ?_ (sep_mono_right (sepL_two' _ _ _))
  refine BIBase.Entails.trans ?_ (sepL_two' _ _ _)
  refine bigSepL_mono fun k _ => ?_
  have h : (cls k).val < 3 := (cls k).isLt
  have h3 : ¬ (cls k).val = (3 : Dt).val := by show ¬ (cls k).val = 3; omega
  rw [if_neg h3]
  by_cases h0 : (cls k).val = 0
  · rw [if_pos (show (cls k).val = (0 : Dt).val from h0), if_neg (show ¬ (cls k).val = (1 : Dt).val from by show ¬ (cls k).val = 1; omega),
      if_neg (show ¬ (cls k).val = (2 : Dt).val from by show ¬ (cls k).val = 2; omega), tgt_cls0 (Fin.ext h0), rt_lf]
    iintro H; isplitl [H]; · iexact H
    isplitr; · iempintro
    isplitr <;> iempintro
  by_cases h1 : (cls k).val = 1
  · rw [if_neg (show ¬ (cls k).val = (0 : Dt).val from h0), if_pos (show (cls k).val = (1 : Dt).val from h1),
      if_neg (show ¬ (cls k).val = (2 : Dt).val from by show ¬ (cls k).val = 2; omega), tgt_cls1 (Fin.ext h1), px_px]
    iintro H; isplitr; · iempintro
    isplitl [H]; · iexact H
    isplitr <;> iempintro
  · have h2 : (cls k).val = 2 := by omega
    rw [if_neg (show ¬ (cls k).val = (0 : Dt).val from h0), if_neg (show ¬ (cls k).val = (1 : Dt).val from h1),
      if_pos (show (cls k).val = (2 : Dt).val from h2), tgt_cls2 (Fin.ext h2), pz_pz]
    iintro H; isplitr; · iempintro
    isplitr; · iempintro
    isplitl [H]; · iexact H
    iempintro

/-- What starting copy `k` takes beside its source and its landing region. -/
def SK0 (c : Dev nD) (k : Fin 33) : sProp 𝕄 :=
  iprop(dutyTok ER (sC k c) 0 0 ∗ dutyTok ER (rC k (tgt k c)) 0 0 ∗ atPos ER (sC k c) 0 ∅ 0)

theorem SK_of (c : Dev nD) :
    iprop(bigSepL sord (SK0 (F := F) c) ∗ bigSepL sord fun k => LP (tgt k c) k) ⊢ bigSepL sord (SK c) := by
  refine (sepL_two _ _ _).trans (bigSepL_mono fun k _ => ?_)
  unfold SK0 SK
  iintro ⟨⟨H1, H2, H3⟩, H4⟩
  isplitl [H1]; · iexact H1
  isplitl [H2]; · iexact H2
  isplitl [H3]; · iexact H3
  iexact H4

/-! ## The operands, the own pieces and the ring of row sums -/

/-- The staged operands. -/
def XS (c : Dev nD) : sProp 𝕄 :=
  ((c : Thread nD τ).loc cc0_stg0_0) ↦{fullShare} (xstg m c : Buf (Elt F) ((c : Thread nD τ).loc cc0_stg0_0))
def WS (c : Dev nD) : sProp 𝕄 :=
  ((c : Thread nD τ).loc cc0_stg1_0) ↦{fullShare} (wstg m c : Buf (Elt F) ((c : Thread nD τ).loc cc0_stg1_0))
/-- Own piece `p` before it is stored. -/
def OwnR (c : Dev nD) (p : Fin 26) : sProp 𝕄 := iprop(∃ f, cP (F := F) c (PR p c) fullShare f)
/-- A plane of the ring of row sums, with any contents. -/
def PlR (c : Dev nD) (h : ℕ) : sProp 𝕄 := iprop(∃ f, dP (F := F) c (Pl h) f)

theorem own_access (c : Dev nD) (p : Fin 26) (hp : p.val < 2) (inb : ∀ a, pOff p c a + S256x2048.size a ≤ S256x16384.size a) :
    (cM.access (Rect.unit (s := S256x16384) (pOff p c) S256x2048.size inb)).set = PR p c := by
  have := View.set_slice_whole cc0_scratch0 (Rect.unit (s := S256x16384) (pOff p c) S256x2048.size inb)
  refine this.trans ?_
  rw [unit_set]; unfold PR; rw [pH_lt hp]; rfl

/-- A read of an own piece before it is stored, whose value is not used. -/
theorem own_dead {α : Type} {Q : α → sProp 𝕄} {k' : Vec F S256x2048 .bf16 → Prog (TpuEff nD τ sig (Elt F) Λ₀ .tc) α}
    (c : Dev nD) (p : Fin 26) (hp : p.val < 2) {off : Fin 2 → ℕ} {inb : ∀ a, off a + S256x2048.size a ≤ S256x16384.size a} (hoff : off = pOff p c) {hl} :
    OwnR c p
      ⊢ iprop((∀ v, OwnR c p -∗ Wp c (k' v) Q)
          -∗ Wp c (.op (.load cM (Rect.unit (s := S256x16384) off S256x2048.size inb).toLoadRect hl) k') Q) := by
  subst hoff
  unfold OwnR cP
  iintro ⟨%f, H⟩ Hk
  iapply (wp_load_rect 𝒱₀ (c : Thread nD τ) none Set.univ (hl := hl) (S := PR p c) (q := fullShare) (f := f) (by rw [own_access c p hp])) $$ [H]
  · iexact H
  iintro H
  iapply Hk
  iexists f; iexact H

/-- Storing an own piece: it is kept, its source in hand. -/
theorem st_own {α : Type} {Q : α → sProp 𝕄} {k' : PUnit → Prog (TpuEff nD τ sig (Elt F) Λ₀ .tc) α}
    (c : Dev nD) (p : Fin 26) (k : Fin 33) (s : ℕ) (hs : p.val = s) (hp : p.val < 2) (nc nr : ℕ) (l z kp od ex) (hn : needs p = [k])
    {off : Fin 2 → ℕ} {inb : ∀ a, off a + S256x2048.size a ≤ S256x16384.size a} (hoff : off = pOff p c)
    {w : Vec F S256x2048 .bf16} (hw : w = eBf m c s) {hx hm} :
    iprop(St m K c nc nr l z kp od [] ex ∗ OwnR c p)
      ⊢ iprop((St m K c nc nr l z (p :: kp) od [k] ex -∗ Wp c (k' ⟨⟩) Q)
          -∗ Wp c (.op (.store cM (Rect.unit (s := S256x16384) off S256x2048.size inb) w Finset.univ hx hm) k') Q) := by
  subst hoff hw hs
  have hset := own_access c p hp inb
  have hpc : pc m c p fullShare ⊢ iprop(Kp m c p ∗ SP m c k) := by
    have := (pc_split m c p).1
    rw [hn, bigSepL_singleton] at this
    exact this
  have hc : ∀ f : S256x16384.Idx → F .bf16, (((c : Thread nD τ).loc cc0_scratch0) ↦[PR p c]{fullShare}
      ((cM.access (Rect.unit (s := S256x16384) (pOff p c) S256x2048.size inb)).write (Elt F) f (eBf m c p.val) Finset.univ : Buf (Elt F) ((c : Thread nD τ).loc cc0_scratch0)))
      ⊢ pc m c p fullShare := fun f => by
    unfold pc cP
    refine Entails.of_eq (pointsTo_congr fun i hi => ?_)
    have hi' : i ∈ (cM.access (Rect.unit (s := S256x16384) (pOff p c) S256x2048.size inb)).set := by rw [hset]; exact hi
    obtain ⟨x, -, rfl⟩ := Finset.mem_map.mp hi'
    have := View.write_emb_of_mem (v := cM.access (Rect.unit (s := S256x16384) (pOff p c) S256x2048.size inb)) (Val := Elt F) f (eBf m c p.val) (Finset.mem_univ x)
    exact this.trans (commF_own m ⟨p.val, hp⟩ c inb x).symm
  unfold St OwnR cP
  rw [bigSepL_cons', bigSepL_singleton]
  iintro ⟨⟨#HR, HT, HX, HK, HO, -, HE⟩, ⟨%f, H⟩⟩ Hk
  iapply (wp_store 𝒱₀ (c : Thread nD τ) none Set.univ (m := cM) (r := Rect.unit (s := S256x16384) (pOff p c) S256x2048.size inb) (Mk := Finset.univ)
    (f := f) (S := PR p c) (by rw [View.setOn_univ, hset])) $$ [H]
  · iexact H
  iintro H
  ihave H := hc f $$ H
  ihave H := hpc $$ H
  icases H with ⟨H, HS⟩
  iapply Hk
  isplitr; · iexact HR
  isplitl [HT]; · iexact HT
  isplitl [HX]; · iexact HX
  isplitl [H HK]
  · isplitl [H]; · iexact H
    iexact HK
  isplitl [HO]; · iexact HO
  isplitl [HS]; · iexact HS
  iexact HE

/-- A program that has returned, at an equal value. -/
theorem Wp_ret_eq (c : Dev nD) {α : Type} {a b : α} (h : a = b) {Q : α → sProp 𝕄} : Q b ⊢ Wp (F := F) c (Prog.ret a) Q := by
  subst h; exact Wp_ret c

/-- Reading the operands. -/
theorem x_load {α : Type} {Q : α → sProp 𝕄} {k' : Vec F S256x512 .f32 → Prog (TpuEff nD τ sig (Elt F) Λ₀ .tc) α} (c : Dev nD) {hl} :
    XS m c ⊢ iprop((XS m c -∗ Wp c (k' (xV m c)) Q)
      -∗ Wp c (.op (.load xM (Rect.unit (s := S256x512) ![0, 0] S256x512.size inb_S256x512_S256x512_0_0).toLoadRect hl) k') Q) := by
  unfold XS xV
  exact wp_load_rect 𝒱₀ (c : Thread nD τ) none Set.univ (hl := hl) (S := Finset.univ) (q := fullShare) (f := xstg m c) (Finset.subset_univ _)
theorem w_load0 {α : Type} {Q : α → sProp 𝕄} {k' : Vec F S512x2048 .f32 → Prog (TpuEff nD τ sig (Elt F) Λ₀ .tc) α} (c : Dev nD) {hl} :
    WS m c ⊢ iprop((WS m c -∗ Wp c (k' (wV0 m c)) Q)
      -∗ Wp c (.op (.load wM (Rect.unit (s := S512x4096) ![0, 0] S512x2048.size inb_S512x4096_S512x2048_0_0).toLoadRect hl) k') Q) := by
  unfold WS wV0
  exact wp_load_rect 𝒱₀ (c : Thread nD τ) none Set.univ (hl := hl) (S := Finset.univ) (q := fullShare) (f := wstg m c) (Finset.subset_univ _)
theorem w_load1 {α : Type} {Q : α → sProp 𝕄} {k' : Vec F S512x2048 .f32 → Prog (TpuEff nD τ sig (Elt F) Λ₀ .tc) α} (c : Dev nD) {hl} :
    WS m c ⊢ iprop((WS m c -∗ Wp c (k' (wV1 m c)) Q)
      -∗ Wp c (.op (.load wM (Rect.unit (s := S512x4096) ![0, 2048] S512x2048.size inb_S512x4096_S512x2048_0_2048).toLoadRect hl) k') Q) := by
  unfold WS wV1
  exact wp_load_rect 𝒱₀ (c : Thread nD τ) none Set.univ (hl := hl) (S := Finset.univ) (q := fullShare) (f := wstg m c) (Finset.subset_univ _)

theorem dn_RP (c : Dev nD) (h : Fin 3) : RP m c (dk h) = dP c (Pl (h.val + 1)) (dsF m c) := by
  unfold RP; rw [if_neg (show ¬ 30 + h.val < 30 by omega), show (dk h).val - 29 = h.val + 1 from by show 30 + h.val - 29 = _; omega]
theorem dn_SP (c : Dev nD) (h : Fin 3) : SP m c (dk h) = dP c (Pl h.val) (dsF m c) := by
  unfold SP; rw [if_neg (show ¬ 30 + h.val < 30 by omega), show (dk h).val - 30 = h.val from by show 30 + h.val - 30 = _; omega]

/-- Starting the copy of plane `h` around the ring. -/
theorem st_send_d {α : Type} {Q : α → sProp 𝕄} {k' : PUnit → Prog (TpuEff nD τ sig (Elt F) Λ₀ .tc) α}
    (c : Dev nD) (h : Fin 3) (p : ℕ) (hp : p = h.val) (k : Fin 33) (hk : k = dk h) (nc nr : ℕ) (l l' z kp od pd ex) (hl' : l' = k :: l) {n : Dev nD} (hn : n = tgt k c)
    (hd : sord.drop nc = k :: sord.drop (nc + 1))
    {off off' : Fin 3 → ℕ} (ho : off = ![h.val, 0, 0]) (ho' : off' = ![h.val + 1, 0, 0]) {inb inb'}
    {s1 s2 : DmaSem sig} (hs1 : s1 = sS k) (hs2 : s2 = rS k)
    {hsc : (plM off' inb' : Memref sig (Dev.tc n : Thread nD τ).2.kind .vmem _ .f32).view.ref.isScScratch = false}
    {hsrc : (plM off inb).view.WordExact} {hdst : (plM off' inb').view.WordExact}
    {hsem : DmaTarget.Typed .vmem (.dma s2) (.remote (Dev.tc n : Thread nD τ) (plM off' inb') (.dma s1) hsc)} :
    iprop(St m K c nc nr l z kp od pd ex ∗ dP c (Pl p) (dsF m c))
      ⊢ iprop((St m K c (nc + 1) nr l' z kp od pd ex -∗ Wp c (k' ⟨⟩) Q)
          -∗ Wp c (.op (.enqueueDma (plM off inb)
                (.remote (Dev.tc n : Thread nD τ) (plM off' inb') (.dma s1) hsc) (.dma s2) hsrc hdst hsem) k') Q) := by
  subst hk hl' hp
  rw [← dn_SP]
  unfold St
  iintro ⟨⟨#HR, HT, HX, HK, HO, HS, HE⟩, HP⟩ Hk
  iapply (wp_send_d m K c n h hn nc l z hd ho ho' hs1 hs2) $$ [HT HP]
  · isplitr; · iexact HR
    isplitl [HT]; · iexact HT
    iexact HP
  iintro HT
  iapply Hk
  isplitr; · iexact HR
  isplitl [HT]; · iexact HT
  isplitl [HX]; · iexact HX
  isplitl [HK]; · iexact HK
  isplitl [HO]; · iexact HO
  isplitl [HS]; · iexact HS
  iexact HE

/-- Waiting for plane `h` to be free again. -/
theorem st_waits_d {α : Type} {Q : α → sProp 𝕄} {k' : PUnit → Prog (TpuEff nD τ sig (Elt F) Λ₀ .tc) α}
    (c : Dev nD) (h : Fin 3) (p : ℕ) (hp : p = h.val) (k : Fin 33) (hk : k = dk h) (nc nr : ℕ) (l l' z z' kp od pd ex) (hl : l = k :: l') (hz : z' = k :: z)
    {s1 : DmaSem sig} (hs1 : s1 = sS k)
    {sp sp' : Space} {sh sh' : Shape} {e e' : EltTy} {src : Memref sig .tc sp sh e} {dst : Memref sig .tc sp' sh' e'} {h₁ h₂} (hN : dst.view.dmaCredit = cN k) :
    St m K c nc nr l z kp od pd ex
      ⊢ iprop(((St m K c nc nr l' z' kp od pd ex ∗ dP c (Pl p) (dsF m c)) -∗ Wp c (k' ⟨⟩) Q)
          -∗ Wp c (.op (.waitDma2 s1 src dst h₁ h₂) k') Q) := by
  subst hl hz hk hp
  rw [← dn_SP]
  unfold St
  iintro ⟨#HR, HT, HX, HK, HO, HS, HE⟩ Hk
  iapply (wp_wait_s m K c (dk h) nc l' z hs1 hN) $$ [HT]
  · isplitr; · iexact HR
    iexact HT
  iintro ⟨HT, HP⟩
  iapply Hk
  isplitr [HP]
  · isplitr; · iexact HR
    isplitl [HT]; · iexact HT
    isplitl [HX]; · iexact HX
    isplitl [HK]; · iexact HK
    isplitl [HO]; · iexact HO
    isplitl [HS]; · iexact HS
    iexact HE
  iexact HP

/-- Waiting for the next plane to arrive. -/
theorem st_recv_d {α : Type} {Q : α → sProp 𝕄} {k' : PUnit → Prog (TpuEff nD τ sig (Elt F) Λ₀ .tc) α}
    (c : Dev nD) (h : Fin 3) (p : ℕ) (hp : p = h.val + 1) (k : Fin 33) (hk : k = dk h) (nc nr : ℕ) (l z kp od pd ex)
    (hd : rord.drop nr = k :: rord.drop (nr + 1)) (ht : (rord.take (nr + 1)).reverse = k :: (rord.take nr).reverse)
    (hlev : ∀ j ∈ sord.drop nc, rlev k < rlev j) {s1 : DmaSem sig} (hs1 : s1 = rS k)
    {sp sp' : Space} {sh sh' : Shape} {e e' : EltTy} {src : Memref sig .tc sp sh e} {dst : Memref sig .tc sp' sh' e'} {h₁ h₂} (hN : dst.view.dmaCredit = cN k) :
    St m K c nc nr l z kp od pd ex
      ⊢ iprop(((St m K c nc (nr + 1) l z kp od pd ex ∗ dP c (Pl p) (dsF m c)) -∗ Wp c (k' ⟨⟩) Q)
          -∗ Wp c (.op (.waitDma2 s1 src dst h₁ h₂) k') Q) := by
  subst hk hp
  rw [← dn_RP]
  unfold St
  iintro ⟨#HR, HT, HX, HK, HO, HS, HE⟩ Hk
  iapply (wp_wait_r m K c (dk h) nc nr l z hd ht hlev hs1 hN) $$ [HT HX]
  · isplitr; · iexact HR
    isplitl [HT]; · iexact HT
    iexact HX
  iintro ⟨HT, HX, HP⟩
  iapply Hk
  isplitr [HP]
  · isplitr; · iexact HR
    isplitl [HT]; · iexact HT
    isplitl [HX]; · iexact HX
    isplitl [HK]; · iexact HK
    isplitl [HO]; · iexact HO
    isplitl [HS]; · iexact HS
    iexact HE
  iexact HP

theorem plane_access {h : ℕ} {off : Fin 3 → ℕ} (inb : ∀ a, off a + S1x256x128.size a ≤ S4x256x128.size a) (ho : off = ![h, 0, 0]) :
    (dM.access (Rect.unit (s := S4x256x128) off S1x256x128.size inb)).set = Pl h := by
  subst ho
  exact (View.set_slice_whole cc0_scratch1 _).trans (plane_set inb)

/-- A rectangle's elements of one plane. -/
theorem sub_plane {h : ℕ} {off : Fin 3 → ℕ} {sz : Fin 3 → ℕ} (inb : ∀ a, off a + sz a ≤ S4x256x128.size a) (h0 : off 0 = h) (h1 : sz 0 = 1) :
    (dM.access (Rect.unit (s := S4x256x128) off sz inb)).set ⊆ Pl h := by
  have e : (dM.access (Rect.unit (s := S4x256x128) off sz inb)).set = (Rect.unit (s := S4x256x128) off sz inb).set := View.set_slice_whole cc0_scratch1 _
  rw [e]
  intro i hi
  have := Rect.mem_set_unit.mp hi 0
  rw [h0, h1] at this
  rw [mem_Pl]
  omega

/-- Reading the row sums of plane `h`. -/
theorem d_load {α : Type} {Q : α → sProp 𝕄} {k' : Vec F S1x256x1 .f32 → Prog (TpuEff nD τ sig (Elt F) Λ₀ .tc) α} (c : Dev nD) (h : Fin 4) (p : ℕ) (hp : p = h.val)
    {off : Fin 3 → ℕ} {inb : ∀ a, off a + S1x256x1.size a ≤ S4x256x128.size a} (ho : off = ![h.val, 0, 0]) {hl} :
    dP c (Pl p) (dsF m c) ⊢ iprop((dP c (Pl p) (dsF m c) -∗ Wp c (k' (dRd m c h)) Q)
      -∗ Wp c (.op (.load dM (Rect.unit (s := S4x256x128) off S1x256x1.size inb).toLoadRect hl) k') Q) := by
  subst ho hp
  unfold dP dRd
  iintro H Hk
  iapply (wp_load_rect 𝒱₀ (c : Thread nD τ) none Set.univ (hl := hl) (S := Pl h.val) (q := fullShare) (f := dsF m c) (sub_plane _ rfl rfl)) $$ [H]
  · iexact H
  iintro H
  iapply Hk
  iexact H

/-- A read of a whole plane whose value is not used. -/
theorem d_dead {α : Type} {Q : α → sProp 𝕄} {k' : Vec F S1x256x128 .f32 → Prog (TpuEff nD τ sig (Elt F) Λ₀ .tc) α} (c : Dev nD) (f : S4x256x128.Idx → F .f32)
    {inb : ∀ a, (![0, 0, 0] : Fin 3 → ℕ) a + S1x256x128.size a ≤ S4x256x128.size a} {hl} :
    dP c (Pl 0) f ⊢ iprop((∀ v, dP c (Pl 0) f -∗ Wp c (k' v) Q)
      -∗ Wp c (.op (.load dM (Rect.unit (s := S4x256x128) ![0, 0, 0] S1x256x128.size inb).toLoadRect hl) k') Q) := by
  unfold dP
  iintro H Hk
  iapply (wp_load_rect 𝒱₀ (c : Thread nD τ) none Set.univ (hl := hl) (S := Pl 0) (q := fullShare) (f := f) (sub_plane _ rfl rfl)) $$ [H]
  · iexact H
  iintro H
  iapply Hk
  iexact H

/-- Storing plane `0`. -/
theorem d_store {α : Type} {Q : α → sProp 𝕄} {k' : PUnit → Prog (TpuEff nD τ sig (Elt F) Λ₀ .tc) α} (c : Dev nD) (f g : S4x256x128.Idx → F .f32)
    {inb : ∀ a, (![0, 0, 0] : Fin 3 → ℕ) a + S1x256x128.size a ≤ S4x256x128.size a} {w : Vec F S1x256x128 .f32} {hx hm}
    (hw : ∀ x : S1x256x128.Idx, w x = g ((Rect.unit (s := S4x256x128) ![0, 0, 0] S1x256x128.size inb).emb x)) :
    dP c (Pl 0) f ⊢ iprop((dP c (Pl 0) g -∗ Wp c (k' ⟨⟩) Q)
      -∗ Wp c (.op (.store dM (Rect.unit (s := S4x256x128) ![0, 0, 0] S1x256x128.size inb) w Finset.univ hx hm) k') Q) := by
  have hset := plane_access (h := 0) inb rfl
  have hc : (((c : Thread nD τ).loc cc0_scratch1) ↦[Pl 0]{fullShare}
      ((dM.access (Rect.unit (s := S4x256x128) ![0, 0, 0] S1x256x128.size inb)).write (Elt F) f w Finset.univ : Buf (Elt F) ((c : Thread nD τ).loc cc0_scratch1)))
      ⊢ dP c (Pl 0) g := by
    unfold dP
    refine Entails.of_eq (pointsTo_congr fun i hi => ?_)
    have hi' : i ∈ (dM.access (Rect.unit (s := S4x256x128) ![0, 0, 0] S1x256x128.size inb)).set := by rw [hset]; exact hi
    obtain ⟨x, -, rfl⟩ := Finset.mem_map.mp hi'
    have := View.write_emb_of_mem (v := dM.access (Rect.unit (s := S4x256x128) ![0, 0, 0] S1x256x128.size inb)) (Val := Elt F) f w (Finset.mem_univ x)
    exact this.trans (hw x)
  unfold dP at hc ⊢
  iintro H Hk
  iapply (wp_store 𝒱₀ (c : Thread nD τ) none Set.univ (m := dM) (r := Rect.unit (s := S4x256x128) ![0, 0, 0] S1x256x128.size inb) (Mk := Finset.univ)
    (f := f) (S := Pl 0) (by rw [View.setOn_univ, hset])) $$ [H]
  · iexact H
  iintro H
  iapply Hk
  iapply hc
  iexact H

/-- The reciprocals of band `b` as read back. -/
def rdG (c : Dev nD) (b : ℕ) : Vec F S1x64x1 .f32 := fun x => ivB m c b (i2 ⟨(x 1).val, (x 1).isLt⟩ 0)

/-- Reading the reciprocals of band `b`. -/
theorem g_load {α : Type} {Q : α → sProp 𝕄} {k' : Vec F S1x64x1 .f32 → Prog (TpuEff nD τ sig (Elt F) Λ₀ .tc) α} (c : Dev nD) (b : ℕ)
    {off : Fin 3 → ℕ} {inb : ∀ a, off a + S1x64x1.size a ≤ S4x256x128.size a} (ho : off = ![0, 64 * b, 0]) {hl} :
    dP c (Pl 0) (dsG m c) ⊢ iprop((dP c (Pl 0) (dsG m c) -∗ Wp c (k' (rdG m c b)) Q)
      -∗ Wp c (.op (.load dM (Rect.unit (s := S4x256x128) off S1x64x1.size inb).toLoadRect hl) k') Q) := by
  subst ho
  have hb : 64 * b + 64 ≤ 256 := inb 1
  have hv : (dM.access (Rect.unit (s := S4x256x128) ![0, 64 * b, 0] S1x64x1.size inb)).read (Elt F) (dsG m c) = rdG m c b := by
    funext x
    have hx : (x 1).val < 64 := (x 1).isLt
    show invV m c _ = invV m c _
    congr 1
    funext a
    match a with
    | 0 => exact Fin.ext (by show 64 * b + 1 * (x 1).val = (64 * b + (x 1).val) % 256; omega)
    | 1 => rfl
  rw [← hv]
  unfold dP
  iintro H Hk
  iapply (wp_load_rect 𝒱₀ (c : Thread nD τ) none Set.univ (hl := hl) (S := Pl 0) (q := fullShare) (f := dsG m c) (sub_plane _ rfl rfl)) $$ [H]
  · iexact H
  iintro H
  iapply Hk
  iexact H

theorem pay15_eq (c : Dev nD) (b : ℕ) : k0_pay15 (rdG m c b) = ivB m c b := by
  funext x
  have hx : x = (ValueIdx.ix2 ⟨(x 0).val, (x 0).isLt⟩ (0 : Fin 1) : S64x1.Idx) := by
    funext a
    match a with
    | 0 => rfl
    | 1 => exact Fin.ext (by have : (x 1).val < 1 := (x 1).isLt; show (x 1).val = 0; omega)
  rw [hx]
  refine (ValueIdx.shapeCast_1ab_ab_apply (a := 64) (b := 1) (rdG m c b) _ _ _).trans ?_
  show ivB m c b _ = ivB m c b _
  congr 1
  funext a
  match a with
  | 0 => rfl
  | 1 => rfl

theorem pay16_eq (c : Dev nD) (b : ℕ) : k0_pay16 (rdG m c b) = ivB m c b := pay15_eq m c b
theorem pay17_eq (c : Dev nD) (b : ℕ) : k0_pay17 (rdG m c b) = ivB m c b := pay15_eq m c b
theorem pay18_eq (c : Dev nD) (b : ℕ) : k0_pay18 (rdG m c b) = ivB m c b := pay15_eq m c b

end Cert.KernelIdeal.Pf
-- ==== Proof.FrontB.lean ====
module

public import proofs.«01_k».proof.Proof.Front

@[expose] public section

/-!
# Parts 1 to 9 of the kernel
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- A column of row values spread over a plane. -/
theorem plane_val {α : Type} (v : S256x1.Idx → α) (x : S1x256x128.Idx) :
    shapeCast S1x256x128 (broadcastTo S256x128 (shapeCast S256x1 v shapeCasts_S256x1_S256x1) broadcasts_S256x1_S256x128) shapeCasts_S256x128_S1x256x128 x
      = v (i2 ⟨(x 1).val, (x 1).isLt⟩ 0) := by
  have hx : x = (ValueIdx.ix3 (0 : Fin 1) ⟨(x 1).val, (x 1).isLt⟩ ⟨(x 2).val, (x 2).isLt⟩ : S1x256x128.Idx) := by
    funext a
    match a with
    | 0 => exact Fin.ext (by have : (x 0).val < 1 := (x 0).isLt; show (x 0).val = 0; omega)
    | 1 => rfl
    | 2 => rfl
  rw [hx]
  refine (ValueIdx.shapeCast_ab_1ab_apply (a := 256) (b := 128) _ _ _ _ _).trans ?_
  rw [shapeCast_self]
  show v _ = v _
  congr 1
  funext a
  match a with
  | 0 => rfl
  | 1 => rfl

theorem dPl_emb (c : Dev nD) {inb : ∀ a, (![0, 0, 0] : Fin 3 → ℕ) a + S1x256x128.size a ≤ S4x256x128.size a} (x : S1x256x128.Idx) :
    dPl m c x = dsF m c ((Rect.unit (s := S4x256x128) ![0, 0, 0] S1x256x128.size inb).emb x) := by
  have h0 : (x 0).val = 0 := by have : (x 0).val < 1 := (x 0).isLt; omega
  unfold dsF
  have e : ((Rect.unit (s := S4x256x128) ![0, 0, 0] S1x256x128.size inb).emb x 0).val = 0 := by
    show 0 + 1 * (x 0).val = 0; omega
  rw [e]
  show dPl m c x = dPl m c _
  congr 1
  funext a
  match a with
  | 0 => exact Fin.ext h0
  | 1 => exact Fin.ext (by show (x 1).val = 0 + 1 * (x 1).val; omega)
  | 2 => exact Fin.ext (by show (x 2).val = 0 + 1 * (x 2).val; omega)

theorem dsG_emb (c : Dev nD) {inb : ∀ a, (![0, 0, 0] : Fin 3 → ℕ) a + S1x256x128.size a ≤ S4x256x128.size a} (x : S1x256x128.Idx) :
    k0_pay14 (d3 m c) (d4 m c) x = dsG m c ((Rect.unit (s := S4x256x128) ![0, 0, 0] S1x256x128.size inb).emb x) := by
  have h0 : (x 0).val = 0 := by have : (x 0).val < 1 := (x 0).isLt; omega
  refine (plane_val (invV m c) x).trans ?_
  show invV m c _ = invV m c _
  congr 1
  funext a
  match a with
  | 0 => exact Fin.ext (by show (x 1).val = 0 + 1 * (x 1).val; omega)
  | 1 => rfl

/-- Part 1 of the kernel. -/
theorem part1 (c : Dev nD) {Q : (Σ' (d0 : Dev nD) (v2 : BitVec 32) (v5 : BitVec 32) (v8 : BitVec 32) (v19 : BitVec 32) (v30 : BitVec 32) (v32 : BitVec 32) (v33 : BitVec 32), BitVec 1) → sProp 𝕄} :
    iprop(∀ w2 w5 w8 w19 w30 w32 w33 w34, Q ⟨c, w2, w5, w8, w19, w30, w32, w33, w34⟩)
      ⊢ Wp c (k0_part1 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13) Q := by
  rw [k0_part1_eq_skeleton]; unfold k0_part1_skel Wp
  simp only [Prog.lift, Prog.bind_op, Prog.bind_ret, Prog.pure_eq_ret, wp_deviceId]
  iintro Hk
  iapply (Wp_ret c)
  iapply Hk

/-- One signal of the barrier. -/
theorem st_sig {α : Type} {Q : α → sProp 𝕄} {k' : PUnit → Prog (TpuEff nD τ sig (Elt F) Λ₀ .tc) α} (c n : Dev nD) (d : Dt) (O : CellTallies nD τ sig Unit) :
    iprop(Recs m K ∗ (∃ W, owes (c : Thread nD τ) (O + tallyAt (bC n) () 1) W) ∗ dutyTok ER (bC n) 0 d ∗ bP n d)
      ⊢ iprop(((∃ W, owes (c : Thread nD τ) O W) -∗ Wp c (k' ⟨⟩) Q)
          -∗ Wp c (.op (.semSignal (n : Thread nD τ) barS (1#32).toNat) k') Q) := by
  iintro ⟨#HR, ⟨%W, HO⟩, Ht, HP⟩ Hk
  ihave #H := (Recs_at m K (n, none)) $$ HR
  icases H with ⟨-, #Hc, #Hr⟩
  ihave HP := (Entails.of_eq (payload_bar m n d).symm) $$ HP
  iapply (Rounds.wp_signal 𝒱₀ ER (Rd m) (c : Thread nD τ) none (dst := (n : Thread nD τ)) (κ := K (n, none)) (d := d)
    (by rw [duties_bar]; exact Finset.mem_univ _) ((amount_bar m n d).trans (by decide)) () O rfl) $$ [HO Ht HP]
  · isplitr; · iexact Hc
    isplitl [HO]; · iexact HO
    isplitl [Ht]; · iexact Ht
    isplitl [HP]; · iexact HP
    iexact Hr
  iintro HO
  iapply Hk
  iexists W; iexact HO

/-- Part 2 of the kernel. -/
theorem part2 (c : Dev nD) (v2 v8 v19 v30 v32 v33 : BitVec 32) (v34 : BitVec 1) {Q : (Σ' (v40 : BitVec 32) (v43 : BitVec 32) (v44 : BitVec 32) (v46 : BitVec 32) (v48 : BitVec 32) (v51 : BitVec 32) (v54 : BitVec 32) (v55 : Sems sig S_) (v68 : BitVec 32), BitVec 32) → sProp 𝕄} :
    iprop(Recs m K ∗ (∃ W, owes (c : Thread nD τ) (O₀ c) W) ∗ (dutyTok ER (bC (lf c)) 0 0 ∗ bP (lf c) 0) ∗ (dutyTok ER (bC (rt c)) 0 3 ∗ bP (rt c) 3))
      ⊢ iprop((∀ w40 w43 w44 w46 w48 w51 w54 w68, (∃ W, owes (c : Thread nD τ) (O₂ c) W) -∗ Q ⟨w40, w43, w44, w46, w48, w51, w54, SemArray.scalar (sig.barrier 3 rfl), w68, 0#32⟩)
          -∗ Wp c (k0_part2 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v8 v19 v30 v32 v33 v34) Q) := by
  rw [k0_part2_eq_skeleton]; unfold k0_part2_skel
  simp only [semSignalWord, semWaitWord, Prog.lift, Prog.bind_op, Prog.bind_ret, Prog.pure_eq_ret]
  iintro ⟨#HR, HO, HA, HB⟩ Hk
  unfold O₀ O₃
  rw [dev1_eq c]
  iapply (st_sig m K c (lf c) 0 (O₃ c)) $$ [HO HA]
  · isplitr; · iexact HR
    isplitl [HO]; · iexact HO
    icases HA with ⟨H1, H2⟩
    isplitl [H1]; · iexact H1
    iexact H2
  iintro HO
  rw [dev2_eq c]
  iapply (st_sig m K c (rt c) 3 (O₂ c)) $$ [HO HB]
  · isplitr; · iexact HR
    isplitl [HO]; · iexact HO
    icases HB with ⟨H1, H2⟩
    isplitl [H1]; · iexact H1
    iexact H2
  iintro HO
  iapply (Wp_ret c)
  iapply Hk
  iexact HO

/-- Part 3 of the kernel. -/
theorem part3 (c : Dev nD) (v2 v5 v8 v43 v46 v68 c0_i32_42 : BitVec 32) {Q : (Σ' (v80 : FVec F S256x1 .f32) (v83 : FVec F S256x512 .bf16) (v88 : FVec F S256x2048 .f32), BitVec 32) → sProp 𝕄} :
    iprop(Recs m K ∗ (∃ W, owes (c : Thread nD τ) (O₂ c) W) ∗ (dutyTok ER (bC (px c)) 0 1 ∗ bP (px c) 1) ∗ (dutyTok ER (bC (pz c)) 0 2 ∗ bP (pz c) 2)
      ∗ atPos ER (bC c) 0 ∅ 0 ∗ cred (tallyAt (bC c) () 4) ∗ bigSepL sord (SK0 c) ∗ Rx c 0 ∗ OutSt m c [] ∗ XS m c ∗ WS m c ∗ OwnR c 0)
      ⊢ iprop((∀ w, (semVal (bC c) 0 ∗ XS m c ∗ WS m c ∗ St m K c 0 0 [] [] [0] [] [0] []) -∗ Q ⟨k0_pay1, k0_pay2 (xV m c), k0_pay3 (xV m c) (wV0 m c), w⟩)
          -∗ Wp c (k0_part3 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v43 v46 (SemArray.scalar (sig.barrier 3 rfl)) v68 c0_i32_42) Q) := by
  rw [k0_part3_eq_skeleton]; unfold k0_part3_skel
  simp only [semSignalWord, semWaitWord, Prog.lift, Prog.bind_op, Prog.bind_ret, Prog.pure_eq_ret]
  iintro ⟨#HR, HO, HA, HB, Hat, Hcr, HSK, HRx, HOut, HX, HW, HOw⟩ Hk
  unfold O₂ O₁
  rw [dev3_eq c]
  iapply (st_sig m K c (px c) 1 (O₁ c)) $$ [HO HA]
  · isplitr; · iexact HR
    isplitl [HO]; · iexact HO
    icases HA with ⟨H1, H2⟩
    isplitl [H1]; · iexact H1
    iexact H2
  iintro HO
  rw [dev4_eq c]
  iapply (st_sig m K c (pz c) 2 (osum c sord)) $$ [HO HB]
  · isplitr; · iexact HR
    isplitl [HO]; · iexact HO
    icases HB with ⟨H1, H2⟩
    isplitl [H1]; · iexact H1
    iexact H2
  iintro HO
  ihave #Hb := (Recs_at m K (c, none)) $$ HR
  icases Hb with ⟨#HL, #Hc, -⟩
  icases HO with ⟨%W, HO⟩
  iapply (Rounds.wp_wait_rest_token 𝒱₀ ER (Rd m) (c : Thread nD τ) none (κ := K (c, none)) (wpE_semWait_eq 𝒱₀ (c : Thread nD τ) none Set.univ) (Set.mem_univ _) ()
    (O := osum c sord) (W := W) (R := 0) (m := 0) (T := ∅) (by rw [expect_bar]; decide)) $$ [Hcr HO Hat]
  · isplitr; · iexact Hc
    isplitl [Hcr]; · iexact Hcr
    isplitl [HO]; · iexact HO
    isplitr
    · iapply (mayWait_osum c (.reg barS) sord (by decide : ∀ k ∈ sord, 1 < rlev k))
      iexact HL
    iexact Hat
  iintro ⟨HO, Hat, -, Hpay⟩
  ihave Hp := (Entails.of_eq (rest_bar m c)) $$ Hpay
  ihave Hp := (bars_LP c) $$ Hp
  imod (Rounds.cell_close ER (Rd m) (Set.mem_univ (K (c, none))) (fun h => h) (R := 0 + 1) (duties_later m (bC c))) $$ [Hat] with Hz
  · isplitr; · iexact Hc
    iexact Hat
  ihave HSK := (SK_of c) $$ [HSK Hp]
  · isplitl [HSK]; · iexact HSK
    iexact Hp
  iapply (x_load m c) $$ HX
  iintro HX
  iapply (w_load0 m c) $$ HW
  iintro HW
  iapply (own_dead c 0 (by decide) (off1_eq0 c)) $$ HOw
  iintro %u HOw
  iapply (st_own m K c 0 0 0 rfl (by decide) 0 0 [] [] [] [] [] rfl (off1_eq0 c) (show k0_pay4 (xV m c) (wV0 m c) = eBf m c 0 from rfl)) $$ [HO HSK HRx HOut HOw]
  · isplitr [HOw]
    · unfold St Tx
      isplitr; · iexact HR
      isplitl [HO HSK]
      · isplitl [HO]; · iexists _; iexact HO
        isplitl [HSK]; · iexact HSK
        isplitr; · rw [bigSepL_nil]; iempintro
        rw [bigSepL_nil]; iempintro
      isplitl [HRx]; · iexact HRx
      isplitr; · rw [bigSepL_nil]; iempintro
      isplitl [HOut]; · iexact HOut
      isplitr; · rw [bigSepL_nil]; iempintro
      rw [bigSepL_nil]; iempintro
    iexact HOw
  iintro HS
  iapply (Wp_ret c)
  iapply Hk
  isplitl [Hz]; · iexact Hz
  isplitl [HX]; · iexact HX
  isplitl [HW]; · iexact HW
  iexact HS

/-- Part 4 of the kernel. -/
theorem part4 (c : Dev nD) (v2 v5 v8 v30 v46 c16_i32_63 : BitVec 32) {Q : (Σ' (v113 : FVec F S256x1 .f32), FVec F S256x2048 .f32) → sProp 𝕄} :
    iprop(St m K c 0 0 [] [] [0] [] [0] [] ∗ OwnR c 1 ∗ WS m c)
      ⊢ iprop(((WS m c ∗ St m K c 1 0 [0] [] [1, 0] [] [1] []) -∗ Q ⟨(k0_pay5 k0_pay1 (k0_pay3 (xV m c) (wV0 m c))), (k0_pay6 (k0_pay2 (xV m c)) (wV1 m c))⟩)
          -∗ Wp c (k0_part4 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v46 k0_pay1 (k0_pay2 (xV m c)) (k0_pay3 (xV m c) (wV0 m c)) c16_i32_63) Q) := by
  rw [k0_part4_eq_skeleton]; unfold k0_part4_skel
  simp only [Prog.lift, Prog.bind_op, Prog.bind_ret, Prog.pure_eq_ret]
  iintro ⟨HS, HOw, HW⟩ Hk
  iapply (st_send m K c 0 0 0 [] [0] [] [0] [] [0] [] [] rfl rfl (by decide) rfl (dev5_eq c) (off2_eq c 0) ⟨rfl, rfl⟩ rfl rfl rfl) $$ HS
  iintro HS
  iapply (w_load1 m c) $$ HW
  iintro HW
  iapply (own_dead c 1 (by decide) (off1_eq1 c)) $$ HOw
  iintro %u HOw
  iapply (st_own m K c 1 1 1 rfl (by decide) 1 0 [0] [] [0] [] [] rfl (off1_eq1 c) (show k0_pay7 (k0_pay2 (xV m c)) (wV1 m c) = eBf m c 1 from rfl)) $$ [HS HOw]
  · isplitl [HS]; · iexact HS
    iexact HOw
  iintro HS
  iapply (Wp_ret c)
  iapply Hk
  isplitl [HW]; · iexact HW
  iexact HS

/-- Part 5 of the kernel. -/
theorem part5 (c : Dev nD) (v2 v8 v30 : BitVec 32) {Q : (FVec F S256x1 .f32) → sProp 𝕄} :
    iprop(St m K c 1 0 [0] [] [1, 0] [] [1] [] ∗ PlR c 0)
      ⊢ iprop((St m K c 3 0 [30, 1, 0] [] [1, 0] [] [] [] -∗ Q (dV m c))
          -∗ Wp c (k0_part5 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v8 v30 (k0_pay5 k0_pay1 (k0_pay3 (xV m c) (wV0 m c))) (k0_pay6 (k0_pay2 (xV m c)) (wV1 m c))) Q) := by
  rw [k0_part5_eq_skeleton]; unfold k0_part5_skel
  simp only [Prog.lift, Prog.bind_op, Prog.bind_ret, Prog.pure_eq_ret]
  unfold PlR
  iintro ⟨HS, ⟨%f, HP⟩⟩ Hk
  iapply (st_send m K c 1 1 0 [0] [1, 0] [] [1, 0] [] [1] [] [] rfl rfl (by decide) rfl (dev6_eq c) (off2_eq c 1) ⟨rfl, rfl⟩ rfl rfl rfl) $$ HS
  iintro HS
  iapply (d_dead c f) $$ HP
  iintro %u HP
  iapply (d_store c f (dsF m c) (fun x => dPl_emb m c x)) $$ HP
  iintro HP0
  iapply (st_send_d m K c 0 0 rfl 30 rfl 2 0 [1, 0] [30, 1, 0] [] [1, 0] [] [] [] rfl (dev7_eq c) rfl rfl rfl rfl rfl) $$ [HS HP0]
  · isplitl [HS]; · iexact HS
    iexact HP0
  iintro HS
  iapply (Wp_ret_eq c (b := dV m c) rfl)
  iapply Hk
  iexact HS

/-- Part 6 of the kernel. -/
theorem part6 (c : Dev nD) (v2 v8 v30 : BitVec 32) {Q : (FVec F S256x1 .f32) → sProp 𝕄} :
    St m K c 3 0 [30, 1, 0] [] [1, 0] [] [] []
      ⊢ iprop(((dP c (Pl 0) (dsF m c) ∗ St m K c 4 1 [31, 1, 0] [30] [1, 0] [] [] []) -∗ Q (d2 m c))
          -∗ Wp c (k0_part6 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v8 v30 (dV m c)) Q) := by
  rw [k0_part6_eq_skeleton]; unfold k0_part6_skel
  simp only [Prog.lift, Prog.bind_op, Prog.bind_ret, Prog.pure_eq_ret]
  iintro HS Hk
  iapply (st_waits_d m K c 0 0 rfl 30 rfl 3 0 [30, 1, 0] [1, 0] [] [30] [1, 0] [] [] [] rfl rfl rfl rfl) $$ HS
  iintro ⟨HS, HP0⟩
  iapply (st_recv_d m K c 0 1 rfl 30 rfl 3 0 [1, 0] [30] [1, 0] [] [] [] rfl rfl (by decide) rfl rfl) $$ HS
  iintro ⟨HS, HP1⟩
  iapply (d_load m c 1 1 rfl rfl) $$ HP1
  iintro HP1
  iapply (st_send_d m K c 1 1 rfl 31 rfl 3 1 [1, 0] [31, 1, 0] [30] [1, 0] [] [] [] rfl (dev8_eq c) rfl rfl rfl rfl rfl) $$ [HS HP1]
  · isplitl [HS]; · iexact HS
    iexact HP1
  iintro HS
  iapply (Wp_ret_eq c (b := d2 m c) rfl)
  iapply Hk
  isplitl [HP0]; · iexact HP0
  iexact HS

/-- Part 7 of the kernel. -/
theorem part7 (c : Dev nD) (v2 v8 v30 : BitVec 32) {Q : (Σ' (v218 : FVec F S256x1 .f32) (v222 : BitVec 32), BitVec 32) → sProp 𝕄} :
    St m K c 4 1 [31, 1, 0] [30] [1, 0] [] [] []
      ⊢ iprop((∀ w1 w2, (dP c (Pl 1) (dsF m c) ∗ dP c (Pl 2) (dsF m c) ∗ St m K c 4 2 [1, 0] [31, 30] [1, 0] [] [] []) -∗ Q ⟨d3 m c, w1, w2⟩)
          -∗ Wp c (k0_part7 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 v2 v8 v30 (d2 m c)) Q) := by
  rw [k0_part7_eq_skeleton]; unfold k0_part7_skel
  simp only [Prog.lift, Prog.bind_op, Prog.bind_ret, Prog.pure_eq_ret]
  iintro HS Hk
  iapply (st_waits_d m K c 1 1 rfl 31 rfl 4 1 [31, 1, 0] [1, 0] [30] [31, 30] [1, 0] [] [] [] rfl rfl rfl rfl) $$ HS
  iintro ⟨HS, HP1⟩
  iapply (st_recv_d m K c 1 2 rfl 31 rfl 4 1 [1, 0] [31, 30] [1, 0] [] [] [] rfl rfl (by decide) rfl rfl) $$ HS
  iintro ⟨HS, HP2⟩
  iapply (d_load m c 2 2 rfl rfl) $$ HP2
  iintro HP2
  iapply (Wp_ret_eq c (b := ⟨d3 m c, _, _⟩) (by unfold d3; rfl))
  iapply Hk
  isplitl [HP1]; · iexact HP1
  isplitl [HP2]; · iexact HP2
  iexact HS

/-- Part 8 of the kernel. -/
theorem part8 (c : Dev nD) (v2 v8 v30 v222 v223 : BitVec 32) {Q : (FVec F S256x1 .f32) → sProp 𝕄} :
    iprop(dP c (Pl 2) (dsF m c) ∗ St m K c 4 2 [1, 0] [31, 30] [1, 0] [] [] [])
      ⊢ iprop(((dP c (Pl 2) (dsF m c) ∗ dP c (Pl 3) (dsF m c) ∗ St m K c 5 3 [1, 0] [32, 31, 30] [1, 0] [] [] []) -∗ Q (d4 m c))
          -∗ Wp c (k0_part8 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v8 v30 v222 v223) Q) := by
  rw [k0_part8_eq_skeleton]; unfold k0_part8_skel
  simp only [Prog.lift, Prog.bind_op, Prog.bind_ret, Prog.pure_eq_ret]
  iintro ⟨HP2, HS⟩ Hk
  iapply (st_send_d m K c 2 2 rfl 32 rfl 4 2 [1, 0] [32, 1, 0] [31, 30] [1, 0] [] [] [] rfl (dev9_eq c) rfl rfl rfl rfl rfl) $$ [HS HP2]
  · isplitl [HS]; · iexact HS
    iexact HP2
  iintro HS
  iapply (st_waits_d m K c 2 2 rfl 32 rfl 5 2 [32, 1, 0] [1, 0] [31, 30] [32, 31, 30] [1, 0] [] [] [] rfl rfl rfl rfl) $$ HS
  iintro ⟨HS, HP2⟩
  iapply (st_recv_d m K c 2 3 rfl 32 rfl 5 2 [1, 0] [32, 31, 30] [1, 0] [] [] [] rfl rfl (by decide) rfl rfl) $$ HS
  iintro ⟨HS, HP3⟩
  iapply (d_load m c 3 3 rfl rfl) $$ HP3
  iintro HP3
  iapply (Wp_ret_eq c (b := d4 m c) rfl)
  iapply Hk
  isplitl [HP2]; · iexact HP2
  isplitl [HP3]; · iexact HP3
  iexact HS

/-- Part 9 of the kernel. -/
theorem part9 (c : Dev nD) (v5 v46 v48 v51 v54 : BitVec 32) {Q : (Σ' (v255 : FVec F S256x1 .f32) (v264 : FVec F S64x1 .f32) (v268 : FVec F S64x1 .f32) (v272 : FVec F S64x1 .f32) (v276 : FVec F S64x1 .f32), BitVec 32) → sProp 𝕄} :
    iprop(dP c (Pl 0) (dsF m c) ∗ St m K c 5 3 [1, 0] [32, 31, 30] [1, 0] [] [] [])
      ⊢ iprop((∀ w, (dP c (Pl 0) (dsG m c) ∗ St m K c 5 3 [1, 0] [32, 31, 30] [1, 0] [0] [] []) -∗ Q ⟨invV m c, ivB m c (bMine c), ivB m c (bX c), ivB m c (bZ c), ivB m c (bD c), w⟩)
          -∗ Wp c (k0_part9 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v46 v48 v51 v54 (d3 m c) (d4 m c)) Q) := by
  rw [k0_part9_eq_skeleton]; unfold k0_part9_skel
  simp only [Prog.lift, Prog.bind_op, Prog.bind_ret, Prog.pure_eq_ret]
  iintro ⟨HP, HS⟩ Hk
  iapply (d_dead c (dsF m c)) $$ HP
  iintro %u HP
  iapply (d_store c (dsF m c) (dsG m c) (fun x => dsG_emb m c x)) $$ HP
  iintro HP
  iapply (g_load m c (bMine c) (off3_eq c)) $$ HP
  iintro HP
  iapply (g_load m c (bX c) (off4_eq c)) $$ HP
  iintro HP
  iapply (g_load m c (bZ c) (off5_eq c)) $$ HP
  iintro HP
  iapply (g_load m c (bD c) (off6_eq c)) $$ HP
  iintro HP
  iapply (st_load_own m K c 0 0 rfl (by decide) 5 3 [1, 0] [32, 31, 30] [1, 0] [1] [] [] [] (by decide) (by decide) (off1_eq0 c)) $$ HS
  iintro HS
  iapply (st_dead m K c 5 3 [1, 0] [32, 31, 30] [1, 0] [] [] []) $$ HS
  iintro %u' HS
  iapply (st_store m K c 0 5 3 [1, 0] [32, 31, 30] [1, 0] [] [0] [] [] rfl (off1_eq0 c) ⟨rfl, rfl⟩ (at_off (off1_eq0 c) fun inb x => oW_out m c 0 inb x)) $$ HS
  iintro HS
  iapply (Wp_ret_eq c (b := ⟨invV m c, ivB m c (bMine c), ivB m c (bX c), ivB m c (bZ c), ivB m c (bD c), _⟩)
    (by rw [pay15_eq, pay16_eq, pay17_eq, pay18_eq]; rfl))
  iapply Hk
  isplitl [HP]; · iexact HP
  iexact HS

end Cert.KernelIdeal.Pf
-- ==== Proof.PartsA.lean ====
module

public import proofs.«01_k».proof.Proof.Acc

@[expose] public section

/-!
# The blocks around the ring, first half
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- Part 10 of the kernel. -/
theorem part10 (c : Dev nD) (v2 v5 v8 v30 v46 v287 : BitVec 32) {Q : (BitVec 32) → sProp 𝕄} :
    St m K c 5 3 [1, 0] [32, 31, 30] [1, 0] [0] [] []
      ⊢ iprop((∀ w1, St m K c 5 4 [1, 0] [32, 31, 30] [2, 1, 0] [1, 0] [2, 6, 12] [] -∗ Q w1)
          -∗ Wp c (k0_part10 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v46 (invV m c) v287) Q) := by
  rw [k0_part10_eq_skeleton]; unfold k0_part10_skel
  simp only [Prog.lift, Prog.bind_op, Prog.bind_ret, Prog.pure_eq_ret]
  iintro HS Hk
  iapply (st_load_own m K c 1 1 rfl (by decide) 5 3 [1, 0] [32, 31, 30] [1, 0] [0] [0] [] [] (by decide) (by decide) (off1_eq1 c)) $$ HS
  iintro HS
  iapply (st_dead m K c 5 3 [1, 0] [32, 31, 30] [1, 0] [0] [] []) $$ HS
  iintro %u HS
  iapply (st_store m K c 1 5 3 [1, 0] [32, 31, 30] [1, 0] [0] [1, 0] [] [] rfl (off1_eq1 c) ⟨rfl, rfl⟩ (at_off (off1_eq1 c) fun inb x => oW_out m c 1 inb x)) $$ HS
  iintro HS
  iapply (st_recv m K c 0 2 5 3 [1, 0] [32, 31, 30] [1, 0] [2, 1, 0] [1, 0] [2, 6, 12] [] (by decide) rfl rfl rfl rfl rfl (by decide) rfl rfl) $$ HS
  iintro HS
  iapply (Wp_ret c)
  iapply Hk
  iexact HS

/-- Part 11 of the kernel. -/
theorem part11 (c : Dev nD) (v2 v5 v8 v30 v44 v46 v306 : BitVec 32) {Q : (BitVec 32) → sProp 𝕄} :
    St m K c 5 4 [1, 0] [32, 31, 30] [2, 1, 0] [1, 0] [2, 6, 12] []
      ⊢ iprop((∀ w1, St m K c 7 4 [6, 2, 1, 0] [32, 31, 30] [2, 1, 0] [1, 0] [12] [] -∗ Q w1)
          -∗ Wp c (k0_part11 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v44 v46 v306) Q) := by
  rw [k0_part11_eq_skeleton]; unfold k0_part11_skel
  simp only [Prog.lift, Prog.bind_op, Prog.bind_ret, Prog.pure_eq_ret]
  iintro HS Hk
  iapply (st_send m K c 2 5 4 [1, 0] [2, 1, 0] [32, 31, 30] [2, 1, 0] [1, 0] [2, 6, 12] [6, 12] [] rfl rfl (by decide) rfl (dev10_eq c) ((off7_eq c 0 0).trans ((sOff_fwd c 0).2.2 (by decide)).symm) ⟨rfl, rfl⟩ rfl rfl rfl) $$ HS
  iintro HS
  iapply (st_send m K c 6 6 4 [2, 1, 0] [6, 2, 1, 0] [32, 31, 30] [2, 1, 0] [1, 0] [6, 12] [12] [] rfl rfl (by decide) rfl (dev11_eq c) ((off7_eq c 0 0).trans (sOff_fwd c 0).1.symm) ⟨rfl, rfl⟩ rfl rfl rfl) $$ HS
  iintro HS
  iapply (Wp_ret c)
  iapply Hk
  iexact HS

/-- Part 12 of the kernel. -/
theorem part12 (c : Dev nD) (v2 v5 v8 v30 v43 v46 v306 v353 : BitVec 32) {Q : (BitVec 32) → sProp 𝕄} :
    St m K c 7 4 [6, 2, 1, 0] [32, 31, 30] [2, 1, 0] [1, 0] [12] []
      ⊢ iprop((∀ w1, St m K c 8 5 [12, 6, 2, 1, 0] [32, 31, 30] [3, 2, 1, 0] [2, 1, 0] [3, 7, 13] [] -∗ Q w1)
          -∗ Wp c (k0_part12 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v43 v46 (ivB m c (bMine c)) v306 v353) Q) := by
  rw [k0_part12_eq_skeleton]; unfold k0_part12_skel
  simp only [Prog.lift, Prog.bind_op, Prog.bind_ret, Prog.pure_eq_ret]
  iintro HS Hk
  iapply (st_send m K c 12 7 4 [6, 2, 1, 0] [12, 6, 2, 1, 0] [32, 31, 30] [2, 1, 0] [1, 0] [12] [] [] rfl rfl (by decide) rfl (dev12_eq c) ((off7_eq c 0 0).trans (sOff_fwd c 0).2.1.symm) ⟨rfl, rfl⟩ rfl rfl rfl) $$ HS
  iintro HS
  iapply (st_load m K c 2 8 4 [12, 6, 2, 1, 0] [32, 31, 30] [2, 1, 0] [1, 0] [1, 0] [] [] rfl (by decide) (off8_eq c 0 0)) $$ HS
  iintro HS
  iapply (st_dead m K c 8 4 [12, 6, 2, 1, 0] [32, 31, 30] [2, 1, 0] [1, 0] [] []) $$ HS
  iintro %u HS
  iapply (st_store m K c 2 8 4 [12, 6, 2, 1, 0] [32, 31, 30] [2, 1, 0] [1, 0] [2, 1, 0] [] [] rfl (off8_eq c 0 0) ⟨rfl, rfl⟩ (at_off (off8_eq c 0 0) fun inb x => oV_out m c (bMine c) 2 (by decide) rfl inb x)) $$ HS
  iintro HS
  iapply (st_recv m K c 1 3 8 4 [12, 6, 2, 1, 0] [32, 31, 30] [2, 1, 0] [3, 2, 1, 0] [2, 1, 0] [3, 7, 13] [] (by decide) rfl rfl rfl rfl rfl (by decide) rfl rfl) $$ HS
  iintro HS
  iapply (Wp_ret c)
  iapply Hk
  iexact HS

/-- Part 13 of the kernel. -/
theorem part13 (c : Dev nD) (v2 v5 v8 v30 v44 v46 v306 v391 : BitVec 32) {Q : (PUnit) → sProp 𝕄} :
    St m K c 8 5 [12, 6, 2, 1, 0] [32, 31, 30] [3, 2, 1, 0] [2, 1, 0] [3, 7, 13] []
      ⊢ iprop((St m K c 10 5 [7, 3, 12, 6, 2, 1, 0] [32, 31, 30] [3, 2, 1, 0] [2, 1, 0] [13] [] -∗ Q ⟨⟩)
          -∗ Wp c (k0_part13 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v44 v46 v306 v391) Q) := by
  rw [k0_part13_eq_skeleton]; unfold k0_part13_skel
  simp only [Prog.lift, Prog.bind_op, Prog.bind_ret, Prog.pure_eq_ret]
  iintro HS Hk
  iapply (st_send m K c 3 8 5 [12, 6, 2, 1, 0] [3, 12, 6, 2, 1, 0] [32, 31, 30] [3, 2, 1, 0] [2, 1, 0] [3, 7, 13] [7, 13] [] rfl rfl (by decide) rfl (dev13_eq c) ((off7_eq c 0 1).trans ((sOff_fwd c 1).2.2 (by decide)).symm) ⟨rfl, rfl⟩ rfl rfl rfl) $$ HS
  iintro HS
  iapply (st_send m K c 7 9 5 [3, 12, 6, 2, 1, 0] [7, 3, 12, 6, 2, 1, 0] [32, 31, 30] [3, 2, 1, 0] [2, 1, 0] [7, 13] [13] [] rfl rfl (by decide) rfl (dev14_eq c) ((off7_eq c 0 1).trans (sOff_fwd c 1).1.symm) ⟨rfl, rfl⟩ rfl rfl rfl) $$ HS
  iintro HS
  iapply (Wp_ret c)
  iapply Hk
  iexact HS

/-- Part 14 of the kernel. -/
theorem part14 (c : Dev nD) (v2 v5 v43 v46 v306 : BitVec 32) {Q : (BitVec 32) → sProp 𝕄} :
    St m K c 10 5 [7, 3, 12, 6, 2, 1, 0] [32, 31, 30] [3, 2, 1, 0] [2, 1, 0] [13] []
      ⊢ iprop((∀ w1, St m K c 11 5 [13, 7, 3, 12, 6, 2, 1, 0] [32, 31, 30] [3, 2, 1, 0] [3, 2, 1, 0] [] [] -∗ Q w1)
          -∗ Wp c (k0_part14 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v43 v46 (ivB m c (bMine c)) v306) Q) := by
  rw [k0_part14_eq_skeleton]; unfold k0_part14_skel
  simp only [Prog.lift, Prog.bind_op, Prog.bind_ret, Prog.pure_eq_ret]
  iintro HS Hk
  iapply (st_send m K c 13 10 5 [7, 3, 12, 6, 2, 1, 0] [13, 7, 3, 12, 6, 2, 1, 0] [32, 31, 30] [3, 2, 1, 0] [2, 1, 0] [13] [] [] rfl rfl (by decide) rfl (dev15_eq c) ((off7_eq c 0 1).trans (sOff_fwd c 1).2.1.symm) ⟨rfl, rfl⟩ rfl rfl rfl) $$ HS
  iintro HS
  iapply (st_load m K c 3 11 5 [13, 7, 3, 12, 6, 2, 1, 0] [32, 31, 30] [3, 2, 1, 0] [2, 1, 0] [2, 1, 0] [] [] rfl (by decide) (off8_eq c 0 1)) $$ HS
  iintro HS
  iapply (st_dead m K c 11 5 [13, 7, 3, 12, 6, 2, 1, 0] [32, 31, 30] [3, 2, 1, 0] [2, 1, 0] [] []) $$ HS
  iintro %u HS
  iapply (st_store m K c 3 11 5 [13, 7, 3, 12, 6, 2, 1, 0] [32, 31, 30] [3, 2, 1, 0] [2, 1, 0] [3, 2, 1, 0] [] [] rfl (off8_eq c 0 1) ⟨rfl, rfl⟩ (at_off (off8_eq c 0 1) fun inb x => oV_out m c (bMine c) 3 (by decide) rfl inb x)) $$ HS
  iintro HS
  iapply (Wp_ret c)
  iapply Hk
  iexact HS

/-- Part 15 of the kernel. -/
theorem part15 (c : Dev nD) (v2 v8 v30 v44 v46 v458 : BitVec 32) {Q : (Σ' (v491 : BitVec 32), BitVec 32) → sProp 𝕄} :
    St m K c 11 5 [13, 7, 3, 12, 6, 2, 1, 0] [32, 31, 30] [3, 2, 1, 0] [3, 2, 1, 0] [] []
      ⊢ iprop((∀ w1 w2, St m K c 12 6 [4, 13, 7, 3, 12, 6, 2, 1, 0] [32, 31, 30] [4, 3, 2, 1, 0] [3, 2, 1, 0] [8, 14] [] -∗ Q ⟨w1, w2⟩)
          -∗ Wp c (k0_part15 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v8 v30 v44 v46 v458) Q) := by
  rw [k0_part15_eq_skeleton]; unfold k0_part15_skel
  simp only [Prog.lift, Prog.bind_op, Prog.bind_ret, Prog.pure_eq_ret]
  iintro HS Hk
  iapply (st_recv m K c 2 4 11 5 [13, 7, 3, 12, 6, 2, 1, 0] [32, 31, 30] [3, 2, 1, 0] [4, 3, 2, 1, 0] [3, 2, 1, 0] [4, 8, 14] [] (by decide) rfl rfl rfl rfl rfl (by decide) rfl rfl) $$ HS
  iintro HS
  iapply (st_send m K c 4 11 6 [13, 7, 3, 12, 6, 2, 1, 0] [4, 13, 7, 3, 12, 6, 2, 1, 0] [32, 31, 30] [4, 3, 2, 1, 0] [3, 2, 1, 0] [4, 8, 14] [8, 14] [] rfl rfl (by decide) rfl (dev16_eq c) ((off7_eq c 1 0).trans ((sOff_fwd c 2).2.2 (by decide)).symm) ⟨rfl, rfl⟩ rfl rfl rfl) $$ HS
  iintro HS
  iapply (Wp_ret c)
  iapply Hk
  iexact HS

/-- Part 16 of the kernel. -/
theorem part16 (c : Dev nD) (v2 v5 v8 v43 v46 v458 v491 c4_i32_356 : BitVec 32) {Q : (Σ' (v530 : BitVec 32), BitVec 32) → sProp 𝕄} :
    St m K c 12 6 [4, 13, 7, 3, 12, 6, 2, 1, 0] [32, 31, 30] [4, 3, 2, 1, 0] [3, 2, 1, 0] [8, 14] []
      ⊢ iprop((∀ w1 w2, St m K c 14 6 [14, 8, 4, 13, 7, 3, 12, 6, 2, 1, 0] [32, 31, 30] [4, 3, 2, 1, 0] [4, 3, 2, 1, 0] [] [] -∗ Q ⟨w1, w2⟩)
          -∗ Wp c (k0_part16 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v43 v46 (ivB m c (bMine c)) v458 v491 c4_i32_356) Q) := by
  rw [k0_part16_eq_skeleton]; unfold k0_part16_skel
  simp only [Prog.lift, Prog.bind_op, Prog.bind_ret, Prog.pure_eq_ret]
  iintro HS Hk
  iapply (st_send m K c 8 12 6 [4, 13, 7, 3, 12, 6, 2, 1, 0] [8, 4, 13, 7, 3, 12, 6, 2, 1, 0] [32, 31, 30] [4, 3, 2, 1, 0] [3, 2, 1, 0] [8, 14] [14] [] rfl rfl (by decide) rfl (dev17_eq c) ((off7_eq c 1 0).trans (sOff_fwd c 2).1.symm) ⟨rfl, rfl⟩ rfl rfl rfl) $$ HS
  iintro HS
  iapply (st_send m K c 14 13 6 [8, 4, 13, 7, 3, 12, 6, 2, 1, 0] [14, 8, 4, 13, 7, 3, 12, 6, 2, 1, 0] [32, 31, 30] [4, 3, 2, 1, 0] [3, 2, 1, 0] [14] [] [] rfl rfl (by decide) rfl (dev18_eq c) ((off7_eq c 1 0).trans (sOff_fwd c 2).2.1.symm) ⟨rfl, rfl⟩ rfl rfl rfl) $$ HS
  iintro HS
  iapply (st_load m K c 4 14 6 [14, 8, 4, 13, 7, 3, 12, 6, 2, 1, 0] [32, 31, 30] [4, 3, 2, 1, 0] [3, 2, 1, 0] [3, 2, 1, 0] [] [] rfl (by decide) (off8_eq c 1 0)) $$ HS
  iintro HS
  iapply (st_dead m K c 14 6 [14, 8, 4, 13, 7, 3, 12, 6, 2, 1, 0] [32, 31, 30] [4, 3, 2, 1, 0] [3, 2, 1, 0] [] []) $$ HS
  iintro %u HS
  iapply (st_store m K c 4 14 6 [14, 8, 4, 13, 7, 3, 12, 6, 2, 1, 0] [32, 31, 30] [4, 3, 2, 1, 0] [3, 2, 1, 0] [4, 3, 2, 1, 0] [] [] rfl (off8_eq c 1 0) ⟨rfl, rfl⟩ (at_off (off8_eq c 1 0) fun inb x => oV_out m c (bMine c) 4 (by decide) rfl inb x)) $$ HS
  iintro HS
  iapply (Wp_ret c)
  iapply Hk
  iexact HS

end Cert.KernelIdeal.Pf
-- ==== Proof.PartsB.lean ====
module

public import proofs.«01_k».proof.Proof.Acc

@[expose] public section

/-!
# The blocks around the ring, second half
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- Part 17 of the kernel. -/
theorem part17 (c : Dev nD) (v2 v8 v30 v44 v46 v458 v530 c2048_i32_374 : BitVec 32) {Q : (Σ' (v560 : BitVec 32), BitVec 32) → sProp 𝕄} :
    St m K c 14 6 [14, 8, 4, 13, 7, 3, 12, 6, 2, 1, 0] [32, 31, 30] [4, 3, 2, 1, 0] [4, 3, 2, 1, 0] [] []
      ⊢ iprop((∀ w1 w2, St m K c 15 7 [5, 14, 8, 4, 13, 7, 3, 12, 6, 2, 1, 0] [32, 31, 30] [5, 4, 3, 2, 1, 0] [4, 3, 2, 1, 0] [9, 15] [] -∗ Q ⟨w1, w2⟩)
          -∗ Wp c (k0_part17 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v8 v30 v44 v46 v458 v530 c2048_i32_374) Q) := by
  rw [k0_part17_eq_skeleton]; unfold k0_part17_skel
  simp only [Prog.lift, Prog.bind_op, Prog.bind_ret, Prog.pure_eq_ret]
  iintro HS Hk
  iapply (st_recv m K c 3 5 14 6 [14, 8, 4, 13, 7, 3, 12, 6, 2, 1, 0] [32, 31, 30] [4, 3, 2, 1, 0] [5, 4, 3, 2, 1, 0] [4, 3, 2, 1, 0] [5, 9, 15] [] (by decide) rfl rfl rfl rfl rfl (by decide) rfl rfl) $$ HS
  iintro HS
  iapply (st_send m K c 5 14 7 [14, 8, 4, 13, 7, 3, 12, 6, 2, 1, 0] [5, 14, 8, 4, 13, 7, 3, 12, 6, 2, 1, 0] [32, 31, 30] [5, 4, 3, 2, 1, 0] [4, 3, 2, 1, 0] [5, 9, 15] [9, 15] [] rfl rfl (by decide) rfl (dev19_eq c) ((off7_eq c 1 1).trans ((sOff_fwd c 3).2.2 (by decide)).symm) ⟨rfl, rfl⟩ rfl rfl rfl) $$ HS
  iintro HS
  iapply (Wp_ret c)
  iapply Hk
  iexact HS

/-- Part 18 of the kernel. -/
theorem part18 (c : Dev nD) (v2 v5 v8 v43 v46 v458 v560 c0_i32_402 : BitVec 32) {Q : (Σ' (v599 : BitVec 32), BitVec 32) → sProp 𝕄} :
    St m K c 15 7 [5, 14, 8, 4, 13, 7, 3, 12, 6, 2, 1, 0] [32, 31, 30] [5, 4, 3, 2, 1, 0] [4, 3, 2, 1, 0] [9, 15] []
      ⊢ iprop((∀ w1 w2, St m K c 17 7 [15, 9, 5, 14, 8, 4, 13, 7, 3, 12, 6, 2, 1, 0] [32, 31, 30] [5, 4, 3, 2, 1, 0] [5, 4, 3, 2, 1, 0] [] [] -∗ Q ⟨w1, w2⟩)
          -∗ Wp c (k0_part18 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v43 v46 (ivB m c (bMine c)) v458 v560 c0_i32_402) Q) := by
  rw [k0_part18_eq_skeleton]; unfold k0_part18_skel
  simp only [Prog.lift, Prog.bind_op, Prog.bind_ret, Prog.pure_eq_ret]
  iintro HS Hk
  iapply (st_send m K c 9 15 7 [5, 14, 8, 4, 13, 7, 3, 12, 6, 2, 1, 0] [9, 5, 14, 8, 4, 13, 7, 3, 12, 6, 2, 1, 0] [32, 31, 30] [5, 4, 3, 2, 1, 0] [4, 3, 2, 1, 0] [9, 15] [15] [] rfl rfl (by decide) rfl (dev20_eq c) ((off7_eq c 1 1).trans (sOff_fwd c 3).1.symm) ⟨rfl, rfl⟩ rfl rfl rfl) $$ HS
  iintro HS
  iapply (st_send m K c 15 16 7 [9, 5, 14, 8, 4, 13, 7, 3, 12, 6, 2, 1, 0] [15, 9, 5, 14, 8, 4, 13, 7, 3, 12, 6, 2, 1, 0] [32, 31, 30] [5, 4, 3, 2, 1, 0] [4, 3, 2, 1, 0] [15] [] [] rfl rfl (by decide) rfl (dev21_eq c) ((off7_eq c 1 1).trans (sOff_fwd c 3).2.1.symm) ⟨rfl, rfl⟩ rfl rfl rfl) $$ HS
  iintro HS
  iapply (st_load m K c 5 17 7 [15, 9, 5, 14, 8, 4, 13, 7, 3, 12, 6, 2, 1, 0] [32, 31, 30] [5, 4, 3, 2, 1, 0] [4, 3, 2, 1, 0] [4, 3, 2, 1, 0] [] [] rfl (by decide) (off8_eq c 1 1)) $$ HS
  iintro HS
  iapply (st_dead m K c 17 7 [15, 9, 5, 14, 8, 4, 13, 7, 3, 12, 6, 2, 1, 0] [32, 31, 30] [5, 4, 3, 2, 1, 0] [4, 3, 2, 1, 0] [] []) $$ HS
  iintro %u HS
  iapply (st_store m K c 5 17 7 [15, 9, 5, 14, 8, 4, 13, 7, 3, 12, 6, 2, 1, 0] [32, 31, 30] [5, 4, 3, 2, 1, 0] [4, 3, 2, 1, 0] [5, 4, 3, 2, 1, 0] [] [] rfl (off8_eq c 1 1) ⟨rfl, rfl⟩ (at_off (off8_eq c 1 1) fun inb x => oV_out m c (bMine c) 5 (by decide) rfl inb x)) $$ HS
  iintro HS
  iapply (Wp_ret c)
  iapply Hk
  iexact HS

/-- Part 19 of the kernel. -/
theorem part19 (c : Dev nD) (v2 v5 v8 v30 v44 v46 v599 c1_i32_420 : BitVec 32) {Q : (Σ' (v610 : BitVec 32) (v630 : BitVec 32), BitVec 32) → sProp 𝕄} :
    St m K c 17 7 [15, 9, 5, 14, 8, 4, 13, 7, 3, 12, 6, 2, 1, 0] [32, 31, 30] [5, 4, 3, 2, 1, 0] [5, 4, 3, 2, 1, 0] [] []
      ⊢ iprop((∀ w1 w2 w3, St m K c 17 8 [15, 9, 5, 14, 8, 4, 13, 7, 3, 12, 6, 2, 1, 0] [32, 31, 30] [6, 5, 4, 3, 2, 1, 0] [5, 4, 3, 2, 1, 0] [10, 16] [] -∗ Q ⟨w1, w2, w3⟩)
          -∗ Wp c (k0_part19 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v44 v46 v599 c1_i32_420) Q) := by
  rw [k0_part19_eq_skeleton]; unfold k0_part19_skel
  simp only [Prog.lift, Prog.bind_op, Prog.bind_ret, Prog.pure_eq_ret]
  iintro HS Hk
  iapply (st_recv m K c 4 6 17 7 [15, 9, 5, 14, 8, 4, 13, 7, 3, 12, 6, 2, 1, 0] [32, 31, 30] [5, 4, 3, 2, 1, 0] [6, 5, 4, 3, 2, 1, 0] [5, 4, 3, 2, 1, 0] [10, 16] [] (by decide) rfl rfl rfl rfl rfl (by decide) rfl rfl) $$ HS
  iintro HS
  iapply (Wp_ret c)
  iapply Hk
  iexact HS

/-- Part 20 of the kernel. -/
theorem part20 (c : Dev nD) (v2 v5 v8 v43 v46 v610 v630 c1_i32_448 : BitVec 32) {Q : (PUnit) → sProp 𝕄} :
    St m K c 17 8 [15, 9, 5, 14, 8, 4, 13, 7, 3, 12, 6, 2, 1, 0] [32, 31, 30] [6, 5, 4, 3, 2, 1, 0] [5, 4, 3, 2, 1, 0] [10, 16] []
      ⊢ iprop((St m K c 19 8 [16, 10, 15, 9, 5, 14, 8, 4, 13, 7, 3, 12, 6, 2, 1, 0] [32, 31, 30] [6, 5, 4, 3, 2, 1, 0] [6, 5, 4, 3, 2, 1, 0] [] [] -∗ Q ⟨⟩)
          -∗ Wp c (k0_part20 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v43 v46 (ivB m c (bMine c)) v610 v630 c1_i32_448) Q) := by
  rw [k0_part20_eq_skeleton]; unfold k0_part20_skel
  simp only [Prog.lift, Prog.bind_op, Prog.bind_ret, Prog.pure_eq_ret]
  iintro HS Hk
  iapply (st_send m K c 10 17 8 [15, 9, 5, 14, 8, 4, 13, 7, 3, 12, 6, 2, 1, 0] [10, 15, 9, 5, 14, 8, 4, 13, 7, 3, 12, 6, 2, 1, 0] [32, 31, 30] [6, 5, 4, 3, 2, 1, 0] [5, 4, 3, 2, 1, 0] [10, 16] [16] [] rfl rfl (by decide) rfl (dev22_eq c) ((off7_eq c 2 0).trans (sOff_fwd c 4).1.symm) ⟨rfl, rfl⟩ rfl rfl rfl) $$ HS
  iintro HS
  iapply (st_send m K c 16 18 8 [10, 15, 9, 5, 14, 8, 4, 13, 7, 3, 12, 6, 2, 1, 0] [16, 10, 15, 9, 5, 14, 8, 4, 13, 7, 3, 12, 6, 2, 1, 0] [32, 31, 30] [6, 5, 4, 3, 2, 1, 0] [5, 4, 3, 2, 1, 0] [16] [] [] rfl rfl (by decide) rfl (dev23_eq c) ((off7_eq c 2 0).trans (sOff_fwd c 4).2.1.symm) ⟨rfl, rfl⟩ rfl rfl rfl) $$ HS
  iintro HS
  iapply (st_load m K c 6 19 8 [16, 10, 15, 9, 5, 14, 8, 4, 13, 7, 3, 12, 6, 2, 1, 0] [32, 31, 30] [6, 5, 4, 3, 2, 1, 0] [5, 4, 3, 2, 1, 0] [5, 4, 3, 2, 1, 0] [] [] rfl (by decide) (off8_eq c 2 0)) $$ HS
  iintro HS
  iapply (st_dead m K c 19 8 [16, 10, 15, 9, 5, 14, 8, 4, 13, 7, 3, 12, 6, 2, 1, 0] [32, 31, 30] [6, 5, 4, 3, 2, 1, 0] [5, 4, 3, 2, 1, 0] [] []) $$ HS
  iintro %u HS
  iapply (st_store m K c 6 19 8 [16, 10, 15, 9, 5, 14, 8, 4, 13, 7, 3, 12, 6, 2, 1, 0] [32, 31, 30] [6, 5, 4, 3, 2, 1, 0] [5, 4, 3, 2, 1, 0] [6, 5, 4, 3, 2, 1, 0] [] [] rfl (off8_eq c 2 0) ⟨rfl, rfl⟩ (at_off (off8_eq c 2 0) fun inb x => oV_out m c (bMine c) 6 (by decide) rfl inb x)) $$ HS
  iintro HS
  iapply (Wp_ret c)
  iapply Hk
  iexact HS

/-- Part 21 of the kernel. -/
theorem part21 (c : Dev nD) (v2 v5 v8 v30 v44 v46 v610 : BitVec 32) {Q : (Σ' (v698 : BitVec 32), BitVec 32) → sProp 𝕄} :
    St m K c 19 8 [16, 10, 15, 9, 5, 14, 8, 4, 13, 7, 3, 12, 6, 2, 1, 0] [32, 31, 30] [6, 5, 4, 3, 2, 1, 0] [6, 5, 4, 3, 2, 1, 0] [] []
      ⊢ iprop((∀ w1 w2, St m K c 20 9 [11, 16, 10, 15, 9, 5, 14, 8, 4, 13, 7, 3, 12, 6, 2, 1, 0] [32, 31, 30] [7, 6, 5, 4, 3, 2, 1, 0] [6, 5, 4, 3, 2, 1, 0] [17] [] -∗ Q ⟨w1, w2⟩)
          -∗ Wp c (k0_part21 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v30 v44 v46 v610) Q) := by
  rw [k0_part21_eq_skeleton]; unfold k0_part21_skel
  simp only [Prog.lift, Prog.bind_op, Prog.bind_ret, Prog.pure_eq_ret]
  iintro HS Hk
  iapply (st_recv m K c 5 7 19 8 [16, 10, 15, 9, 5, 14, 8, 4, 13, 7, 3, 12, 6, 2, 1, 0] [32, 31, 30] [6, 5, 4, 3, 2, 1, 0] [7, 6, 5, 4, 3, 2, 1, 0] [6, 5, 4, 3, 2, 1, 0] [11, 17] [] (by decide) rfl rfl rfl rfl rfl (by decide) rfl rfl) $$ HS
  iintro HS
  iapply (st_send m K c 11 19 9 [16, 10, 15, 9, 5, 14, 8, 4, 13, 7, 3, 12, 6, 2, 1, 0] [11, 16, 10, 15, 9, 5, 14, 8, 4, 13, 7, 3, 12, 6, 2, 1, 0] [32, 31, 30] [7, 6, 5, 4, 3, 2, 1, 0] [6, 5, 4, 3, 2, 1, 0] [11, 17] [17] [] rfl rfl (by decide) rfl (dev24_eq c) ((off7_eq c 2 1).trans (sOff_fwd c 5).1.symm) ⟨rfl, rfl⟩ rfl rfl rfl) $$ HS
  iintro HS
  iapply (Wp_ret c)
  iapply Hk
  iexact HS

/-- Part 22 of the kernel. -/
theorem part22 (c : Dev nD) (v5 v43 v44 v46 v48 v610 v698 v699 : BitVec 32) {Q : (Σ' (v732 : BitVec 32) (v736 : BitVec 32), BitVec 32) → sProp 𝕄} :
    St m K c 20 9 [11, 16, 10, 15, 9, 5, 14, 8, 4, 13, 7, 3, 12, 6, 2, 1, 0] [32, 31, 30] [7, 6, 5, 4, 3, 2, 1, 0] [6, 5, 4, 3, 2, 1, 0] [17] []
      ⊢ iprop((∀ w1 w2 w3, St m K c 21 9 [17, 11, 16, 10, 15, 9, 5, 14, 8, 4, 13, 7, 3, 12, 6, 2, 1, 0] [32, 31, 30] [7, 6, 5, 4, 3, 2, 1, 0] [7, 6, 5, 4, 3, 2, 1, 0] [] [] -∗ Q ⟨w1, w2, w3⟩)
          -∗ Wp c (k0_part22 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v43 v44 v46 v48 (ivB m c (bMine c)) v610 v698 v699) Q) := by
  rw [k0_part22_eq_skeleton]; unfold k0_part22_skel
  simp only [Prog.lift, Prog.bind_op, Prog.bind_ret, Prog.pure_eq_ret]
  iintro HS Hk
  iapply (st_send m K c 17 20 9 [11, 16, 10, 15, 9, 5, 14, 8, 4, 13, 7, 3, 12, 6, 2, 1, 0] [17, 11, 16, 10, 15, 9, 5, 14, 8, 4, 13, 7, 3, 12, 6, 2, 1, 0] [32, 31, 30] [7, 6, 5, 4, 3, 2, 1, 0] [6, 5, 4, 3, 2, 1, 0] [17] [] [] rfl rfl (by decide) rfl (dev25_eq c) ((off7_eq c 2 1).trans (sOff_fwd c 5).2.1.symm) ⟨rfl, rfl⟩ rfl rfl rfl) $$ HS
  iintro HS
  iapply (st_load m K c 7 21 9 [17, 11, 16, 10, 15, 9, 5, 14, 8, 4, 13, 7, 3, 12, 6, 2, 1, 0] [32, 31, 30] [7, 6, 5, 4, 3, 2, 1, 0] [6, 5, 4, 3, 2, 1, 0] [6, 5, 4, 3, 2, 1, 0] [] [] rfl (by decide) (off8_eq c 2 1)) $$ HS
  iintro HS
  iapply (st_dead m K c 21 9 [17, 11, 16, 10, 15, 9, 5, 14, 8, 4, 13, 7, 3, 12, 6, 2, 1, 0] [32, 31, 30] [7, 6, 5, 4, 3, 2, 1, 0] [6, 5, 4, 3, 2, 1, 0] [] []) $$ HS
  iintro %u HS
  iapply (st_store m K c 7 21 9 [17, 11, 16, 10, 15, 9, 5, 14, 8, 4, 13, 7, 3, 12, 6, 2, 1, 0] [32, 31, 30] [7, 6, 5, 4, 3, 2, 1, 0] [6, 5, 4, 3, 2, 1, 0] [7, 6, 5, 4, 3, 2, 1, 0] [] [] rfl (off8_eq c 2 1) ⟨rfl, rfl⟩ (at_off (off8_eq c 2 1) fun inb x => oV_out m c (bMine c) 7 (by decide) rfl inb x)) $$ HS
  iintro HS
  iapply (Wp_ret c)
  iapply Hk
  iexact HS

end Cert.KernelIdeal.Pf
-- ==== Proof.PartsC.lean ====
module

public import proofs.«01_k».proof.Proof.Acc

@[expose] public section

/-!
# The forwarded halves start, first half
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- Part 23 of the kernel. -/
theorem part23 (c : Dev nD) (v2 v5 v8 v40 v43 v48 v51 v732 v736 c0_i32_515 : BitVec 32) {Q : (PUnit) → sProp 𝕄} :
    St m K c 21 9 [17, 11, 16, 10, 15, 9, 5, 14, 8, 4, 13, 7, 3, 12, 6, 2, 1, 0] [32, 31, 30] [7, 6, 5, 4, 3, 2, 1, 0] [7, 6, 5, 4, 3, 2, 1, 0] [] []
      ⊢ iprop((St m K c 22 10 [24, 17, 11, 16, 10, 15, 9, 5, 14, 8, 4, 13, 7, 3, 12, 6, 2, 1, 0] [32, 31, 30] [8, 7, 6, 5, 4, 3, 2, 1, 0] [8, 7, 6, 5, 4, 3, 2, 1, 0] [] [] -∗ Q ⟨⟩)
          -∗ Wp c (k0_part23 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v48 v51 (ivB m c (bX c)) v732 v736 c0_i32_515) Q) := by
  rw [k0_part23_eq_skeleton]; unfold k0_part23_skel
  simp only [Prog.lift, Prog.bind_op, Prog.bind_ret, Prog.pure_eq_ret]
  iintro HS Hk
  iapply (st_recv m K c 6 8 21 9 [17, 11, 16, 10, 15, 9, 5, 14, 8, 4, 13, 7, 3, 12, 6, 2, 1, 0] [32, 31, 30] [7, 6, 5, 4, 3, 2, 1, 0] [8, 7, 6, 5, 4, 3, 2, 1, 0] [7, 6, 5, 4, 3, 2, 1, 0] [24] [] (by decide) rfl rfl rfl rfl rfl (by decide) rfl rfl) $$ HS
  iintro HS
  iapply (st_send m K c 24 21 10 [17, 11, 16, 10, 15, 9, 5, 14, 8, 4, 13, 7, 3, 12, 6, 2, 1, 0] [24, 17, 11, 16, 10, 15, 9, 5, 14, 8, 4, 13, 7, 3, 12, 6, 2, 1, 0] [32, 31, 30] [8, 7, 6, 5, 4, 3, 2, 1, 0] [7, 6, 5, 4, 3, 2, 1, 0] [24] [] [] rfl rfl (by decide) rfl (dev26_eq c) (off10_eq c 0 0) ⟨rfl, rfl⟩ rfl rfl rfl) $$ HS
  iintro HS
  iapply (st_load m K c 8 22 10 [24, 17, 11, 16, 10, 15, 9, 5, 14, 8, 4, 13, 7, 3, 12, 6, 2, 1, 0] [32, 31, 30] [8, 7, 6, 5, 4, 3, 2, 1, 0] [7, 6, 5, 4, 3, 2, 1, 0] [7, 6, 5, 4, 3, 2, 1, 0] [] [] rfl (by decide) (off11_eq c 0 0)) $$ HS
  iintro HS
  iapply (st_dead m K c 22 10 [24, 17, 11, 16, 10, 15, 9, 5, 14, 8, 4, 13, 7, 3, 12, 6, 2, 1, 0] [32, 31, 30] [8, 7, 6, 5, 4, 3, 2, 1, 0] [7, 6, 5, 4, 3, 2, 1, 0] [] []) $$ HS
  iintro %u HS
  iapply (st_store m K c 8 22 10 [24, 17, 11, 16, 10, 15, 9, 5, 14, 8, 4, 13, 7, 3, 12, 6, 2, 1, 0] [32, 31, 30] [8, 7, 6, 5, 4, 3, 2, 1, 0] [7, 6, 5, 4, 3, 2, 1, 0] [8, 7, 6, 5, 4, 3, 2, 1, 0] [] [] rfl (off11_eq c 0 0) ⟨rfl, rfl⟩ (at_off (off11_eq c 0 0) fun inb x => oV_out m c (bX c) 8 (by decide) rfl inb x)) $$ HS
  iintro HS
  iapply (Wp_ret c)
  iapply Hk
  iexact HS

/-- Part 24 of the kernel. -/
theorem part24 (c : Dev nD) (v2 v5 v8 v40 v43 v44 v51 v732 : BitVec 32) {Q : (Σ' (v806 : BitVec 32), BitVec 32) → sProp 𝕄} :
    St m K c 22 10 [24, 17, 11, 16, 10, 15, 9, 5, 14, 8, 4, 13, 7, 3, 12, 6, 2, 1, 0] [32, 31, 30] [8, 7, 6, 5, 4, 3, 2, 1, 0] [8, 7, 6, 5, 4, 3, 2, 1, 0] [] []
      ⊢ iprop((∀ w1 w2, St m K c 23 11 [18, 24, 17, 11, 16, 10, 15, 9, 5, 14, 8, 4, 13, 7, 3, 12, 6, 2, 1, 0] [32, 31, 30] [14, 8, 7, 6, 5, 4, 3, 2, 1, 0] [8, 7, 6, 5, 4, 3, 2, 1, 0] [] [] -∗ Q ⟨w1, w2⟩)
          -∗ Wp c (k0_part24 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v51 v732) Q) := by
  rw [k0_part24_eq_skeleton]; unfold k0_part24_skel
  simp only [Prog.lift, Prog.bind_op, Prog.bind_ret, Prog.pure_eq_ret]
  iintro HS Hk
  iapply (st_recv m K c 12 14 22 10 [24, 17, 11, 16, 10, 15, 9, 5, 14, 8, 4, 13, 7, 3, 12, 6, 2, 1, 0] [32, 31, 30] [8, 7, 6, 5, 4, 3, 2, 1, 0] [14, 8, 7, 6, 5, 4, 3, 2, 1, 0] [8, 7, 6, 5, 4, 3, 2, 1, 0] [18] [] (by decide) rfl rfl rfl rfl rfl (by decide) rfl rfl) $$ HS
  iintro HS
  iapply (st_send m K c 18 22 11 [24, 17, 11, 16, 10, 15, 9, 5, 14, 8, 4, 13, 7, 3, 12, 6, 2, 1, 0] [18, 24, 17, 11, 16, 10, 15, 9, 5, 14, 8, 4, 13, 7, 3, 12, 6, 2, 1, 0] [32, 31, 30] [14, 8, 7, 6, 5, 4, 3, 2, 1, 0] [8, 7, 6, 5, 4, 3, 2, 1, 0] [18] [] [] rfl rfl (by decide) rfl (dev27_eq c) (off13_eq c 0 0) ⟨rfl, rfl⟩ rfl rfl rfl) $$ HS
  iintro HS
  iapply (Wp_ret c)
  iapply Hk
  iexact HS

/-- Part 25 of the kernel. -/
theorem part25 (c : Dev nD) (v2 v5 v8 v40 v43 v44 v48 v732 v806 v807 : BitVec 32) {Q : (PUnit) → sProp 𝕄} :
    St m K c 23 11 [18, 24, 17, 11, 16, 10, 15, 9, 5, 14, 8, 4, 13, 7, 3, 12, 6, 2, 1, 0] [32, 31, 30] [14, 8, 7, 6, 5, 4, 3, 2, 1, 0] [8, 7, 6, 5, 4, 3, 2, 1, 0] [] []
      ⊢ iprop((St m K c 23 12 [18, 24, 17, 11, 16, 10, 15, 9, 5, 14, 8, 4, 13, 7, 3, 12, 6, 2, 1, 0] [32, 31, 30] [9, 14, 8, 7, 6, 5, 4, 3, 2, 1, 0] [14, 8, 7, 6, 5, 4, 3, 2, 1, 0] [25] [] -∗ Q ⟨⟩)
          -∗ Wp c (k0_part25 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v48 (ivB m c (bZ c)) v732 v806 v807) Q) := by
  rw [k0_part25_eq_skeleton]; unfold k0_part25_skel
  simp only [Prog.lift, Prog.bind_op, Prog.bind_ret, Prog.pure_eq_ret]
  iintro HS Hk
  iapply (st_load m K c 14 23 11 [18, 24, 17, 11, 16, 10, 15, 9, 5, 14, 8, 4, 13, 7, 3, 12, 6, 2, 1, 0] [32, 31, 30] [14, 8, 7, 6, 5, 4, 3, 2, 1, 0] [8, 7, 6, 5, 4, 3, 2, 1, 0] [8, 7, 6, 5, 4, 3, 2, 1, 0] [] [] rfl (by decide) (off14_eq c 0 0)) $$ HS
  iintro HS
  iapply (st_dead m K c 23 11 [18, 24, 17, 11, 16, 10, 15, 9, 5, 14, 8, 4, 13, 7, 3, 12, 6, 2, 1, 0] [32, 31, 30] [14, 8, 7, 6, 5, 4, 3, 2, 1, 0] [8, 7, 6, 5, 4, 3, 2, 1, 0] [] []) $$ HS
  iintro %u HS
  iapply (st_store m K c 14 23 11 [18, 24, 17, 11, 16, 10, 15, 9, 5, 14, 8, 4, 13, 7, 3, 12, 6, 2, 1, 0] [32, 31, 30] [14, 8, 7, 6, 5, 4, 3, 2, 1, 0] [8, 7, 6, 5, 4, 3, 2, 1, 0] [14, 8, 7, 6, 5, 4, 3, 2, 1, 0] [] [] rfl (off14_eq c 0 0) ⟨rfl, rfl⟩ (at_off (off14_eq c 0 0) fun inb x => oV_out m c (bZ c) 14 (by decide) rfl inb x)) $$ HS
  iintro HS
  iapply (st_recv m K c 7 9 23 11 [18, 24, 17, 11, 16, 10, 15, 9, 5, 14, 8, 4, 13, 7, 3, 12, 6, 2, 1, 0] [32, 31, 30] [14, 8, 7, 6, 5, 4, 3, 2, 1, 0] [9, 14, 8, 7, 6, 5, 4, 3, 2, 1, 0] [14, 8, 7, 6, 5, 4, 3, 2, 1, 0] [25] [] (by decide) rfl rfl rfl rfl rfl (by decide) rfl rfl) $$ HS
  iintro HS
  iapply (Wp_ret c)
  iapply Hk
  iexact HS

/-- Part 26 of the kernel. -/
theorem part26 (c : Dev nD) (v2 v5 v40 v43 v44 v48 v51 v732 : BitVec 32) {Q : (BitVec 32) → sProp 𝕄} :
    St m K c 23 12 [18, 24, 17, 11, 16, 10, 15, 9, 5, 14, 8, 4, 13, 7, 3, 12, 6, 2, 1, 0] [32, 31, 30] [9, 14, 8, 7, 6, 5, 4, 3, 2, 1, 0] [14, 8, 7, 6, 5, 4, 3, 2, 1, 0] [25] []
      ⊢ iprop((∀ w1, St m K c 24 13 [25, 18, 24, 17, 11, 16, 10, 15, 9, 5, 14, 8, 4, 13, 7, 3, 12, 6, 2, 1, 0] [32, 31, 30] [15, 9, 14, 8, 7, 6, 5, 4, 3, 2, 1, 0] [9, 14, 8, 7, 6, 5, 4, 3, 2, 1, 0] [19] [] -∗ Q w1)
          -∗ Wp c (k0_part26 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v40 v43 v44 v48 v51 (ivB m c (bX c)) v732) Q) := by
  rw [k0_part26_eq_skeleton]; unfold k0_part26_skel
  simp only [Prog.lift, Prog.bind_op, Prog.bind_ret, Prog.pure_eq_ret]
  iintro HS Hk
  iapply (st_send m K c 25 23 12 [18, 24, 17, 11, 16, 10, 15, 9, 5, 14, 8, 4, 13, 7, 3, 12, 6, 2, 1, 0] [25, 18, 24, 17, 11, 16, 10, 15, 9, 5, 14, 8, 4, 13, 7, 3, 12, 6, 2, 1, 0] [32, 31, 30] [9, 14, 8, 7, 6, 5, 4, 3, 2, 1, 0] [14, 8, 7, 6, 5, 4, 3, 2, 1, 0] [25] [] [] rfl rfl (by decide) rfl (dev28_eq c) (off10_eq c 0 1) ⟨rfl, rfl⟩ rfl rfl rfl) $$ HS
  iintro HS
  iapply (st_load m K c 9 24 12 [25, 18, 24, 17, 11, 16, 10, 15, 9, 5, 14, 8, 4, 13, 7, 3, 12, 6, 2, 1, 0] [32, 31, 30] [9, 14, 8, 7, 6, 5, 4, 3, 2, 1, 0] [14, 8, 7, 6, 5, 4, 3, 2, 1, 0] [14, 8, 7, 6, 5, 4, 3, 2, 1, 0] [] [] rfl (by decide) (off11_eq c 0 1)) $$ HS
  iintro HS
  iapply (st_dead m K c 24 12 [25, 18, 24, 17, 11, 16, 10, 15, 9, 5, 14, 8, 4, 13, 7, 3, 12, 6, 2, 1, 0] [32, 31, 30] [9, 14, 8, 7, 6, 5, 4, 3, 2, 1, 0] [14, 8, 7, 6, 5, 4, 3, 2, 1, 0] [] []) $$ HS
  iintro %u HS
  iapply (st_store m K c 9 24 12 [25, 18, 24, 17, 11, 16, 10, 15, 9, 5, 14, 8, 4, 13, 7, 3, 12, 6, 2, 1, 0] [32, 31, 30] [9, 14, 8, 7, 6, 5, 4, 3, 2, 1, 0] [14, 8, 7, 6, 5, 4, 3, 2, 1, 0] [9, 14, 8, 7, 6, 5, 4, 3, 2, 1, 0] [] [] rfl (off11_eq c 0 1) ⟨rfl, rfl⟩ (at_off (off11_eq c 0 1) fun inb x => oV_out m c (bX c) 9 (by decide) rfl inb x)) $$ HS
  iintro HS
  iapply (st_recv m K c 13 15 24 12 [25, 18, 24, 17, 11, 16, 10, 15, 9, 5, 14, 8, 4, 13, 7, 3, 12, 6, 2, 1, 0] [32, 31, 30] [9, 14, 8, 7, 6, 5, 4, 3, 2, 1, 0] [15, 9, 14, 8, 7, 6, 5, 4, 3, 2, 1, 0] [9, 14, 8, 7, 6, 5, 4, 3, 2, 1, 0] [19] [] (by decide) rfl rfl rfl rfl rfl (by decide) rfl rfl) $$ HS
  iintro HS
  iapply (Wp_ret c)
  iapply Hk
  iexact HS

/-- Part 27 of the kernel. -/
theorem part27 (c : Dev nD) (v5 v8 v48 v51 v732 v877 : BitVec 32) {Q : (BitVec 32) → sProp 𝕄} :
    St m K c 24 13 [25, 18, 24, 17, 11, 16, 10, 15, 9, 5, 14, 8, 4, 13, 7, 3, 12, 6, 2, 1, 0] [32, 31, 30] [15, 9, 14, 8, 7, 6, 5, 4, 3, 2, 1, 0] [9, 14, 8, 7, 6, 5, 4, 3, 2, 1, 0] [19] []
      ⊢ iprop((∀ w1, St m K c 25 13 [19, 25, 18, 24, 17, 11, 16, 10, 15, 9, 5, 14, 8, 4, 13, 7, 3, 12, 6, 2, 1, 0] [32, 31, 30] [15, 9, 14, 8, 7, 6, 5, 4, 3, 2, 1, 0] [15, 9, 14, 8, 7, 6, 5, 4, 3, 2, 1, 0] [] [] -∗ Q w1)
          -∗ Wp c (k0_part27 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v8 v48 v51 (ivB m c (bZ c)) v732 v877) Q) := by
  rw [k0_part27_eq_skeleton]; unfold k0_part27_skel
  simp only [Prog.lift, Prog.bind_op, Prog.bind_ret, Prog.pure_eq_ret]
  iintro HS Hk
  iapply (st_send m K c 19 24 13 [25, 18, 24, 17, 11, 16, 10, 15, 9, 5, 14, 8, 4, 13, 7, 3, 12, 6, 2, 1, 0] [19, 25, 18, 24, 17, 11, 16, 10, 15, 9, 5, 14, 8, 4, 13, 7, 3, 12, 6, 2, 1, 0] [32, 31, 30] [15, 9, 14, 8, 7, 6, 5, 4, 3, 2, 1, 0] [9, 14, 8, 7, 6, 5, 4, 3, 2, 1, 0] [19] [] [] rfl rfl (by decide) rfl (dev29_eq c) (off13_eq c 0 1) ⟨rfl, rfl⟩ rfl rfl rfl) $$ HS
  iintro HS
  iapply (st_load m K c 15 25 13 [19, 25, 18, 24, 17, 11, 16, 10, 15, 9, 5, 14, 8, 4, 13, 7, 3, 12, 6, 2, 1, 0] [32, 31, 30] [15, 9, 14, 8, 7, 6, 5, 4, 3, 2, 1, 0] [9, 14, 8, 7, 6, 5, 4, 3, 2, 1, 0] [9, 14, 8, 7, 6, 5, 4, 3, 2, 1, 0] [] [] rfl (by decide) (off14_eq c 0 1)) $$ HS
  iintro HS
  iapply (st_dead m K c 25 13 [19, 25, 18, 24, 17, 11, 16, 10, 15, 9, 5, 14, 8, 4, 13, 7, 3, 12, 6, 2, 1, 0] [32, 31, 30] [15, 9, 14, 8, 7, 6, 5, 4, 3, 2, 1, 0] [9, 14, 8, 7, 6, 5, 4, 3, 2, 1, 0] [] []) $$ HS
  iintro %u HS
  iapply (st_store m K c 15 25 13 [19, 25, 18, 24, 17, 11, 16, 10, 15, 9, 5, 14, 8, 4, 13, 7, 3, 12, 6, 2, 1, 0] [32, 31, 30] [15, 9, 14, 8, 7, 6, 5, 4, 3, 2, 1, 0] [9, 14, 8, 7, 6, 5, 4, 3, 2, 1, 0] [15, 9, 14, 8, 7, 6, 5, 4, 3, 2, 1, 0] [] [] rfl (off14_eq c 0 1) ⟨rfl, rfl⟩ (at_off (off14_eq c 0 1) fun inb x => oV_out m c (bZ c) 15 (by decide) rfl inb x)) $$ HS
  iintro HS
  iapply (Wp_ret c)
  iapply Hk
  iexact HS

/-- Part 28 of the kernel. -/
theorem part28 (c : Dev nD) (v2 v5 v8 v40 v43 v44 v48 v912 : BitVec 32) {Q : (FVec F S64x2048 .f32) → sProp 𝕄} :
    St m K c 25 13 [19, 25, 18, 24, 17, 11, 16, 10, 15, 9, 5, 14, 8, 4, 13, 7, 3, 12, 6, 2, 1, 0] [32, 31, 30] [15, 9, 14, 8, 7, 6, 5, 4, 3, 2, 1, 0] [15, 9, 14, 8, 7, 6, 5, 4, 3, 2, 1, 0] [] []
      ⊢ iprop((St m K c 26 14 [26, 19, 25, 18, 24, 17, 11, 16, 10, 15, 9, 5, 14, 8, 4, 13, 7, 3, 12, 6, 2, 1, 0] [32, 31, 30] [10, 15, 9, 14, 8, 7, 6, 5, 4, 3, 2, 1, 0] [15, 9, 14, 8, 7, 6, 5, 4, 3, 2, 1, 0] [] [] -∗ Q (k0_pay31 (ivB m c (bX c)) (pcV m c 10)))
          -∗ Wp c (k0_part28 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v48 (ivB m c (bX c)) v912) Q) := by
  rw [k0_part28_eq_skeleton]; unfold k0_part28_skel
  simp only [Prog.lift, Prog.bind_op, Prog.bind_ret, Prog.pure_eq_ret]
  iintro HS Hk
  iapply (st_recv m K c 8 10 25 13 [19, 25, 18, 24, 17, 11, 16, 10, 15, 9, 5, 14, 8, 4, 13, 7, 3, 12, 6, 2, 1, 0] [32, 31, 30] [15, 9, 14, 8, 7, 6, 5, 4, 3, 2, 1, 0] [10, 15, 9, 14, 8, 7, 6, 5, 4, 3, 2, 1, 0] [15, 9, 14, 8, 7, 6, 5, 4, 3, 2, 1, 0] [26] [] (by decide) rfl rfl rfl rfl rfl (by decide) rfl rfl) $$ HS
  iintro HS
  iapply (st_send m K c 26 25 14 [19, 25, 18, 24, 17, 11, 16, 10, 15, 9, 5, 14, 8, 4, 13, 7, 3, 12, 6, 2, 1, 0] [26, 19, 25, 18, 24, 17, 11, 16, 10, 15, 9, 5, 14, 8, 4, 13, 7, 3, 12, 6, 2, 1, 0] [32, 31, 30] [10, 15, 9, 14, 8, 7, 6, 5, 4, 3, 2, 1, 0] [15, 9, 14, 8, 7, 6, 5, 4, 3, 2, 1, 0] [26] [] [] rfl rfl (by decide) rfl (dev30_eq c) (off10_eq c 1 0) ⟨rfl, rfl⟩ rfl rfl rfl) $$ HS
  iintro HS
  iapply (st_load m K c 10 26 14 [26, 19, 25, 18, 24, 17, 11, 16, 10, 15, 9, 5, 14, 8, 4, 13, 7, 3, 12, 6, 2, 1, 0] [32, 31, 30] [10, 15, 9, 14, 8, 7, 6, 5, 4, 3, 2, 1, 0] [15, 9, 14, 8, 7, 6, 5, 4, 3, 2, 1, 0] [15, 9, 14, 8, 7, 6, 5, 4, 3, 2, 1, 0] [] [] rfl (by decide) (off11_eq c 1 0)) $$ HS
  iintro HS
  iapply (Wp_ret c)
  iapply Hk
  iexact HS

/-- Part 29 of the kernel. -/
theorem part29 (c : Dev nD) (v2 v5 v8 v40 v43 v44 v51 v912 : BitVec 32) {Q : (Σ' (v985 : BitVec 32), BitVec 32) → sProp 𝕄} :
    St m K c 26 14 [26, 19, 25, 18, 24, 17, 11, 16, 10, 15, 9, 5, 14, 8, 4, 13, 7, 3, 12, 6, 2, 1, 0] [32, 31, 30] [10, 15, 9, 14, 8, 7, 6, 5, 4, 3, 2, 1, 0] [15, 9, 14, 8, 7, 6, 5, 4, 3, 2, 1, 0] [] []
      ⊢ iprop((∀ w1 w2, St m K c 27 15 [20, 26, 19, 25, 18, 24, 17, 11, 16, 10, 15, 9, 5, 14, 8, 4, 13, 7, 3, 12, 6, 2, 1, 0] [32, 31, 30] [16, 10, 15, 9, 14, 8, 7, 6, 5, 4, 3, 2, 1, 0] [10, 15, 9, 14, 8, 7, 6, 5, 4, 3, 2, 1, 0] [] [] -∗ Q ⟨w1, w2⟩)
          -∗ Wp c (k0_part29 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v51 v912 (k0_pay31 (ivB m c (bX c)) (pcV m c 10))) Q) := by
  rw [k0_part29_eq_skeleton]; unfold k0_part29_skel
  simp only [Prog.lift, Prog.bind_op, Prog.bind_ret, Prog.pure_eq_ret]
  iintro HS Hk
  iapply (st_dead m K c 26 14 [26, 19, 25, 18, 24, 17, 11, 16, 10, 15, 9, 5, 14, 8, 4, 13, 7, 3, 12, 6, 2, 1, 0] [32, 31, 30] [10, 15, 9, 14, 8, 7, 6, 5, 4, 3, 2, 1, 0] [15, 9, 14, 8, 7, 6, 5, 4, 3, 2, 1, 0] [] []) $$ HS
  iintro %u HS
  iapply (st_store m K c 10 26 14 [26, 19, 25, 18, 24, 17, 11, 16, 10, 15, 9, 5, 14, 8, 4, 13, 7, 3, 12, 6, 2, 1, 0] [32, 31, 30] [10, 15, 9, 14, 8, 7, 6, 5, 4, 3, 2, 1, 0] [15, 9, 14, 8, 7, 6, 5, 4, 3, 2, 1, 0] [10, 15, 9, 14, 8, 7, 6, 5, 4, 3, 2, 1, 0] [] [] rfl (off11_eq c 1 0) ⟨rfl, rfl⟩ (at_off (off11_eq c 1 0) fun inb x => oV_out m c (bX c) 10 (by decide) rfl inb x)) $$ HS
  iintro HS
  iapply (st_recv m K c 14 16 26 14 [26, 19, 25, 18, 24, 17, 11, 16, 10, 15, 9, 5, 14, 8, 4, 13, 7, 3, 12, 6, 2, 1, 0] [32, 31, 30] [10, 15, 9, 14, 8, 7, 6, 5, 4, 3, 2, 1, 0] [16, 10, 15, 9, 14, 8, 7, 6, 5, 4, 3, 2, 1, 0] [10, 15, 9, 14, 8, 7, 6, 5, 4, 3, 2, 1, 0] [20] [] (by decide) rfl rfl rfl rfl rfl (by decide) rfl rfl) $$ HS
  iintro HS
  iapply (st_send m K c 20 26 15 [26, 19, 25, 18, 24, 17, 11, 16, 10, 15, 9, 5, 14, 8, 4, 13, 7, 3, 12, 6, 2, 1, 0] [20, 26, 19, 25, 18, 24, 17, 11, 16, 10, 15, 9, 5, 14, 8, 4, 13, 7, 3, 12, 6, 2, 1, 0] [32, 31, 30] [16, 10, 15, 9, 14, 8, 7, 6, 5, 4, 3, 2, 1, 0] [10, 15, 9, 14, 8, 7, 6, 5, 4, 3, 2, 1, 0] [20] [] [] rfl rfl (by decide) rfl (dev31_eq c) (off13_eq c 1 0) ⟨rfl, rfl⟩ rfl rfl rfl) $$ HS
  iintro HS
  iapply (Wp_ret c)
  iapply Hk
  iexact HS

/-- Part 30 of the kernel. -/
theorem part30 (c : Dev nD) (v2 v5 v8 v40 v43 v44 v48 v51 v912 v985 c0_i32_668 : BitVec 32) {Q : (Σ' (v1018 : BitVec 32), BitVec 32) → sProp 𝕄} :
    St m K c 27 15 [20, 26, 19, 25, 18, 24, 17, 11, 16, 10, 15, 9, 5, 14, 8, 4, 13, 7, 3, 12, 6, 2, 1, 0] [32, 31, 30] [16, 10, 15, 9, 14, 8, 7, 6, 5, 4, 3, 2, 1, 0] [10, 15, 9, 14, 8, 7, 6, 5, 4, 3, 2, 1, 0] [] []
      ⊢ iprop((∀ w1 w2, St m K c 27 16 [20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [16, 10, 15, 9, 14, 8, 7, 6, 5, 4, 3, 2, 1, 0] [27] [] -∗ Q ⟨w1, w2⟩)
          -∗ Wp c (k0_part30 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v48 v51 (ivB m c (bZ c)) v912 v985 c0_i32_668) Q) := by
  rw [k0_part30_eq_skeleton]; unfold k0_part30_skel
  simp only [Prog.lift, Prog.bind_op, Prog.bind_ret, Prog.pure_eq_ret]
  iintro HS Hk
  iapply (st_load m K c 16 27 15 [20, 26, 19, 25, 18, 24, 17, 11, 16, 10, 15, 9, 5, 14, 8, 4, 13, 7, 3, 12, 6, 2, 1, 0] [32, 31, 30] [16, 10, 15, 9, 14, 8, 7, 6, 5, 4, 3, 2, 1, 0] [10, 15, 9, 14, 8, 7, 6, 5, 4, 3, 2, 1, 0] [10, 15, 9, 14, 8, 7, 6, 5, 4, 3, 2, 1, 0] [] [] rfl (by decide) (off14_eq c 1 0)) $$ HS
  iintro HS
  iapply (st_dead m K c 27 15 [20, 26, 19, 25, 18, 24, 17, 11, 16, 10, 15, 9, 5, 14, 8, 4, 13, 7, 3, 12, 6, 2, 1, 0] [32, 31, 30] [16, 10, 15, 9, 14, 8, 7, 6, 5, 4, 3, 2, 1, 0] [10, 15, 9, 14, 8, 7, 6, 5, 4, 3, 2, 1, 0] [] []) $$ HS
  iintro %u HS
  iapply (st_store m K c 16 27 15 [20, 26, 19, 25, 18, 24, 17, 11, 16, 10, 15, 9, 5, 14, 8, 4, 13, 7, 3, 12, 6, 2, 1, 0] [32, 31, 30] [16, 10, 15, 9, 14, 8, 7, 6, 5, 4, 3, 2, 1, 0] [10, 15, 9, 14, 8, 7, 6, 5, 4, 3, 2, 1, 0] [16, 10, 15, 9, 14, 8, 7, 6, 5, 4, 3, 2, 1, 0] [] [] rfl (off14_eq c 1 0) ⟨rfl, rfl⟩ (at_off (off14_eq c 1 0) fun inb x => oV_out m c (bZ c) 16 (by decide) rfl inb x)) $$ HS
  iintro HS
  iapply (st_recv m K c 9 11 27 15 [20, 26, 19, 25, 18, 24, 17, 11, 16, 10, 15, 9, 5, 14, 8, 4, 13, 7, 3, 12, 6, 2, 1, 0] [32, 31, 30] [16, 10, 15, 9, 14, 8, 7, 6, 5, 4, 3, 2, 1, 0] [11, 16, 10, 15, 9, 14, 8, 7, 6, 5, 4, 3, 2, 1, 0] [16, 10, 15, 9, 14, 8, 7, 6, 5, 4, 3, 2, 1, 0] [27] [] (by decide) rfl rfl rfl rfl rfl (by decide) rfl rfl) $$ HS
  iintro HS
  iapply (Wp_ret c)
  iapply Hk
  iexact HS

end Cert.KernelIdeal.Pf
-- ==== Proof.PartsD.lean ====
module

public import proofs.«01_k».proof.Proof.Acc

@[expose] public section

/-!
# The forwarded halves start, second half
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- Part 31 of the kernel. -/
theorem part31 (c : Dev nD) (v2 v5 v40 v43 v48 v51 v912 v1018 v1019 : BitVec 32) {Q : (PUnit) → sProp 𝕄} :
    St m K c 27 16 [20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [16, 10, 15, 9, 14, 8, 7, 6, 5, 4, 3, 2, 1, 0] [27] []
      ⊢ iprop((St m K c 28 17 [27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [11, 16, 10, 15, 9, 14, 8, 7, 6, 5, 4, 3, 2, 1, 0] [21] [] -∗ Q ⟨⟩)
          -∗ Wp c (k0_part31 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v40 v43 v48 v51 (ivB m c (bX c)) v912 v1018 v1019) Q) := by
  rw [k0_part31_eq_skeleton]; unfold k0_part31_skel
  simp only [Prog.lift, Prog.bind_op, Prog.bind_ret, Prog.pure_eq_ret]
  iintro HS Hk
  iapply (st_send m K c 27 27 16 [20, 26, 19, 25, 18, 24, 17, 11, 16, 10, 15, 9, 5, 14, 8, 4, 13, 7, 3, 12, 6, 2, 1, 0] [27, 20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [16, 10, 15, 9, 14, 8, 7, 6, 5, 4, 3, 2, 1, 0] [27] [] [] rfl rfl (by decide) rfl (dev32_eq c) (off10_eq c 1 1) ⟨rfl, rfl⟩ rfl rfl rfl) $$ HS
  iintro HS
  iapply (st_load m K c 11 28 16 [27, 20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [16, 10, 15, 9, 14, 8, 7, 6, 5, 4, 3, 2, 1, 0] [16, 10, 15, 9, 14, 8, 7, 6, 5, 4, 3, 2, 1, 0] [] [] rfl (by decide) (off11_eq c 1 1)) $$ HS
  iintro HS
  iapply (st_dead m K c 28 16 [27, 20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [16, 10, 15, 9, 14, 8, 7, 6, 5, 4, 3, 2, 1, 0] [] []) $$ HS
  iintro %u HS
  iapply (st_store m K c 11 28 16 [27, 20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [16, 10, 15, 9, 14, 8, 7, 6, 5, 4, 3, 2, 1, 0] [11, 16, 10, 15, 9, 14, 8, 7, 6, 5, 4, 3, 2, 1, 0] [] [] rfl (off11_eq c 1 1) ⟨rfl, rfl⟩ (at_off (off11_eq c 1 1) fun inb x => oV_out m c (bX c) 11 (by decide) rfl inb x)) $$ HS
  iintro HS
  iapply (st_recv m K c 15 17 28 16 [27, 20, 26, 19, 25, 18, 24, 17, 11, 16, 10, 15, 9, 5, 14, 8, 4, 13, 7, 3, 12, 6, 2, 1, 0] [32, 31, 30] [11, 16, 10, 15, 9, 14, 8, 7, 6, 5, 4, 3, 2, 1, 0] [17, 11, 16, 10, 15, 9, 14, 8, 7, 6, 5, 4, 3, 2, 1, 0] [11, 16, 10, 15, 9, 14, 8, 7, 6, 5, 4, 3, 2, 1, 0] [21] [] (by decide) rfl rfl rfl rfl rfl (by decide) rfl rfl) $$ HS
  iintro HS
  iapply (Wp_ret c)
  iapply Hk
  iexact HS

/-- Part 32 of the kernel. -/
theorem part32 (c : Dev nD) (v5 v8 v44 v48 v51 v912 : BitVec 32) {Q : (Σ' (v1092 : BitVec 32) (v1094 : BitVec 32), BitVec 32) → sProp 𝕄} :
    St m K c 28 17 [27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [11, 16, 10, 15, 9, 14, 8, 7, 6, 5, 4, 3, 2, 1, 0] [21] []
      ⊢ iprop((∀ w1 w2 w3, St m K c 29 17 [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [17, 11, 16, 10, 15, 9, 14, 8, 7, 6, 5, 4, 3, 2, 1, 0] [] [] -∗ Q ⟨w1, w2, w3⟩)
          -∗ Wp c (k0_part32 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v8 v44 v48 v51 (ivB m c (bZ c)) v912) Q) := by
  rw [k0_part32_eq_skeleton]; unfold k0_part32_skel
  simp only [Prog.lift, Prog.bind_op, Prog.bind_ret, Prog.pure_eq_ret]
  iintro HS Hk
  iapply (st_send m K c 21 28 17 [27, 20, 26, 19, 25, 18, 24, 17, 11, 16, 10, 15, 9, 5, 14, 8, 4, 13, 7, 3, 12, 6, 2, 1, 0] [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [11, 16, 10, 15, 9, 14, 8, 7, 6, 5, 4, 3, 2, 1, 0] [21] [] [] rfl rfl (by decide) rfl (dev33_eq c) (off13_eq c 1 1) ⟨rfl, rfl⟩ rfl rfl rfl) $$ HS
  iintro HS
  iapply (st_load m K c 17 29 17 [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [11, 16, 10, 15, 9, 14, 8, 7, 6, 5, 4, 3, 2, 1, 0] [11, 16, 10, 15, 9, 14, 8, 7, 6, 5, 4, 3, 2, 1, 0] [] [] rfl (by decide) (off14_eq c 1 1)) $$ HS
  iintro HS
  iapply (st_dead m K c 29 17 [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [11, 16, 10, 15, 9, 14, 8, 7, 6, 5, 4, 3, 2, 1, 0] [] []) $$ HS
  iintro %u HS
  iapply (st_store m K c 17 29 17 [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [11, 16, 10, 15, 9, 14, 8, 7, 6, 5, 4, 3, 2, 1, 0] [17, 11, 16, 10, 15, 9, 14, 8, 7, 6, 5, 4, 3, 2, 1, 0] [] [] rfl (off14_eq c 1 1) ⟨rfl, rfl⟩ (at_off (off14_eq c 1 1) fun inb x => oV_out m c (bZ c) 17 (by decide) rfl inb x)) $$ HS
  iintro HS
  iapply (Wp_ret c)
  iapply Hk
  iexact HS

/-- Part 33 of the kernel. -/
theorem part33 (c : Dev nD) (v2 v5 v8 v40 v43 v44 v48 v1092 v1094 c0_i32_732 : BitVec 32) {Q : (Σ' (v1124 : BitVec 32) (v1125 : BitVec 32), FVec F S64x2048 .f32) → sProp 𝕄} :
    St m K c 29 17 [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [17, 11, 16, 10, 15, 9, 14, 8, 7, 6, 5, 4, 3, 2, 1, 0] [] []
      ⊢ iprop((∀ w1 w2, St m K c 30 18 [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [17, 11, 16, 10, 15, 9, 14, 8, 7, 6, 5, 4, 3, 2, 1, 0] [] [] -∗ Q ⟨w1, w2, k0_pay35 (pcV m c 12)⟩)
          -∗ Wp c (k0_part33 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v48 v1092 v1094 c0_i32_732) Q) := by
  rw [k0_part33_eq_skeleton]; unfold k0_part33_skel
  simp only [Prog.lift, Prog.bind_op, Prog.bind_ret, Prog.pure_eq_ret]
  iintro HS Hk
  iapply (st_recv m K c 10 12 29 17 [21, 27, 20, 26, 19, 25, 18, 24, 17, 11, 16, 10, 15, 9, 5, 14, 8, 4, 13, 7, 3, 12, 6, 2, 1, 0] [32, 31, 30] [17, 11, 16, 10, 15, 9, 14, 8, 7, 6, 5, 4, 3, 2, 1, 0] [12, 17, 11, 16, 10, 15, 9, 14, 8, 7, 6, 5, 4, 3, 2, 1, 0] [17, 11, 16, 10, 15, 9, 14, 8, 7, 6, 5, 4, 3, 2, 1, 0] [28] [] (by decide) rfl rfl rfl rfl rfl (by decide) rfl rfl) $$ HS
  iintro HS
  iapply (st_send m K c 28 29 18 [21, 27, 20, 26, 19, 25, 18, 24, 17, 11, 16, 10, 15, 9, 5, 14, 8, 4, 13, 7, 3, 12, 6, 2, 1, 0] [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [17, 11, 16, 10, 15, 9, 14, 8, 7, 6, 5, 4, 3, 2, 1, 0] [28] [] [] rfl rfl (by decide) rfl (dev34_eq c) (off10_eq c 2 0) ⟨rfl, rfl⟩ rfl rfl rfl) $$ HS
  iintro HS
  iapply (st_load m K c 12 30 18 [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [17, 11, 16, 10, 15, 9, 14, 8, 7, 6, 5, 4, 3, 2, 1, 0] [17, 11, 16, 10, 15, 9, 14, 8, 7, 6, 5, 4, 3, 2, 1, 0] [] [] rfl (by decide) (off11_eq c 2 0)) $$ HS
  iintro HS
  iapply (Wp_ret c)
  iapply Hk
  iexact HS

/-- Part 34 of the kernel. -/
theorem part34 (c : Dev nD) (v2 v5 v8 v40 v43 v44 v51 v1092 v1124 v1125 : BitVec 32) {Q : (PUnit) → sProp 𝕄} :
    St m K c 30 18 [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [17, 11, 16, 10, 15, 9, 14, 8, 7, 6, 5, 4, 3, 2, 1, 0] [] []
      ⊢ iprop((St m K c 30 19 [28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [12, 17, 11, 16, 10, 15, 9, 14, 8, 7, 6, 5, 4, 3, 2, 1, 0] [22] [] -∗ Q ⟨⟩)
          -∗ Wp c (k0_part34 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v51 (ivB m c (bX c)) v1092 v1124 v1125 (k0_pay35 (pcV m c 12))) Q) := by
  rw [k0_part34_eq_skeleton]; unfold k0_part34_skel
  simp only [Prog.lift, Prog.bind_op, Prog.bind_ret, Prog.pure_eq_ret]
  iintro HS Hk
  iapply (st_dead m K c 30 18 [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [17, 11, 16, 10, 15, 9, 14, 8, 7, 6, 5, 4, 3, 2, 1, 0] [] []) $$ HS
  iintro %u HS
  iapply (st_store m K c 12 30 18 [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [17, 11, 16, 10, 15, 9, 14, 8, 7, 6, 5, 4, 3, 2, 1, 0] [12, 17, 11, 16, 10, 15, 9, 14, 8, 7, 6, 5, 4, 3, 2, 1, 0] [] [] rfl (off11_eq c 2 0) ⟨rfl, rfl⟩ (at_off (off11_eq c 2 0) fun inb x => oV_out m c (bX c) 12 (by decide) rfl inb x)) $$ HS
  iintro HS
  iapply (st_recv m K c 16 18 30 18 [28, 21, 27, 20, 26, 19, 25, 18, 24, 17, 11, 16, 10, 15, 9, 5, 14, 8, 4, 13, 7, 3, 12, 6, 2, 1, 0] [32, 31, 30] [12, 17, 11, 16, 10, 15, 9, 14, 8, 7, 6, 5, 4, 3, 2, 1, 0] [18, 12, 17, 11, 16, 10, 15, 9, 14, 8, 7, 6, 5, 4, 3, 2, 1, 0] [12, 17, 11, 16, 10, 15, 9, 14, 8, 7, 6, 5, 4, 3, 2, 1, 0] [22] [] (by decide) rfl rfl rfl rfl rfl (by decide) rfl rfl) $$ HS
  iintro HS
  iapply (Wp_ret c)
  iapply Hk
  iexact HS

/-- Part 35 of the kernel. -/
theorem part35 (c : Dev nD) (v2 v5 v8 v40 v44 v48 v51 v1092 : BitVec 32) {Q : (Σ' (v1196 : BitVec 32), BitVec 32) → sProp 𝕄} :
    St m K c 30 19 [28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [12, 17, 11, 16, 10, 15, 9, 14, 8, 7, 6, 5, 4, 3, 2, 1, 0] [22] []
      ⊢ iprop((∀ w1 w2, St m K c 31 20 [22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [18, 12, 17, 11, 16, 10, 15, 9, 14, 8, 7, 6, 5, 4, 3, 2, 1, 0] [29] [] -∗ Q ⟨w1, w2⟩)
          -∗ Wp c (k0_part35 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v44 v48 v51 (ivB m c (bZ c)) v1092) Q) := by
  rw [k0_part35_eq_skeleton]; unfold k0_part35_skel
  simp only [Prog.lift, Prog.bind_op, Prog.bind_ret, Prog.pure_eq_ret]
  iintro HS Hk
  iapply (st_send m K c 22 30 19 [28, 21, 27, 20, 26, 19, 25, 18, 24, 17, 11, 16, 10, 15, 9, 5, 14, 8, 4, 13, 7, 3, 12, 6, 2, 1, 0] [22, 28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [12, 17, 11, 16, 10, 15, 9, 14, 8, 7, 6, 5, 4, 3, 2, 1, 0] [22] [] [] rfl rfl (by decide) rfl (dev35_eq c) (off13_eq c 2 0) ⟨rfl, rfl⟩ rfl rfl rfl) $$ HS
  iintro HS
  iapply (st_load m K c 18 31 19 [22, 28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [12, 17, 11, 16, 10, 15, 9, 14, 8, 7, 6, 5, 4, 3, 2, 1, 0] [12, 17, 11, 16, 10, 15, 9, 14, 8, 7, 6, 5, 4, 3, 2, 1, 0] [] [] rfl (by decide) (off14_eq c 2 0)) $$ HS
  iintro HS
  iapply (st_dead m K c 31 19 [22, 28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [12, 17, 11, 16, 10, 15, 9, 14, 8, 7, 6, 5, 4, 3, 2, 1, 0] [] []) $$ HS
  iintro %u HS
  iapply (st_store m K c 18 31 19 [22, 28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [12, 17, 11, 16, 10, 15, 9, 14, 8, 7, 6, 5, 4, 3, 2, 1, 0] [18, 12, 17, 11, 16, 10, 15, 9, 14, 8, 7, 6, 5, 4, 3, 2, 1, 0] [] [] rfl (off14_eq c 2 0) ⟨rfl, rfl⟩ (at_off (off14_eq c 2 0) fun inb x => oV_out m c (bZ c) 18 (by decide) rfl inb x)) $$ HS
  iintro HS
  iapply (st_recv m K c 11 13 31 19 [22, 28, 21, 27, 20, 26, 19, 25, 18, 24, 17, 11, 16, 10, 15, 9, 5, 14, 8, 4, 13, 7, 3, 12, 6, 2, 1, 0] [32, 31, 30] [18, 12, 17, 11, 16, 10, 15, 9, 14, 8, 7, 6, 5, 4, 3, 2, 1, 0] [13, 18, 12, 17, 11, 16, 10, 15, 9, 14, 8, 7, 6, 5, 4, 3, 2, 1, 0] [18, 12, 17, 11, 16, 10, 15, 9, 14, 8, 7, 6, 5, 4, 3, 2, 1, 0] [29] [] (by decide) rfl rfl rfl rfl rfl (by decide) rfl rfl) $$ HS
  iintro HS
  iapply (Wp_ret c)
  iapply Hk
  iexact HS

/-- Part 36 of the kernel. -/
theorem part36 (c : Dev nD) (v2 v5 v43 v48 v51 v1092 v1196 c4_i32_803 : BitVec 32) {Q : (Σ' (v1234 : BitVec 32), BitVec 32) → sProp 𝕄} :
    St m K c 31 20 [22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [18, 12, 17, 11, 16, 10, 15, 9, 14, 8, 7, 6, 5, 4, 3, 2, 1, 0] [29] []
      ⊢ iprop((∀ w1 w2, St m K c 32 21 [29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [13, 18, 12, 17, 11, 16, 10, 15, 9, 14, 8, 7, 6, 5, 4, 3, 2, 1, 0] [23] [] -∗ Q ⟨w1, w2⟩)
          -∗ Wp c (k0_part36 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v43 v48 v51 (ivB m c (bX c)) v1092 v1196 c4_i32_803) Q) := by
  rw [k0_part36_eq_skeleton]; unfold k0_part36_skel
  simp only [Prog.lift, Prog.bind_op, Prog.bind_ret, Prog.pure_eq_ret]
  iintro HS Hk
  iapply (st_send m K c 29 31 20 [22, 28, 21, 27, 20, 26, 19, 25, 18, 24, 17, 11, 16, 10, 15, 9, 5, 14, 8, 4, 13, 7, 3, 12, 6, 2, 1, 0] [29, 22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [18, 12, 17, 11, 16, 10, 15, 9, 14, 8, 7, 6, 5, 4, 3, 2, 1, 0] [29] [] [] rfl rfl (by decide) rfl (dev36_eq c) (off10_eq c 2 1) ⟨rfl, rfl⟩ rfl rfl rfl) $$ HS
  iintro HS
  iapply (st_load m K c 13 32 20 [29, 22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [18, 12, 17, 11, 16, 10, 15, 9, 14, 8, 7, 6, 5, 4, 3, 2, 1, 0] [18, 12, 17, 11, 16, 10, 15, 9, 14, 8, 7, 6, 5, 4, 3, 2, 1, 0] [] [] rfl (by decide) (off11_eq c 2 1)) $$ HS
  iintro HS
  iapply (st_dead m K c 32 20 [29, 22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [18, 12, 17, 11, 16, 10, 15, 9, 14, 8, 7, 6, 5, 4, 3, 2, 1, 0] [] []) $$ HS
  iintro %u HS
  iapply (st_store m K c 13 32 20 [29, 22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [18, 12, 17, 11, 16, 10, 15, 9, 14, 8, 7, 6, 5, 4, 3, 2, 1, 0] [13, 18, 12, 17, 11, 16, 10, 15, 9, 14, 8, 7, 6, 5, 4, 3, 2, 1, 0] [] [] rfl (off11_eq c 2 1) ⟨rfl, rfl⟩ (at_off (off11_eq c 2 1) fun inb x => oV_out m c (bX c) 13 (by decide) rfl inb x)) $$ HS
  iintro HS
  iapply (st_recv m K c 17 19 32 20 [29, 22, 28, 21, 27, 20, 26, 19, 25, 18, 24, 17, 11, 16, 10, 15, 9, 5, 14, 8, 4, 13, 7, 3, 12, 6, 2, 1, 0] [32, 31, 30] [13, 18, 12, 17, 11, 16, 10, 15, 9, 14, 8, 7, 6, 5, 4, 3, 2, 1, 0] [19, 13, 18, 12, 17, 11, 16, 10, 15, 9, 14, 8, 7, 6, 5, 4, 3, 2, 1, 0] [13, 18, 12, 17, 11, 16, 10, 15, 9, 14, 8, 7, 6, 5, 4, 3, 2, 1, 0] [23] [] (by decide) rfl rfl rfl rfl rfl (by decide) rfl rfl) $$ HS
  iintro HS
  iapply (Wp_ret c)
  iapply Hk
  iexact HS

/-- Part 37 of the kernel. -/
theorem part37 (c : Dev nD) (v5 v8 v40 v44 v51 v1092 v1234 c1024_i32_822 : BitVec 32) {Q : (Σ' (v1272 : BitVec 32), BitVec 32) → sProp 𝕄} :
    St m K c 32 21 [29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [13, 18, 12, 17, 11, 16, 10, 15, 9, 14, 8, 7, 6, 5, 4, 3, 2, 1, 0] [23] []
      ⊢ iprop((∀ w1 w2, St m K c 33 21 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [19, 13, 18, 12, 17, 11, 16, 10, 15, 9, 14, 8, 7, 6, 5, 4, 3, 2, 1, 0] [] [] -∗ Q ⟨w1, w2⟩)
          -∗ Wp c (k0_part37 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v8 v40 v44 v51 (ivB m c (bZ c)) v1092 v1234 c1024_i32_822) Q) := by
  rw [k0_part37_eq_skeleton]; unfold k0_part37_skel
  simp only [Prog.lift, Prog.bind_op, Prog.bind_ret, Prog.pure_eq_ret]
  iintro HS Hk
  iapply (st_send m K c 23 32 21 [29, 22, 28, 21, 27, 20, 26, 19, 25, 18, 24, 17, 11, 16, 10, 15, 9, 5, 14, 8, 4, 13, 7, 3, 12, 6, 2, 1, 0] [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [13, 18, 12, 17, 11, 16, 10, 15, 9, 14, 8, 7, 6, 5, 4, 3, 2, 1, 0] [23] [] [] rfl rfl (by decide) rfl (dev37_eq c) (off13_eq c 2 1) ⟨rfl, rfl⟩ rfl rfl rfl) $$ HS
  iintro HS
  iapply (st_load m K c 19 33 21 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [13, 18, 12, 17, 11, 16, 10, 15, 9, 14, 8, 7, 6, 5, 4, 3, 2, 1, 0] [13, 18, 12, 17, 11, 16, 10, 15, 9, 14, 8, 7, 6, 5, 4, 3, 2, 1, 0] [] [] rfl (by decide) (off14_eq c 2 1)) $$ HS
  iintro HS
  iapply (st_dead m K c 33 21 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [13, 18, 12, 17, 11, 16, 10, 15, 9, 14, 8, 7, 6, 5, 4, 3, 2, 1, 0] [] []) $$ HS
  iintro %u HS
  iapply (st_store m K c 19 33 21 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [13, 18, 12, 17, 11, 16, 10, 15, 9, 14, 8, 7, 6, 5, 4, 3, 2, 1, 0] [19, 13, 18, 12, 17, 11, 16, 10, 15, 9, 14, 8, 7, 6, 5, 4, 3, 2, 1, 0] [] [] rfl (off14_eq c 2 1) ⟨rfl, rfl⟩ (at_off (off14_eq c 2 1) fun inb x => oV_out m c (bZ c) 19 (by decide) rfl inb x)) $$ HS
  iintro HS
  iapply (Wp_ret c)
  iapply Hk
  iexact HS

end Cert.KernelIdeal.Pf
-- ==== Proof.PartsE.lean ====
module

public import proofs.«01_k».proof.Proof.Acc

@[expose] public section

/-!
# The forwarded halves arrive
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- Part 38 of the kernel. -/
theorem part38 (c : Dev nD) (v2 v5 v8 v40 v43 v44 v54 v1272 c64_i32_842 : BitVec 32) {Q : (Σ' (v1304 : BitVec 32), BitVec 32) → sProp 𝕄} :
    St m K c 33 21 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [19, 13, 18, 12, 17, 11, 16, 10, 15, 9, 14, 8, 7, 6, 5, 4, 3, 2, 1, 0] [] []
      ⊢ iprop((∀ w1 w2, St m K c 33 23 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [19, 13, 18, 12, 17, 11, 16, 10, 15, 9, 14, 8, 7, 6, 5, 4, 3, 2, 1, 0] [] [] -∗ Q ⟨w1, w2⟩)
          -∗ Wp c (k0_part38 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v54 v1272 c64_i32_842) Q) := by
  rw [k0_part38_eq_skeleton]; unfold k0_part38_skel
  simp only [Prog.lift, Prog.bind_op, Prog.bind_ret, Prog.pure_eq_ret]
  iintro HS Hk
  iapply (st_recv_x m K c 18 33 21 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [19, 13, 18, 12, 17, 11, 16, 10, 15, 9, 14, 8, 7, 6, 5, 4, 3, 2, 1, 0] [] rfl rfl (by decide) rfl rfl) $$ HS
  iintro HS
  iapply (st_recv_z m K c 0 18 24 20 33 22 [23, 29, 22, 28, 21, 27, 20, 26, 19, 25, 18, 24, 17, 11, 16, 10, 15, 9, 5, 14, 8, 4, 13, 7, 3, 12, 6, 2, 1, 0] [32, 31, 30] [19, 13, 18, 12, 17, 11, 16, 10, 15, 9, 14, 8, 7, 6, 5, 4, 3, 2, 1, 0] [20, 19, 13, 18, 12, 17, 11, 16, 10, 15, 9, 14, 8, 7, 6, 5, 4, 3, 2, 1, 0] [19, 13, 18, 12, 17, 11, 16, 10, 15, 9, 14, 8, 7, 6, 5, 4, 3, 2, 1, 0] [] rfl rfl rfl rfl rfl rfl (by decide) rfl rfl) $$ HS
  iintro HS
  iapply (Wp_ret c)
  iapply Hk
  iexact HS

/-- Part 39 of the kernel. -/
theorem part39 (c : Dev nD) (v2 v5 v8 v40 v44 v54 v1272 v1304 c0_i32_868 : BitVec 32) {Q : (BitVec 32) → sProp 𝕄} :
    St m K c 33 23 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [19, 13, 18, 12, 17, 11, 16, 10, 15, 9, 14, 8, 7, 6, 5, 4, 3, 2, 1, 0] [] []
      ⊢ iprop((∀ w1, St m K c 33 24 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [] [19] -∗ Q w1)
          -∗ Wp c (k0_part39 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v44 v54 (ivB m c (bD c)) v1272 v1304 c0_i32_868) Q) := by
  rw [k0_part39_eq_skeleton]; unfold k0_part39_skel
  simp only [Prog.lift, Prog.bind_op, Prog.bind_ret, Prog.pure_eq_ret]
  iintro HS Hk
  iapply (st_load m K c 20 33 23 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [19, 13, 18, 12, 17, 11, 16, 10, 15, 9, 14, 8, 7, 6, 5, 4, 3, 2, 1, 0] [19, 13, 18, 12, 17, 11, 16, 10, 15, 9, 14, 8, 7, 6, 5, 4, 3, 2, 1, 0] [] [] rfl (by decide) (off17_eq c 0 0)) $$ HS
  iintro HS
  iapply (st_dead m K c 33 23 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [19, 13, 18, 12, 17, 11, 16, 10, 15, 9, 14, 8, 7, 6, 5, 4, 3, 2, 1, 0] [] []) $$ HS
  iintro %u HS
  iapply (st_store m K c 20 33 23 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [19, 13, 18, 12, 17, 11, 16, 10, 15, 9, 14, 8, 7, 6, 5, 4, 3, 2, 1, 0] [20, 19, 13, 18, 12, 17, 11, 16, 10, 15, 9, 14, 8, 7, 6, 5, 4, 3, 2, 1, 0] [] [] rfl (off17_eq c 0 0) ⟨rfl, rfl⟩ (at_off (off17_eq c 0 0) fun inb x => oV_out m c (bD c) 20 (by decide) rfl inb x)) $$ HS
  iintro HS
  iapply (st_recv_x m K c 19 33 23 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [] rfl rfl (by decide) rfl rfl) $$ HS
  iintro HS
  iapply (Wp_ret c)
  iapply Hk
  iexact HS

/-- Part 40 of the kernel. -/
theorem part40 (c : Dev nD) (v5 v40 v43 v54 v1272 v1338 : BitVec 32) {Q : (BitVec 32) → sProp 𝕄} :
    St m K c 33 24 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [] [19]
      ⊢ iprop((∀ w1, St m K c 33 25 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] [] -∗ Q w1)
          -∗ Wp c (k0_part40 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v40 v43 v54 (ivB m c (bD c)) v1272 v1338) Q) := by
  rw [k0_part40_eq_skeleton]; unfold k0_part40_skel
  simp only [Prog.lift, Prog.bind_op, Prog.bind_ret, Prog.pure_eq_ret]
  iintro HS Hk
  iapply (st_recv_z m K c 1 19 25 21 33 24 [23, 29, 22, 28, 21, 27, 20, 26, 19, 25, 18, 24, 17, 11, 16, 10, 15, 9, 5, 14, 8, 4, 13, 7, 3, 12, 6, 2, 1, 0] [32, 31, 30] [20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [] rfl rfl rfl rfl rfl rfl (by decide) rfl rfl) $$ HS
  iintro HS
  iapply (st_load m K c 21 33 25 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [] [] rfl (by decide) (off17_eq c 0 1)) $$ HS
  iintro HS
  iapply (st_dead m K c 33 25 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [] []) $$ HS
  iintro %u HS
  iapply (st_store m K c 21 33 25 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] [] rfl (off17_eq c 0 1) ⟨rfl, rfl⟩ (at_off (off17_eq c 0 1) fun inb x => oV_out m c (bD c) 21 (by decide) rfl inb x)) $$ HS
  iintro HS
  iapply (Wp_ret c)
  iapply Hk
  iexact HS

/-- Part 41 of the kernel. -/
theorem part41 (c : Dev nD) (v2 v5 v8 v40 v43 v44 v54 v1370 : BitVec 32) {Q : (FVec F S64x2048 .f32) → sProp 𝕄} :
    St m K c 33 25 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] []
      ⊢ iprop((St m K c 33 27 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] [] -∗ Q (k0_pay42 (ivB m c (bD c)) (pcV m c 22)))
          -∗ Wp c (k0_part41 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v54 (ivB m c (bD c)) v1370) Q) := by
  rw [k0_part41_eq_skeleton]; unfold k0_part41_skel
  simp only [Prog.lift, Prog.bind_op, Prog.bind_ret, Prog.pure_eq_ret]
  iintro HS Hk
  iapply (st_recv_x m K c 20 33 25 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] rfl rfl (by decide) rfl rfl) $$ HS
  iintro HS
  iapply (st_recv_z m K c 2 20 26 22 33 26 [23, 29, 22, 28, 21, 27, 20, 26, 19, 25, 18, 24, 17, 11, 16, 10, 15, 9, 5, 14, 8, 4, 13, 7, 3, 12, 6, 2, 1, 0] [32, 31, 30] [21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] rfl rfl rfl rfl rfl rfl (by decide) rfl rfl) $$ HS
  iintro HS
  iapply (st_load m K c 22 33 27 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] [] rfl (by decide) (off17_eq c 1 0)) $$ HS
  iintro HS
  iapply (st_dead m K c 33 27 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] []) $$ HS
  iintro %u HS
  iapply (Wp_ret c)
  iapply Hk
  iexact HS

/-- Part 42 of the kernel. -/
theorem part42 (c : Dev nD) (v2 v5 v8 v40 v43 v44 v54 v1370 : BitVec 32) {Q : (BitVec 32) → sProp 𝕄} :
    St m K c 33 27 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [] []
      ⊢ iprop((∀ w1, St m K c 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] [] -∗ Q w1)
          -∗ Wp c (k0_part42 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v54 v1370 (k0_pay42 (ivB m c (bD c)) (pcV m c 22))) Q) := by
  rw [k0_part42_eq_skeleton]; unfold k0_part42_skel
  simp only [Prog.lift, Prog.bind_op, Prog.bind_ret, Prog.pure_eq_ret]
  iintro HS Hk
  iapply (st_store m K c 22 33 27 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] [] rfl (off17_eq c 1 0) ⟨rfl, rfl⟩ (at_off (off17_eq c 1 0) fun inb x => oV_out m c (bD c) 22 (by decide) rfl inb x)) $$ HS
  iintro HS
  iapply (st_recv_x m K c 21 33 27 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] rfl rfl (by decide) rfl rfl) $$ HS
  iintro HS
  iapply (st_recv_z m K c 3 21 27 23 33 28 [23, 29, 22, 28, 21, 27, 20, 26, 19, 25, 18, 24, 17, 11, 16, 10, 15, 9, 5, 14, 8, 4, 13, 7, 3, 12, 6, 2, 1, 0] [32, 31, 30] [22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] rfl rfl rfl rfl rfl rfl (by decide) rfl rfl) $$ HS
  iintro HS
  iapply (Wp_ret c)
  iapply Hk
  iexact HS

/-- Part 43 of the kernel. -/
theorem part43 (c : Dev nD) (v5 v8 v40 v44 v54 v1370 c4096_i32_959 : BitVec 32) {Q : (BitVec 32) → sProp 𝕄} :
    St m K c 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] []
      ⊢ iprop((∀ w1, St m K c 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] [] -∗ Q w1)
          -∗ Wp c (k0_part43 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v5 v8 v40 v44 v54 (ivB m c (bD c)) v1370 c4096_i32_959) Q) := by
  rw [k0_part43_eq_skeleton]; unfold k0_part43_skel
  simp only [Prog.lift, Prog.bind_op, Prog.bind_ret, Prog.pure_eq_ret]
  iintro HS Hk
  iapply (st_load m K c 23 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] [] rfl (by decide) (off17_eq c 1 1)) $$ HS
  iintro HS
  iapply (st_dead m K c 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [] []) $$ HS
  iintro %u HS
  iapply (st_store m K c 23 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] [] rfl (off17_eq c 1 1) ⟨rfl, rfl⟩ (at_off (off17_eq c 1 1) fun inb x => oV_out m c (bD c) 23 (by decide) rfl inb x)) $$ HS
  iintro HS
  iapply (Wp_ret c)
  iapply Hk
  iexact HS

/-- Part 44 of the kernel. -/
theorem part44 (c : Dev nD) (v2 v5 v40 v43 v54 v1468 : BitVec 32) {Q : (PUnit) → sProp 𝕄} :
    St m K c 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] []
      ⊢ iprop((St m K c 33 31 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] [] -∗ Q ⟨⟩)
          -∗ Wp c (k0_part44 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v40 v43 v54 (ivB m c (bD c)) v1468) Q) := by
  rw [k0_part44_eq_skeleton]; unfold k0_part44_skel
  simp only [Prog.lift, Prog.bind_op, Prog.bind_ret, Prog.pure_eq_ret]
  iintro HS Hk
  iapply (st_recv_x m K c 22 33 29 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] rfl rfl (by decide) rfl rfl) $$ HS
  iintro HS
  iapply (st_recv_z m K c 4 22 28 24 33 30 [23, 29, 22, 28, 21, 27, 20, 26, 19, 25, 18, 24, 17, 11, 16, 10, 15, 9, 5, 14, 8, 4, 13, 7, 3, 12, 6, 2, 1, 0] [32, 31, 30] [23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] rfl rfl rfl rfl rfl rfl (by decide) rfl rfl) $$ HS
  iintro HS
  iapply (st_load m K c 24 33 31 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] [] rfl (by decide) (off17_eq c 2 0)) $$ HS
  iintro HS
  iapply (st_dead m K c 33 31 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [] []) $$ HS
  iintro %u HS
  iapply (st_store m K c 24 33 31 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] [] rfl (off17_eq c 2 0) ⟨rfl, rfl⟩ (at_off (off17_eq c 2 0) fun inb x => oV_out m c (bD c) 24 (by decide) rfl inb x)) $$ HS
  iintro HS
  iapply (Wp_ret c)
  iapply Hk
  iexact HS

/-- Part 45 of the kernel. -/
theorem part45 (c : Dev nD) (v2 v5 v8 v40 v43 v44 v54 v1468 : BitVec 32) {Q : (Σ' (v1544 : BitVec 32), FVec F S64x2048 .f32) → sProp 𝕄} :
    St m K c 33 31 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] []
      ⊢ iprop((∀ w1, St m K c 33 33 [23, 29, 22, 28, 21, 27, 20, 26, 19, 25, 18, 24, 17, 11, 16, 10, 15, 9, 5, 14, 8, 4, 13, 7, 3, 12, 6, 2, 1, 0] [32, 31, 30] [25, 24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] [] -∗ Q ⟨w1, k0_pay45 (ivB m c (bD c)) (pcV m c 25)⟩)
          -∗ Wp c (k0_part45 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v2 v5 v8 v40 v43 v44 v54 (ivB m c (bD c)) v1468) Q) := by
  rw [k0_part45_eq_skeleton]; unfold k0_part45_skel
  simp only [Prog.lift, Prog.bind_op, Prog.bind_ret, Prog.pure_eq_ret]
  iintro HS Hk
  iapply (st_recv_x m K c 23 33 31 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] rfl rfl (by decide) rfl rfl) $$ HS
  iintro HS
  iapply (st_recv_z m K c 5 23 29 25 33 32 [23, 29, 22, 28, 21, 27, 20, 26, 19, 25, 18, 24, 17, 11, 16, 10, 15, 9, 5, 14, 8, 4, 13, 7, 3, 12, 6, 2, 1, 0] [32, 31, 30] [24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] rfl rfl rfl rfl rfl rfl (by decide) rfl rfl) $$ HS
  iintro HS
  iapply (st_load m K c 25 33 33 [23, 29, 22, 28, 21, 27, 20, 26, 19, 25, 18, 24, 17, 11, 16, 10, 15, 9, 5, 14, 8, 4, 13, 7, 3, 12, 6, 2, 1, 0] [32, 31, 30] [25, 24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] [] rfl (by decide) (off17_eq c 2 1)) $$ HS
  iintro HS
  iapply (Wp_ret c)
  iapply Hk
  iexact HS

end Cert.KernelIdeal.Pf
-- ==== Proof.PartsF.lean ====
module

public import proofs.«01_k».proof.Proof.Acc

@[expose] public section

/-!
# The sources come back
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- Part 46 of the kernel. -/
theorem part46 (c : Dev nD) (v1544 : BitVec 32) {Q : (PUnit) → sProp 𝕄} :
    St m K c 33 33 [0, 1, 2, 6, 12, 3, 7, 13, 4, 8, 14, 5, 9, 15, 10, 16, 11, 17, 24, 18, 25, 19, 26, 20, 27, 21, 28, 22, 29, 23] [32, 31, 30] [25, 24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] []
      ⊢ iprop((St m K c 33 33 [3, 7, 13, 4, 8, 14, 5, 9, 15, 10, 16, 11, 17, 24, 18, 25, 19, 26, 20, 27, 21, 28, 22, 29, 23] [12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [12, 6, 2, 1, 0] [] -∗ Q ⟨⟩)
          -∗ Wp c (k0_part46 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c v1544 (k0_pay45 (ivB m c (bD c)) (pcV m c 25))) Q) := by
  rw [k0_part46_eq_skeleton]; unfold k0_part46_skel
  simp only [Prog.lift, Prog.bind_op, Prog.bind_ret, Prog.pure_eq_ret]
  iintro HS Hk
  iapply (st_dead m K c 33 33 [0, 1, 2, 6, 12, 3, 7, 13, 4, 8, 14, 5, 9, 15, 10, 16, 11, 17, 24, 18, 25, 19, 26, 20, 27, 21, 28, 22, 29, 23] [32, 31, 30] [25, 24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [] []) $$ HS
  iintro %u HS
  iapply (st_store m K c 25 33 33 [0, 1, 2, 6, 12, 3, 7, 13, 4, 8, 14, 5, 9, 15, 10, 16, 11, 17, 24, 18, 25, 19, 26, 20, 27, 21, 28, 22, 29, 23] [32, 31, 30] [25, 24, 23, 22, 21, 20, 19, 13, 18, 12, 17, 11, 16, 10, 15, 9, 14, 8, 7, 6, 5, 4, 3, 2, 1, 0] [24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [] [] rfl (off17_eq c 2 1) ⟨rfl, rfl⟩ (at_off (off17_eq c 2 1) fun inb x => oV_out m c (bD c) 25 (by decide) rfl inb x)) $$ HS
  iintro HS
  iapply (st_waits m K c 0 33 33 [0, 1, 2, 6, 12, 3, 7, 13, 4, 8, 14, 5, 9, 15, 10, 16, 11, 17, 24, 18, 25, 19, 26, 20, 27, 21, 28, 22, 29, 23] [1, 2, 6, 12, 3, 7, 13, 4, 8, 14, 5, 9, 15, 10, 16, 11, 17, 24, 18, 25, 19, 26, 20, 27, 21, 28, 22, 29, 23] [32, 31, 30] [0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [] [0] [] rfl rfl rfl rfl rfl) $$ HS
  iintro HS
  iapply (st_waits m K c 1 33 33 [1, 2, 6, 12, 3, 7, 13, 4, 8, 14, 5, 9, 15, 10, 16, 11, 17, 24, 18, 25, 19, 26, 20, 27, 21, 28, 22, 29, 23] [2, 6, 12, 3, 7, 13, 4, 8, 14, 5, 9, 15, 10, 16, 11, 17, 24, 18, 25, 19, 26, 20, 27, 21, 28, 22, 29, 23] [0, 32, 31, 30] [1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [0] [1, 0] [] rfl rfl rfl rfl rfl) $$ HS
  iintro HS
  iapply (st_waits m K c 2 33 33 [2, 6, 12, 3, 7, 13, 4, 8, 14, 5, 9, 15, 10, 16, 11, 17, 24, 18, 25, 19, 26, 20, 27, 21, 28, 22, 29, 23] [6, 12, 3, 7, 13, 4, 8, 14, 5, 9, 15, 10, 16, 11, 17, 24, 18, 25, 19, 26, 20, 27, 21, 28, 22, 29, 23] [1, 0, 32, 31, 30] [2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [1, 0] [2, 1, 0] [] rfl rfl rfl rfl rfl) $$ HS
  iintro HS
  iapply (st_waits m K c 6 33 33 [6, 12, 3, 7, 13, 4, 8, 14, 5, 9, 15, 10, 16, 11, 17, 24, 18, 25, 19, 26, 20, 27, 21, 28, 22, 29, 23] [12, 3, 7, 13, 4, 8, 14, 5, 9, 15, 10, 16, 11, 17, 24, 18, 25, 19, 26, 20, 27, 21, 28, 22, 29, 23] [2, 1, 0, 32, 31, 30] [6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [2, 1, 0] [6, 2, 1, 0] [] rfl rfl rfl rfl rfl) $$ HS
  iintro HS
  iapply (st_waits m K c 12 33 33 [12, 3, 7, 13, 4, 8, 14, 5, 9, 15, 10, 16, 11, 17, 24, 18, 25, 19, 26, 20, 27, 21, 28, 22, 29, 23] [3, 7, 13, 4, 8, 14, 5, 9, 15, 10, 16, 11, 17, 24, 18, 25, 19, 26, 20, 27, 21, 28, 22, 29, 23] [6, 2, 1, 0, 32, 31, 30] [12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [6, 2, 1, 0] [12, 6, 2, 1, 0] [] rfl rfl rfl rfl rfl) $$ HS
  iintro HS
  iapply (Wp_ret c)
  iapply Hk
  iexact HS

/-- Part 47 of the kernel. -/
theorem part47 (c : Dev nD) {Q : (PUnit) → sProp 𝕄} :
    St m K c 33 33 [3, 7, 13, 4, 8, 14, 5, 9, 15, 10, 16, 11, 17, 24, 18, 25, 19, 26, 20, 27, 21, 28, 22, 29, 23] [12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [12, 6, 2, 1, 0] []
      ⊢ iprop((St m K c 33 33 [5, 9, 15, 10, 16, 11, 17, 24, 18, 25, 19, 26, 20, 27, 21, 28, 22, 29, 23] [14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [14, 8, 4, 13, 7, 3, 12, 6, 2, 1, 0] [] -∗ Q ⟨⟩)
          -∗ Wp c (k0_part47 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c) Q) := by
  rw [k0_part47_eq_skeleton]; unfold k0_part47_skel
  simp only [Prog.lift, Prog.bind_op, Prog.bind_ret, Prog.pure_eq_ret]
  iintro HS Hk
  iapply (st_waits m K c 3 33 33 [3, 7, 13, 4, 8, 14, 5, 9, 15, 10, 16, 11, 17, 24, 18, 25, 19, 26, 20, 27, 21, 28, 22, 29, 23] [7, 13, 4, 8, 14, 5, 9, 15, 10, 16, 11, 17, 24, 18, 25, 19, 26, 20, 27, 21, 28, 22, 29, 23] [12, 6, 2, 1, 0, 32, 31, 30] [3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [12, 6, 2, 1, 0] [3, 12, 6, 2, 1, 0] [] rfl rfl rfl rfl rfl) $$ HS
  iintro HS
  iapply (st_waits m K c 7 33 33 [7, 13, 4, 8, 14, 5, 9, 15, 10, 16, 11, 17, 24, 18, 25, 19, 26, 20, 27, 21, 28, 22, 29, 23] [13, 4, 8, 14, 5, 9, 15, 10, 16, 11, 17, 24, 18, 25, 19, 26, 20, 27, 21, 28, 22, 29, 23] [3, 12, 6, 2, 1, 0, 32, 31, 30] [7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [3, 12, 6, 2, 1, 0] [7, 3, 12, 6, 2, 1, 0] [] rfl rfl rfl rfl rfl) $$ HS
  iintro HS
  iapply (st_waits m K c 13 33 33 [13, 4, 8, 14, 5, 9, 15, 10, 16, 11, 17, 24, 18, 25, 19, 26, 20, 27, 21, 28, 22, 29, 23] [4, 8, 14, 5, 9, 15, 10, 16, 11, 17, 24, 18, 25, 19, 26, 20, 27, 21, 28, 22, 29, 23] [7, 3, 12, 6, 2, 1, 0, 32, 31, 30] [13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [7, 3, 12, 6, 2, 1, 0] [13, 7, 3, 12, 6, 2, 1, 0] [] rfl rfl rfl rfl rfl) $$ HS
  iintro HS
  iapply (st_waits m K c 4 33 33 [4, 8, 14, 5, 9, 15, 10, 16, 11, 17, 24, 18, 25, 19, 26, 20, 27, 21, 28, 22, 29, 23] [8, 14, 5, 9, 15, 10, 16, 11, 17, 24, 18, 25, 19, 26, 20, 27, 21, 28, 22, 29, 23] [13, 7, 3, 12, 6, 2, 1, 0, 32, 31, 30] [4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [13, 7, 3, 12, 6, 2, 1, 0] [4, 13, 7, 3, 12, 6, 2, 1, 0] [] rfl rfl rfl rfl rfl) $$ HS
  iintro HS
  iapply (st_waits m K c 8 33 33 [8, 14, 5, 9, 15, 10, 16, 11, 17, 24, 18, 25, 19, 26, 20, 27, 21, 28, 22, 29, 23] [14, 5, 9, 15, 10, 16, 11, 17, 24, 18, 25, 19, 26, 20, 27, 21, 28, 22, 29, 23] [4, 13, 7, 3, 12, 6, 2, 1, 0, 32, 31, 30] [8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [4, 13, 7, 3, 12, 6, 2, 1, 0] [8, 4, 13, 7, 3, 12, 6, 2, 1, 0] [] rfl rfl rfl rfl rfl) $$ HS
  iintro HS
  iapply (st_waits m K c 14 33 33 [14, 5, 9, 15, 10, 16, 11, 17, 24, 18, 25, 19, 26, 20, 27, 21, 28, 22, 29, 23] [5, 9, 15, 10, 16, 11, 17, 24, 18, 25, 19, 26, 20, 27, 21, 28, 22, 29, 23] [8, 4, 13, 7, 3, 12, 6, 2, 1, 0, 32, 31, 30] [14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [8, 4, 13, 7, 3, 12, 6, 2, 1, 0] [14, 8, 4, 13, 7, 3, 12, 6, 2, 1, 0] [] rfl rfl rfl rfl rfl) $$ HS
  iintro HS
  iapply (Wp_ret c)
  iapply Hk
  iexact HS

/-- Part 48 of the kernel. -/
theorem part48 (c : Dev nD) {Q : (PUnit) → sProp 𝕄} :
    St m K c 33 33 [5, 9, 15, 10, 16, 11, 17, 24, 18, 25, 19, 26, 20, 27, 21, 28, 22, 29, 23] [14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [14, 8, 4, 13, 7, 3, 12, 6, 2, 1, 0] []
      ⊢ iprop((St m K c 33 33 [17, 24, 18, 25, 19, 26, 20, 27, 21, 28, 22, 29, 23] [11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [11, 16, 10, 15, 9, 5, 14, 8, 4, 13, 7, 3, 12, 6, 2, 1, 0] [] -∗ Q ⟨⟩)
          -∗ Wp c (k0_part48 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c) Q) := by
  rw [k0_part48_eq_skeleton]; unfold k0_part48_skel
  simp only [Prog.lift, Prog.bind_op, Prog.bind_ret, Prog.pure_eq_ret]
  iintro HS Hk
  iapply (st_waits m K c 5 33 33 [5, 9, 15, 10, 16, 11, 17, 24, 18, 25, 19, 26, 20, 27, 21, 28, 22, 29, 23] [9, 15, 10, 16, 11, 17, 24, 18, 25, 19, 26, 20, 27, 21, 28, 22, 29, 23] [14, 8, 4, 13, 7, 3, 12, 6, 2, 1, 0, 32, 31, 30] [5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [14, 8, 4, 13, 7, 3, 12, 6, 2, 1, 0] [5, 14, 8, 4, 13, 7, 3, 12, 6, 2, 1, 0] [] rfl rfl rfl rfl rfl) $$ HS
  iintro HS
  iapply (st_waits m K c 9 33 33 [9, 15, 10, 16, 11, 17, 24, 18, 25, 19, 26, 20, 27, 21, 28, 22, 29, 23] [15, 10, 16, 11, 17, 24, 18, 25, 19, 26, 20, 27, 21, 28, 22, 29, 23] [5, 14, 8, 4, 13, 7, 3, 12, 6, 2, 1, 0, 32, 31, 30] [9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [5, 14, 8, 4, 13, 7, 3, 12, 6, 2, 1, 0] [9, 5, 14, 8, 4, 13, 7, 3, 12, 6, 2, 1, 0] [] rfl rfl rfl rfl rfl) $$ HS
  iintro HS
  iapply (st_waits m K c 15 33 33 [15, 10, 16, 11, 17, 24, 18, 25, 19, 26, 20, 27, 21, 28, 22, 29, 23] [10, 16, 11, 17, 24, 18, 25, 19, 26, 20, 27, 21, 28, 22, 29, 23] [9, 5, 14, 8, 4, 13, 7, 3, 12, 6, 2, 1, 0, 32, 31, 30] [15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [9, 5, 14, 8, 4, 13, 7, 3, 12, 6, 2, 1, 0] [15, 9, 5, 14, 8, 4, 13, 7, 3, 12, 6, 2, 1, 0] [] rfl rfl rfl rfl rfl) $$ HS
  iintro HS
  iapply (st_waits m K c 10 33 33 [10, 16, 11, 17, 24, 18, 25, 19, 26, 20, 27, 21, 28, 22, 29, 23] [16, 11, 17, 24, 18, 25, 19, 26, 20, 27, 21, 28, 22, 29, 23] [15, 9, 5, 14, 8, 4, 13, 7, 3, 12, 6, 2, 1, 0, 32, 31, 30] [10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [15, 9, 5, 14, 8, 4, 13, 7, 3, 12, 6, 2, 1, 0] [10, 15, 9, 5, 14, 8, 4, 13, 7, 3, 12, 6, 2, 1, 0] [] rfl rfl rfl rfl rfl) $$ HS
  iintro HS
  iapply (st_waits m K c 16 33 33 [16, 11, 17, 24, 18, 25, 19, 26, 20, 27, 21, 28, 22, 29, 23] [11, 17, 24, 18, 25, 19, 26, 20, 27, 21, 28, 22, 29, 23] [10, 15, 9, 5, 14, 8, 4, 13, 7, 3, 12, 6, 2, 1, 0, 32, 31, 30] [16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [10, 15, 9, 5, 14, 8, 4, 13, 7, 3, 12, 6, 2, 1, 0] [16, 10, 15, 9, 5, 14, 8, 4, 13, 7, 3, 12, 6, 2, 1, 0] [] rfl rfl rfl rfl rfl) $$ HS
  iintro HS
  iapply (st_waits m K c 11 33 33 [11, 17, 24, 18, 25, 19, 26, 20, 27, 21, 28, 22, 29, 23] [17, 24, 18, 25, 19, 26, 20, 27, 21, 28, 22, 29, 23] [16, 10, 15, 9, 5, 14, 8, 4, 13, 7, 3, 12, 6, 2, 1, 0, 32, 31, 30] [11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [16, 10, 15, 9, 5, 14, 8, 4, 13, 7, 3, 12, 6, 2, 1, 0] [11, 16, 10, 15, 9, 5, 14, 8, 4, 13, 7, 3, 12, 6, 2, 1, 0] [] rfl rfl rfl rfl rfl) $$ HS
  iintro HS
  iapply (Wp_ret c)
  iapply Hk
  iexact HS

/-- Part 49 of the kernel. -/
theorem part49 (c : Dev nD) {Q : (PUnit) → sProp 𝕄} :
    St m K c 33 33 [17, 24, 18, 25, 19, 26, 20, 27, 21, 28, 22, 29, 23] [11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [11, 16, 10, 15, 9, 5, 14, 8, 4, 13, 7, 3, 12, 6, 2, 1, 0] []
      ⊢ iprop((St m K c 33 33 [20, 27, 21, 28, 22, 29, 23] [26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [26, 19, 25, 18, 24, 17, 11, 16, 10, 15, 9, 5, 14, 8, 4, 13, 7, 3, 12, 6, 2, 1, 0] [] -∗ Q ⟨⟩)
          -∗ Wp c (k0_part49 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c) Q) := by
  rw [k0_part49_eq_skeleton]; unfold k0_part49_skel
  simp only [Prog.lift, Prog.bind_op, Prog.bind_ret, Prog.pure_eq_ret]
  iintro HS Hk
  iapply (st_waits m K c 17 33 33 [17, 24, 18, 25, 19, 26, 20, 27, 21, 28, 22, 29, 23] [24, 18, 25, 19, 26, 20, 27, 21, 28, 22, 29, 23] [11, 16, 10, 15, 9, 5, 14, 8, 4, 13, 7, 3, 12, 6, 2, 1, 0, 32, 31, 30] [17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [11, 16, 10, 15, 9, 5, 14, 8, 4, 13, 7, 3, 12, 6, 2, 1, 0] [17, 11, 16, 10, 15, 9, 5, 14, 8, 4, 13, 7, 3, 12, 6, 2, 1, 0] [] rfl rfl rfl rfl rfl) $$ HS
  iintro HS
  iapply (st_waits m K c 24 33 33 [24, 18, 25, 19, 26, 20, 27, 21, 28, 22, 29, 23] [18, 25, 19, 26, 20, 27, 21, 28, 22, 29, 23] [17, 11, 16, 10, 15, 9, 5, 14, 8, 4, 13, 7, 3, 12, 6, 2, 1, 0, 32, 31, 30] [24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [17, 11, 16, 10, 15, 9, 5, 14, 8, 4, 13, 7, 3, 12, 6, 2, 1, 0] [24, 17, 11, 16, 10, 15, 9, 5, 14, 8, 4, 13, 7, 3, 12, 6, 2, 1, 0] [] rfl rfl rfl rfl rfl) $$ HS
  iintro HS
  iapply (st_waits m K c 18 33 33 [18, 25, 19, 26, 20, 27, 21, 28, 22, 29, 23] [25, 19, 26, 20, 27, 21, 28, 22, 29, 23] [24, 17, 11, 16, 10, 15, 9, 5, 14, 8, 4, 13, 7, 3, 12, 6, 2, 1, 0, 32, 31, 30] [18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [24, 17, 11, 16, 10, 15, 9, 5, 14, 8, 4, 13, 7, 3, 12, 6, 2, 1, 0] [18, 24, 17, 11, 16, 10, 15, 9, 5, 14, 8, 4, 13, 7, 3, 12, 6, 2, 1, 0] [] rfl rfl rfl rfl rfl) $$ HS
  iintro HS
  iapply (st_waits m K c 25 33 33 [25, 19, 26, 20, 27, 21, 28, 22, 29, 23] [19, 26, 20, 27, 21, 28, 22, 29, 23] [18, 24, 17, 11, 16, 10, 15, 9, 5, 14, 8, 4, 13, 7, 3, 12, 6, 2, 1, 0, 32, 31, 30] [25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [18, 24, 17, 11, 16, 10, 15, 9, 5, 14, 8, 4, 13, 7, 3, 12, 6, 2, 1, 0] [25, 18, 24, 17, 11, 16, 10, 15, 9, 5, 14, 8, 4, 13, 7, 3, 12, 6, 2, 1, 0] [] rfl rfl rfl rfl rfl) $$ HS
  iintro HS
  iapply (st_waits m K c 19 33 33 [19, 26, 20, 27, 21, 28, 22, 29, 23] [26, 20, 27, 21, 28, 22, 29, 23] [25, 18, 24, 17, 11, 16, 10, 15, 9, 5, 14, 8, 4, 13, 7, 3, 12, 6, 2, 1, 0, 32, 31, 30] [19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [25, 18, 24, 17, 11, 16, 10, 15, 9, 5, 14, 8, 4, 13, 7, 3, 12, 6, 2, 1, 0] [19, 25, 18, 24, 17, 11, 16, 10, 15, 9, 5, 14, 8, 4, 13, 7, 3, 12, 6, 2, 1, 0] [] rfl rfl rfl rfl rfl) $$ HS
  iintro HS
  iapply (st_waits m K c 26 33 33 [26, 20, 27, 21, 28, 22, 29, 23] [20, 27, 21, 28, 22, 29, 23] [19, 25, 18, 24, 17, 11, 16, 10, 15, 9, 5, 14, 8, 4, 13, 7, 3, 12, 6, 2, 1, 0, 32, 31, 30] [26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [19, 25, 18, 24, 17, 11, 16, 10, 15, 9, 5, 14, 8, 4, 13, 7, 3, 12, 6, 2, 1, 0] [26, 19, 25, 18, 24, 17, 11, 16, 10, 15, 9, 5, 14, 8, 4, 13, 7, 3, 12, 6, 2, 1, 0] [] rfl rfl rfl rfl rfl) $$ HS
  iintro HS
  iapply (Wp_ret c)
  iapply Hk
  iexact HS

/-- Part 50 of the kernel. -/
theorem part50 (c : Dev nD) {Q : (PUnit) → sProp 𝕄} :
    St m K c 33 33 [20, 27, 21, 28, 22, 29, 23] [26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [26, 19, 25, 18, 24, 17, 11, 16, 10, 15, 9, 5, 14, 8, 4, 13, 7, 3, 12, 6, 2, 1, 0] []
      ⊢ iprop((St m K c 33 33 [23] [29, 22, 28, 21, 27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [29, 22, 28, 21, 27, 20, 26, 19, 25, 18, 24, 17, 11, 16, 10, 15, 9, 5, 14, 8, 4, 13, 7, 3, 12, 6, 2, 1, 0] [] -∗ Q ⟨⟩)
          -∗ Wp c (k0_part50 xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13 c) Q) := by
  rw [k0_part50_eq_skeleton]; unfold k0_part50_skel
  simp only [Prog.lift, Prog.bind_op, Prog.bind_ret, Prog.pure_eq_ret]
  iintro HS Hk
  iapply (st_waits m K c 20 33 33 [20, 27, 21, 28, 22, 29, 23] [27, 21, 28, 22, 29, 23] [26, 19, 25, 18, 24, 17, 11, 16, 10, 15, 9, 5, 14, 8, 4, 13, 7, 3, 12, 6, 2, 1, 0, 32, 31, 30] [20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [26, 19, 25, 18, 24, 17, 11, 16, 10, 15, 9, 5, 14, 8, 4, 13, 7, 3, 12, 6, 2, 1, 0] [20, 26, 19, 25, 18, 24, 17, 11, 16, 10, 15, 9, 5, 14, 8, 4, 13, 7, 3, 12, 6, 2, 1, 0] [] rfl rfl rfl rfl rfl) $$ HS
  iintro HS
  iapply (st_waits m K c 27 33 33 [27, 21, 28, 22, 29, 23] [21, 28, 22, 29, 23] [20, 26, 19, 25, 18, 24, 17, 11, 16, 10, 15, 9, 5, 14, 8, 4, 13, 7, 3, 12, 6, 2, 1, 0, 32, 31, 30] [27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [20, 26, 19, 25, 18, 24, 17, 11, 16, 10, 15, 9, 5, 14, 8, 4, 13, 7, 3, 12, 6, 2, 1, 0] [27, 20, 26, 19, 25, 18, 24, 17, 11, 16, 10, 15, 9, 5, 14, 8, 4, 13, 7, 3, 12, 6, 2, 1, 0] [] rfl rfl rfl rfl rfl) $$ HS
  iintro HS
  iapply (st_waits m K c 21 33 33 [21, 28, 22, 29, 23] [28, 22, 29, 23] [27, 20, 26, 19, 25, 18, 24, 17, 11, 16, 10, 15, 9, 5, 14, 8, 4, 13, 7, 3, 12, 6, 2, 1, 0, 32, 31, 30] [21, 27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [27, 20, 26, 19, 25, 18, 24, 17, 11, 16, 10, 15, 9, 5, 14, 8, 4, 13, 7, 3, 12, 6, 2, 1, 0] [21, 27, 20, 26, 19, 25, 18, 24, 17, 11, 16, 10, 15, 9, 5, 14, 8, 4, 13, 7, 3, 12, 6, 2, 1, 0] [] rfl rfl rfl rfl rfl) $$ HS
  iintro HS
  iapply (st_waits m K c 28 33 33 [28, 22, 29, 23] [22, 29, 23] [21, 27, 20, 26, 19, 25, 18, 24, 17, 11, 16, 10, 15, 9, 5, 14, 8, 4, 13, 7, 3, 12, 6, 2, 1, 0, 32, 31, 30] [28, 21, 27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [21, 27, 20, 26, 19, 25, 18, 24, 17, 11, 16, 10, 15, 9, 5, 14, 8, 4, 13, 7, 3, 12, 6, 2, 1, 0] [28, 21, 27, 20, 26, 19, 25, 18, 24, 17, 11, 16, 10, 15, 9, 5, 14, 8, 4, 13, 7, 3, 12, 6, 2, 1, 0] [] rfl rfl rfl rfl rfl) $$ HS
  iintro HS
  iapply (st_waits m K c 22 33 33 [22, 29, 23] [29, 23] [28, 21, 27, 20, 26, 19, 25, 18, 24, 17, 11, 16, 10, 15, 9, 5, 14, 8, 4, 13, 7, 3, 12, 6, 2, 1, 0, 32, 31, 30] [22, 28, 21, 27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [28, 21, 27, 20, 26, 19, 25, 18, 24, 17, 11, 16, 10, 15, 9, 5, 14, 8, 4, 13, 7, 3, 12, 6, 2, 1, 0] [22, 28, 21, 27, 20, 26, 19, 25, 18, 24, 17, 11, 16, 10, 15, 9, 5, 14, 8, 4, 13, 7, 3, 12, 6, 2, 1, 0] [] rfl rfl rfl rfl rfl) $$ HS
  iintro HS
  iapply (st_waits m K c 29 33 33 [29, 23] [23] [22, 28, 21, 27, 20, 26, 19, 25, 18, 24, 17, 11, 16, 10, 15, 9, 5, 14, 8, 4, 13, 7, 3, 12, 6, 2, 1, 0, 32, 31, 30] [29, 22, 28, 21, 27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [22, 28, 21, 27, 20, 26, 19, 25, 18, 24, 17, 11, 16, 10, 15, 9, 5, 14, 8, 4, 13, 7, 3, 12, 6, 2, 1, 0] [29, 22, 28, 21, 27, 20, 26, 19, 25, 18, 24, 17, 11, 16, 10, 15, 9, 5, 14, 8, 4, 13, 7, 3, 12, 6, 2, 1, 0] [] rfl rfl rfl rfl rfl) $$ HS
  iintro HS
  iapply (Wp_ret c)
  iapply Hk
  iexact HS

end Cert.KernelIdeal.Pf
-- ==== Proof.Body.lean ====
module

public import proofs.«01_k».proof.Proof.FrontB
public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF

@[expose] public section

/-!
# The kernel's body
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-- A program in sequence. -/
theorem Wp_bind (c : Dev nD) {α β : Type} (p : Prog (TpuEff nD τ sig (Elt F) Λ₀ .tc) α) (k : α → Prog (TpuEff nD τ sig (Elt F) Λ₀ .tc) β) {Q : β → sProp 𝕄} :
    Wp c p (fun a => Wp c (k a) Q) ⊢ Wp c (p >>= k) Q :=
  Entails.of_eq (wp_bind _ _ _ p k Q).symm

/-- The copies, in the order their ends are waited for. -/
def zL : List (Fin 33) := [23, 29, 22, 28, 21, 27, 20, 26, 19, 25, 18, 24, 17, 11, 16, 10, 15, 9, 5, 14, 8, 4, 13, 7, 3, 12, 6, 2, 1, 0, 32, 31, 30]
/-- The sources in hand at the end. -/
def pL : List (Fin 33) := [23, 29, 22, 28, 21, 27, 20, 26, 19, 25, 18, 24, 17, 11, 16, 10, 15, 9, 5, 14, 8, 4, 13, 7, 3, 12, 6, 2, 1, 0]
/-- The pieces in the order they are kept and stored. -/
def kL : List (Fin 26) := [25, 24, 23, 22, 21, 20, 19, 13, 18, 12, 17, 11, 16, 10, 15, 9, 14, 8, 7, 6, 5, 4, 3, 2, 1, 0]

/-- The copies in flight may be listed in any order. -/
theorem st_perm (c : Dev nD) (nc nr : ℕ) (l l' z kp od pd ex) (h : l.Perm l') :
    St m K c nc nr l z kp od pd ex ⊢ St m K c nc nr l' z kp od pd ex := by
  unfold St Tx
  iintro ⟨#HR, ⟨HO, HSK, HF, HZ⟩, HX, HK, HOut, HS, HE⟩
  isplitr; · iexact HR
  isplitl [HO HSK HF HZ]
  · isplitl [HO]; · iexact HO
    isplitl [HSK]; · iexact HSK
    isplitl [HF]; · iapply (sepL_perm h (FK c)); iexact HF
    iexact HZ
  isplitl [HX]; · iexact HX
  isplitl [HK]; · iexact HK
  isplitl [HOut]; · iexact HOut
  isplitl [HS]; · iexact HS
  iexact HE

/-- What a device's body starts from. -/
def Pre (c : Dev nD) : sProp 𝕄 :=
  iprop(Recs m K ∗ (∃ W, owes (c : Thread nD τ) (O₀ c) W)
    ∗ (dutyTok ER (bC (lf c)) 0 0 ∗ bP (lf c) 0) ∗ (dutyTok ER (bC (rt c)) 0 3 ∗ bP (rt c) 3)
    ∗ (dutyTok ER (bC (px c)) 0 1 ∗ bP (px c) 1) ∗ (dutyTok ER (bC (pz c)) 0 2 ∗ bP (pz c) 2)
    ∗ atPos ER (bC c) 0 ∅ 0 ∗ cred (tallyAt (bC c) () 4) ∗ bigSepL sord (SK0 c) ∗ Rx c 0 ∗ OutSt m c [] ∗ XS m c ∗ WS m c
    ∗ OwnR c 0 ∗ OwnR c 1 ∗ PlR c 0)
/-- What it ends with. -/
def Post (c : Dev nD) : sProp 𝕄 :=
  iprop(semVal (bC c) 0 ∗ XS m c ∗ WS m c ∗ (dP c (Pl 0) (dsG m c) ∗ dP c (Pl 1) (dsF m c) ∗ dP c (Pl 2) (dsF m c) ∗ dP c (Pl 3) (dsF m c))
    ∗ St m K c 33 33 [] zL kL kL pL [])

set_option maxRecDepth 8000 in
set_option maxHeartbeats 4000000 in
/-- The body runs from the one to the other. -/
theorem body_run (c : Dev nD) {Q : PUnit → sProp 𝕄} :
    Pre m K c ⊢ iprop((Post m K c -∗ Q ⟨⟩) -∗ Wp c (cc0_body xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13) Q) := by
  rw [cc0_body_eq_skeleton]; unfold cc0_body_skel Pre
  iintro ⟨#HR, HO, HA, HB, HA', HB', Hat, Hcr, HSK, HRx, HOut, HX, HW, H0, H1, HP⟩ Hk
  iapply (Wp_bind c)
  iapply (part1 c)
  iintro %a1 %a2 %a3 %a4 %a5 %a6 %a7 %a8
  iapply (Wp_bind c)
  iapply (part2 m K c _ _ _ _ _ _ _) $$ [HO HA HB]
  · isplitr; · iexact HR
    isplitl [HO]; · iexact HO
    isplitl [HA]; · iexact HA
    iexact HB
  iintro %b1 %b2 %b3 %b4 %b5 %b6 %b7 %b8 HO
  iapply (Wp_bind c)
  iapply (part3 m K c _ _ _ _ _ _ _) $$ [HO HA' HB' Hat Hcr HSK HRx HOut HX HW H0]
  · isplitr; · iexact HR
    isplitl [HO]; · iexact HO
    isplitl [HA']; · iexact HA'
    isplitl [HB']; · iexact HB'
    isplitl [Hat]; · iexact Hat
    isplitl [Hcr]; · iexact Hcr
    isplitl [HSK]; · iexact HSK
    isplitl [HRx]; · iexact HRx
    isplitl [HOut]; · iexact HOut
    isplitl [HX]; · iexact HX
    isplitl [HW]; · iexact HW
    iexact H0
  iintro %c1 ⟨Hz, HX, HW, HS⟩
  iapply (Wp_bind c)
  iapply (part4 m K c _ _ _ _ _ _) $$ [HS H1 HW]
  · isplitl [HS]; · iexact HS
    isplitl [H1]; · iexact H1
    iexact HW
  iintro ⟨HW, HS⟩
  iapply (Wp_bind c)
  iapply (part5 m K c _ _ _) $$ [HS HP]
  · isplitl [HS]; · iexact HS
    iexact HP
  iintro HS
  iapply (Wp_bind c)
  iapply (part6 m K c _ _ _) $$ HS
  iintro ⟨HP0, HS⟩
  iapply (Wp_bind c)
  iapply (part7 m K c _ _ _) $$ HS
  iintro %d1 %d2 ⟨HP1, HP2, HS⟩
  iapply (Wp_bind c)
  iapply (part8 m K c _ _ _ _ _) $$ [HP2 HS]
  · isplitl [HP2]; · iexact HP2
    iexact HS
  iintro ⟨HP2, HP3, HS⟩
  iapply (Wp_bind c)
  iapply (part9 m K c _ _ _ _ _) $$ [HP0 HS]
  · isplitl [HP0]; · iexact HP0
    iexact HS
  iintro %e1 ⟨HP0, HS⟩
  iapply (Wp_bind c)
  iapply (part10 m K c _ _ _ _ _ _) $$ HS
  iintro %u10_0 HS
  iapply (Wp_bind c)
  iapply (part11 m K c _ _ _ _ _ _ _) $$ HS
  iintro %u11_0 HS
  iapply (Wp_bind c)
  iapply (part12 m K c _ _ _ _ _ _ _ _) $$ HS
  iintro %u12_0 HS
  iapply (Wp_bind c)
  iapply (part13 m K c _ _ _ _ _ _ _ _) $$ HS
  iintro HS
  iapply (Wp_bind c)
  iapply (part14 m K c _ _ _ _ _) $$ HS
  iintro %u14_0 HS
  iapply (Wp_bind c)
  iapply (part15 m K c _ _ _ _ _ _) $$ HS
  iintro %u15_0 %u15_1 HS
  iapply (Wp_bind c)
  iapply (part16 m K c _ _ _ _ _ _ _ _) $$ HS
  iintro %u16_0 %u16_1 HS
  iapply (Wp_bind c)
  iapply (part17 m K c _ _ _ _ _ _ _ _) $$ HS
  iintro %u17_0 %u17_1 HS
  iapply (Wp_bind c)
  iapply (part18 m K c _ _ _ _ _ _ _ _) $$ HS
  iintro %u18_0 %u18_1 HS
  iapply (Wp_bind c)
  iapply (part19 m K c _ _ _ _ _ _ _ _) $$ HS
  iintro %u19_0 %u19_1 %u19_2 HS
  iapply (Wp_bind c)
  iapply (part20 m K c _ _ _ _ _ _ _ _) $$ HS
  iintro HS
  iapply (Wp_bind c)
  iapply (part21 m K c _ _ _ _ _ _ _) $$ HS
  iintro %u21_0 %u21_1 HS
  iapply (Wp_bind c)
  iapply (part22 m K c _ _ _ _ _ _ _ _) $$ HS
  iintro %u22_0 %u22_1 %u22_2 HS
  iapply (Wp_bind c)
  iapply (part23 m K c _ _ _ _ _ _ _ _ _ _) $$ HS
  iintro HS
  iapply (Wp_bind c)
  iapply (part24 m K c _ _ _ _ _ _ _ _) $$ HS
  iintro %u24_0 %u24_1 HS
  iapply (Wp_bind c)
  iapply (part25 m K c _ _ _ _ _ _ _ _ _ _) $$ HS
  iintro HS
  iapply (Wp_bind c)
  iapply (part26 m K c _ _ _ _ _ _ _ _) $$ HS
  iintro %u26_0 HS
  iapply (Wp_bind c)
  iapply (part27 m K c _ _ _ _ _ _) $$ HS
  iintro %u27_0 HS
  iapply (Wp_bind c)
  iapply (part28 m K c _ _ _ _ _ _ _ _) $$ HS
  iintro HS
  iapply (Wp_bind c)
  iapply (part29 m K c _ _ _ _ _ _ _ _) $$ HS
  iintro %u29_0 %u29_1 HS
  iapply (Wp_bind c)
  iapply (part30 m K c _ _ _ _ _ _ _ _ _ _ _) $$ HS
  iintro %u30_0 %u30_1 HS
  iapply (Wp_bind c)
  iapply (part31 m K c _ _ _ _ _ _ _ _ _) $$ HS
  iintro HS
  iapply (Wp_bind c)
  iapply (part32 m K c _ _ _ _ _ _) $$ HS
  iintro %u32_0 %u32_1 %u32_2 HS
  iapply (Wp_bind c)
  iapply (part33 m K c _ _ _ _ _ _ _ _ _ _) $$ HS
  iintro %u33_0 %u33_1 HS
  iapply (Wp_bind c)
  iapply (part34 m K c _ _ _ _ _ _ _ _ _ _) $$ HS
  iintro HS
  iapply (Wp_bind c)
  iapply (part35 m K c _ _ _ _ _ _ _ _) $$ HS
  iintro %u35_0 %u35_1 HS
  iapply (Wp_bind c)
  iapply (part36 m K c _ _ _ _ _ _ _ _) $$ HS
  iintro %u36_0 %u36_1 HS
  iapply (Wp_bind c)
  iapply (part37 m K c _ _ _ _ _ _ _ _) $$ HS
  iintro %u37_0 %u37_1 HS
  iapply (Wp_bind c)
  iapply (part38 m K c _ _ _ _ _ _ _ _ _) $$ HS
  iintro %u38_0 %u38_1 HS
  iapply (Wp_bind c)
  iapply (part39 m K c _ _ _ _ _ _ _ _ _) $$ HS
  iintro %u39_0 HS
  iapply (Wp_bind c)
  iapply (part40 m K c _ _ _ _ _ _) $$ HS
  iintro %u40_0 HS
  iapply (Wp_bind c)
  iapply (part41 m K c _ _ _ _ _ _ _ _) $$ HS
  iintro HS
  iapply (Wp_bind c)
  iapply (part42 m K c _ _ _ _ _ _ _ _) $$ HS
  iintro %u42_0 HS
  iapply (Wp_bind c)
  iapply (part43 m K c _ _ _ _ _ _ _) $$ HS
  iintro %u43_0 HS
  iapply (Wp_bind c)
  iapply (part44 m K c _ _ _ _ _ _) $$ HS
  iintro HS
  iapply (Wp_bind c)
  iapply (part45 m K c _ _ _ _ _ _ _ _) $$ HS
  iintro %u45_0 HS
  ihave HS := (st_perm m K c 33 33 _ [0, 1, 2, 6, 12, 3, 7, 13, 4, 8, 14, 5, 9, 15, 10, 16, 11, 17, 24, 18, 25, 19, 26, 20, 27, 21, 28, 22, 29, 23] _ _ _ _ _ (by decide)) $$ HS
  iapply (Wp_bind c)
  iapply (part46 m K c _) $$ HS
  iintro HS
  iapply (Wp_bind c)
  iapply (part47 m K c) $$ HS
  iintro HS
  iapply (Wp_bind c)
  iapply (part48 m K c) $$ HS
  iintro HS
  iapply (Wp_bind c)
  iapply (part49 m K c) $$ HS
  iintro HS
  iapply (Wp_bind c)
  iapply (part50 m K c) $$ HS
  iintro HS
  simp only [Prog.lift, Prog.bind_op, Prog.bind_ret, Prog.pure_eq_ret]
  iapply (st_waits m K c 23 33 33 [23] [] [29, 22, 28, 21, 27, 20, 26, 19, 25, 18, 24, 17, 11, 16, 10, 15, 9, 5, 14, 8, 4, 13, 7, 3, 12, 6, 2, 1, 0, 32, 31, 30] [23, 29, 22, 28, 21, 27, 20, 26, 19, 25, 18, 24, 17, 11, 16, 10, 15, 9, 5, 14, 8, 4, 13, 7, 3, 12, 6, 2, 1, 0, 32, 31, 30] [25, 24, 23, 22, 21, 20, 19, 13, 18, 12, 17, 11, 16, 10, 15, 9, 14, 8, 7, 6, 5, 4, 3, 2, 1, 0] [25, 24, 23, 22, 21, 20, 19, 13, 18, 12, 17, 11, 16, 10, 15, 9, 14, 8, 7, 6, 5, 4, 3, 2, 1, 0] [29, 22, 28, 21, 27, 20, 26, 19, 25, 18, 24, 17, 11, 16, 10, 15, 9, 5, 14, 8, 4, 13, 7, 3, 12, 6, 2, 1, 0] [23, 29, 22, 28, 21, 27, 20, 26, 19, 25, 18, 24, 17, 11, 16, 10, 15, 9, 5, 14, 8, 4, 13, 7, 3, 12, 6, 2, 1, 0] [] rfl rfl rfl rfl rfl) $$ HS
  iintro HS
  iapply (Wp_ret c)
  iapply Hk
  unfold Post zL pL kL
  isplitl [Hz]; · iexact Hz
  isplitl [HX]; · iexact HX
  isplitl [HW]; · iexact HW
  isplitl [HP0 HP1 HP2 HP3]
  · isplitl [HP0]; · iexact HP0
    isplitl [HP1]; · iexact HP1
    isplitl [HP2]; · iexact HP2
    iexact HP3
  iexact HS

end Cert.KernelIdeal.Pf
-- ==== Proof.Ends.lean ====
module

public import proofs.«01_k».proof.Proof.Body

@[expose] public section

/-!
# What the body takes and gives back
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (K : Dev nD × CI → ℕ)

/-! ## Dividing the scratch arrays -/

def l18 : List (Fin 26) := (List.finRange 18).map fun k => ⟨2 + k.val, by omega⟩
def l6 : List (Fin 26) := (List.finRange 6).map fun j => ⟨20 + j.val, by omega⟩

theorem pieces_list (P : Fin 26 → sProp 𝕄) :
    bigSep Finset.univ P = bigSepL ([0, 1] ++ (l18 ++ l6)) P :=
  bigSep_univ_eq_bigSepL _ (by decide) (by decide) P

def k18 : List (Fin 33) := (List.finRange 18).map fun k => ⟨k.val, by omega⟩
def k6 : List (Fin 33) := (List.finRange 6).map fun j => ⟨18 + j.val, by omega⟩
def k6' : List (Fin 33) := (List.finRange 6).map fun j => ⟨24 + j.val, by omega⟩
def k3 : List (Fin 33) := (List.finRange 3).map dk

/-- The gathered array divided: the two own pieces and the landing regions. -/
theorem comm_init (c : Dev nD) (f : S256x16384.Idx → F .bf16) :
    cP c Finset.univ fullShare f ⊢ iprop(OwnR c 0 ∗ OwnR c 1 ∗ bigSepL k18 (LP c) ∗ bigSepL k6 (LP c) ∗ bigSepL k6' (LP c)) := by
  have h18 : bigSepL l18 (fun p => cP c (PR p c) fullShare f) ⊢ bigSepL k18 (LP c) := by
    unfold l18 k18
    rw [bigSepL_map, bigSepL_map]
    refine bigSepL_mono fun k _ => ?_
    rw [← LR_lt, LP_lt (show k.val < 30 by omega)]
    iintro H; iexists f; iexact H
  have h6 : bigSepL l6 (fun p => cP c (PR p c) fullShare f) ⊢ iprop(bigSepL k6 (LP c) ∗ bigSepL k6' (LP c)) := by
    unfold l6 k6 k6'
    rw [bigSepL_map, bigSepL_map, bigSepL_map]
    refine (bigSepL_mono fun j _ => ?_).trans (sepL_two' _ _ _)
    obtain ⟨e, hd⟩ := LR_rd j c
    have h := j.isLt
    rw [LP_lt (show 18 + j.val < 30 by omega), LP_lt (show 24 + j.val < 30 by omega), e]
    have hu : cP c (LR ⟨18 + j.val, by omega⟩ c ∪ LR ⟨24 + j.val, by omega⟩ c) fullShare f
        ⊢ iprop(cP c (LR ⟨18 + j.val, by omega⟩ c) fullShare f ∗ cP c (LR ⟨24 + j.val, by omega⟩ c) fullShare f) := by
      unfold cP; exact (pointsTo_union hd).1
    refine hu.trans ?_
    iintro ⟨H1, H2⟩
    isplitl [H1]; · iexists f; iexact H1
    iexists f; iexact H2
  rw [cP_pieces, pieces_list, bigSepL_append, bigSepL_append, bigSepL_two]
  unfold OwnR
  iintro ⟨⟨H0, H1⟩, H2, H3⟩
  ihave H2 := h18 $$ H2
  ihave H3 := h6 $$ H3
  isplitl [H0]; · iexists f; iexact H0
  isplitl [H1]; · iexists f; iexact H1
  isplitl [H2]; · iexact H2
  iexact H3

theorem Pl_disj : ∀ h ∈ (Finset.univ : Finset (Fin 4)), ∀ h' ∈ (Finset.univ : Finset (Fin 4)), h ≠ h' → Disjoint (Pl h.val) (Pl h'.val) := by
  intro h _ h' _ hn
  rw [Finset.disjoint_left]
  intro i hi hi'
  exact hn (Fin.ext ((mem_Pl.mp hi).symm.trans (mem_Pl.mp hi')))
theorem Pl_cover : (Finset.univ : Finset (Fin 4)).biUnion (fun h => Pl h.val) = Finset.univ := by
  ext i
  simp only [Finset.mem_biUnion, Finset.mem_univ, true_and, iff_true]
  exact ⟨⟨(i 0).val, (i 0).isLt⟩, mem_Pl.mpr rfl⟩

theorem dP_planes (c : Dev nD) (f : S4x256x128.Idx → F .f32) :
    dP c Finset.univ f = iprop(dP c (Pl 0) f ∗ dP c (Pl 1) f ∗ dP c (Pl 2) f ∗ dP c (Pl 3) f) := by
  have h : dP c Finset.univ f = bigSep Finset.univ fun h : Fin 4 => dP c (Pl h.val) f := by
    rw [← Pl_cover]; unfold dP; exact pointsTo_biUnion _ _ Pl_disj
  rw [h]
  exact bigSep_univ_eq_bigSepL [0, 1, 2, 3] (by decide) (by decide) _

/-- The ring of row sums divided: the own plane and the landing planes. -/
theorem dsum_init (c : Dev nD) (f : S4x256x128.Idx → F .f32) :
    dP c Finset.univ f ⊢ iprop(PlR c 0 ∗ bigSepL k3 (LP c)) := by
  have e : bigSepL k3 (LP (F := F) c) = iprop(LP c (dk 0) ∗ LP c (dk 1) ∗ LP c (dk 2)) := bigSepL_three (dk 0) (dk 1) (dk 2) _
  have hl : ∀ h : Fin 3, LP (F := F) c (dk h) = iprop(∃ f, dP c (Pl (h.val + 1)) f) := fun h => by
    unfold LP; rw [if_neg (show ¬ 30 + h.val < 30 by omega), show (dk h).val - 29 = h.val + 1 from by show 30 + h.val - 29 = _; omega]
  rw [dP_planes, e, hl, hl, hl]
  unfold PlR
  iintro ⟨H0, H1, H2, H3⟩
  isplitl [H0]; · iexists f; iexact H0
  isplitl [H1]; · iexists f; iexact H1
  isplitl [H2]; · iexists f; iexact H2
  iexists f; iexact H3

/-! ## Putting them together again -/

theorem sepL_flat {ι κ : Type} (l : List ι) (g : ι → List κ) (P : κ → sProp 𝕄) :
    bigSepL (l.flatMap g) P ⊢ bigSepL l fun i => bigSepL (g i) P := by
  induction l with
  | nil => exact .rfl
  | cons i l ih =>
    rw [List.flatMap_cons, bigSepL_append, bigSepL_cons']
    exact sep_mono_right ih

theorem comm_final (c : Dev nD) :
    iprop(bigSepL kL (Kp m c) ∗ bigSepL pL (SP m c)) ⊢ cP c Finset.univ fullShare (commF m c) := by
  have h1 : bigSepL pL (SP m c) ⊢ bigSepL kL fun p => bigSepL (needs p) (SP m c) :=
    (sepL_perm (by decide : pL.Perm (kL.flatMap needs)) _).trans (sepL_flat _ _ _)
  refine (sep_mono_right h1).trans ((sepL_two _ _ _).trans ?_)
  refine (bigSepL_mono fun p _ => (pc_split m c p).2).trans ?_
  rw [cP_pieces, bigSep_univ_eq_bigSepL kL (by decide) (by decide)]

theorem dsum_final (c : Dev nD) :
    iprop(dP c (Pl 0) (dsG m c) ∗ dP c (Pl 1) (dsF m c) ∗ dP c (Pl 2) (dsF m c) ∗ dP c (Pl 3) (dsF m c))
      ⊢ iprop(∃ f, dP (F := F) c Finset.univ f) := by
  have e0 : dP c (Pl 0) (dsG m c) ⊢ dP c (Pl 0) fun i => if (i 0).val = 0 then dsG m c i else dsF m c i := by
    unfold dP
    exact Entails.of_eq (pointsTo_congr fun i hi => (if_pos (mem_Pl.mp hi)).symm)
  have e1 : ∀ h, h ≠ 0 → dP c (Pl h) (dsF m c) ⊢ dP c (Pl h) fun i => if (i 0).val = 0 then dsG m c i else dsF m c i := fun h h0 => by
    unfold dP
    exact Entails.of_eq (pointsTo_congr fun i hi => (if_neg (by rw [mem_Pl.mp hi]; exact h0)).symm)
  iintro ⟨H0, H1, H2, H3⟩
  iexists (fun i => if (i 0).val = 0 then dsG m c i else dsF m c i)
  rw [dP_planes]
  isplitl [H0]; · iapply e0; iexact H0
  isplitl [H1]; · iapply (e1 1 (by decide)); iexact H1
  isplitl [H2]; · iapply (e1 2 (by decide)); iexact H2
  iapply (e1 3 (by decide)); iexact H3

theorem out_final (c : Dev nD) : OutSt m c kL ⊢ oP c (outF m c) := by
  unfold OutSt
  iintro ⟨%f, %hf, H⟩
  have e : f = outF m c := funext fun i => hf _ ((by decide : ∀ p : Fin 26, p ∈ kL) _) i (mem_PR.mpr rfl)
  subst e
  iexact H

/-! ## The body -/

/-- What the body takes. -/
def BPre (c : Dev nD) : sProp 𝕄 :=
  iprop(Recs m K ∗ (∃ W, owes (c : Thread nD τ) (O₀ c) W)
    ∗ (dutyTok ER (bC (lf c)) 0 0 ∗ dutyTok ER (bC (rt c)) 0 3 ∗ dutyTok ER (bC (px c)) 0 1 ∗ dutyTok ER (bC (pz c)) 0 2)
    ∗ atPos ER (bC c) 0 ∅ 0 ∗ cred (tallyAt (bC c) () 4) ∗ bigSepL sord (SK0 c) ∗ bigSepL rord (RK c)
    ∗ (∃ f, oP c f) ∗ XS m c ∗ WS m c ∗ (∃ f, cP c Finset.univ fullShare f) ∗ (∃ f, dP c Finset.univ f))
/-- What it gives back. -/
def BPost (c : Dev nD) : sProp 𝕄 :=
  iprop((∃ W, owes (c : Thread nD τ) 0 W) ∗ oP c (outF m c) ∗ XS m c ∗ WS m c
    ∗ (∃ f, cP (F := F) c Finset.univ fullShare f) ∗ (∃ f, dP (F := F) c Finset.univ f)
    ∗ semVal (bC c) 0 ∗ (bigSepL zL fun k => semVal (sC k c) 0) ∗ bigSepL rord fun k => semVal (rC k c) 0)

theorem pre_intro (c : Dev nD) : BPre m K c ⊢ Pre m K c := by
  unfold BPre Pre
  iintro ⟨#HR, HO, ⟨T0, T3, T1, T2⟩, Hat, Hcr, HSK, HRK, ⟨%fo, Ho⟩, HX, HW, ⟨%fc, Hc⟩, ⟨%fd, Hd⟩⟩
  ihave Hc := (comm_init c fc) $$ Hc
  icases Hc with ⟨H0, H1, L1, L2, L3⟩
  ihave Hd := (dsum_init c fd) $$ Hd
  icases Hd with ⟨HP, L4⟩
  have hL : iprop(bigSepL k18 (LP (F := F) c) ∗ bigSepL k6 (LP c) ∗ bigSepL k6' (LP c) ∗ bigSepL k3 (LP c)) ⊢ bigSepL sord (LP c) := by
    rw [← bigSepL_append, ← bigSepL_append, ← bigSepL_append]
    exact sepL_perm (by decide) _
  ihave HL := hL $$ [L1 L2 L3 L4]
  · isplitl [L1]; · iexact L1
    isplitl [L2]; · iexact L2
    isplitl [L3]; · iexact L3
    iexact L4
  ihave HB := (LP_bars c) $$ HL
  icases HB with ⟨B0, B1, B2, B3⟩
  isplitr; · iexact HR
  isplitl [HO]; · iexact HO
  isplitl [T0 B0]
  · isplitl [T0]; · iexact T0
    iexact B0
  isplitl [T3 B3]
  · isplitl [T3]; · iexact T3
    iexact B3
  isplitl [T1 B1]
  · isplitl [T1]; · iexact T1
    iexact B1
  isplitl [T2 B2]
  · isplitl [T2]; · iexact T2
    iexact B2
  isplitl [Hat]; · iexact Hat
  isplitl [Hcr]; · iexact Hcr
  isplitl [HSK]; · iexact HSK
  isplitl [HRK]
  · unfold Rx
    isplitl [HRK]; · iexact HRK
    rw [show (rord.take 0).reverse = [] from rfl, bigSepL_nil]; iempintro
  isplitl [Ho]
  · unfold OutSt
    iexists fo
    isplitr
    · ipureintro; intro p hp; cases hp
    iexact Ho
  isplitl [HX]; · iexact HX
  isplitl [HW]; · iexact HW
  isplitl [H0]; · iexact H0
  isplitl [H1]; · iexact H1
  iexact HP

theorem post_elim (c : Dev nD) : Post m K c ⊢ BPost m c := by
  unfold Post BPost St Tx Rx
  iintro ⟨Hz, HX, HW, Hd, -, ⟨⟨%W, HO⟩, -, -, Hs⟩, ⟨-, Hr⟩, HK, HOut, HS, -⟩
  ihave Hd := (dsum_final m c) $$ Hd
  ihave Hc := (comm_final m c) $$ [HK HS]
  · isplitl [HK]; · iexact HK
    iexact HS
  ihave Ho := (out_final m c) $$ HOut
  isplitl [HO]; · iexists W; iexact HO
  isplitl [Ho]; · iexact Ho
  isplitl [HX]; · iexact HX
  isplitl [HW]; · iexact HW
  isplitl [Hc]; · iexists (commF m c); iexact Hc
  isplitl [Hd]; · iexact Hd
  isplitl [Hz]; · iexact Hz
  isplitl [Hs]; · iexact Hs
  iapply (sepL_perm (by decide : (rord.take 33).reverse.Perm rord) (fun k => semVal (rC k c) 0))
  iexact Hr

/-- The body of the kernel on device `c`. -/
theorem body_sound (c : Dev nD) {Q : PUnit → sProp 𝕄} :
    BPre m K c ⊢ iprop((BPost m c -∗ Q ⟨⟩)
      -∗ Wp c (cc0_body xM hX wM hW oM hO cM hC dM hD cc0_scratch2 cc0_scratch3 cc0_scratch4 cc0_scratch5 cc0_scratch6 cc0_scratch7 cc0_scratch8 cc0_scratch9 cc0_scratch10 cc0_scratch11 cc0_scratch12 cc0_scratch13) Q) := by
  iintro H Hk
  ihave H := (pre_intro m K c) $$ H
  iapply (body_run m K c) $$ H
  iintro H
  iapply Hk
  iapply (post_elim m K c)
  iexact H

end Cert.KernelIdeal.Pf
-- ==== Proof.Launch.lean ====
module

public import proofs.«01_k».proof.Proof.Ends
public import proofs.«01_k».proof.Proof.Gen.KernelIdeal.Points
public import Idealize.ShloMosaic.Lib.Pipeline.CollectiveSegs

@[expose] public section

/-!
# The launch

Every device's body obligation, what the launch hands each device, and the run of `main`.
-/

noncomputable section

namespace Cert.KernelIdeal.Pf

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## What a device holds -/

/-- The tokens of the duties device `c` pays. -/
def payToks (c : Dev nD) : sProp 𝕄 :=
  iprop((dutyTok ER (bC (lf c)) 0 0 ∗ dutyTok ER (bC (rt c)) 0 3 ∗ dutyTok ER (bC (px c)) 0 1 ∗ dutyTok ER (bC (pz c)) 0 2)
    ∗ (bigSepL sord fun k => dutyTok ER (sC k c) 0 0) ∗ bigSepL sord fun k => dutyTok ER (rC k (tgt k c)) 0 0)
/-- Its positions at its own cells. -/
def posns (c : Dev nD) : sProp 𝕄 :=
  iprop(atPos ER (bC c) 0 ∅ 0 ∗ (bigSepL sord fun k => atPos ER (sC k c) 0 ∅ 0) ∗ bigSepL rord fun k => atPos ER (rC k c) 0 ∅ 0)
/-- What the launch's global step gives device `c`. -/
def G' (c : Dev nD) : sProp 𝕄 :=
  iprop(∃ K : Dev nD × CI → ℕ, (bigSep Finset.univ fun p => recAt m K p) ∗ posns c ∗ payToks c)
/-- The credits of the waits for others. -/
def crs (c : Dev nD) : sProp 𝕄 :=
  iprop(cred (tallyAt (bC c) () 4) ∗ bigSepL rord fun k => cred (tallyAt (rC k c) () (cN k)))
/-- What device `c` starts with, but for its memory. -/
def start (c : Dev nD) : sProp 𝕄 := iprop(G' m c ∗ crs c ∗ levAts L lv)
/-- The two scratch arrays at some contents. -/
def scr (c : Dev nD) : sProp 𝕄 :=
  iprop((∃ f, cP (F := F) c Finset.univ fullShare f) ∗ (∃ f, dP (F := F) c Finset.univ f))
/-- Its copies' semaphores at zero. -/
def zeros (c : Dev nD) : sProp 𝕄 :=
  iprop((bigSepL sord fun k => semVal (sC k c) 0) ∗ bigSepL rord fun k => semVal (rC k c) 0)

/-- The proof data of the one region: operands as launched, the result at `outF`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outF m c
  Φ t := match t with
    | ⟨0, _⟩ => iprop(start m c ∗ scr c)
    | ⟨_ + 1, _⟩ => iprop(semVal (bC c) 0 ∗ zeros c ∗ scr c)
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def oblPre (c : Dev nD) : sProp 𝕄 :=
  iprop((start m c ∗ scr c) ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def oblPost (c : Dev nD) : sProp 𝕄 :=
  iprop((semVal (bC c) 0 ∗ zeros c ∗ scr c) ∗ (dats m ρ 0 c).owesAt () t0_0.succ
    ∗ stg c cc0_stg0_0 (xstg m c) ∗ stg c cc0_stg1_0 (wstg m c) ∗ stg c cc0_stg2_0 (outF m c))

theorem sepL_three {ι : Type} (l : List ι) (P Q R S : ι → sProp 𝕄) (h : ∀ i, iprop(P i ∗ Q i ∗ R i) ⊢ S i) :
    iprop(bigSepL l P ∗ bigSepL l Q ∗ bigSepL l R) ⊢ bigSepL l S :=
  (sep_mono_right (sepL_two l Q R)).trans ((sepL_two l P _).trans (bigSepL_mono fun i _ => h i))

set_option maxRecDepth 4000 in
theorem obl_pre (c : Dev nD) : oblPre m ρ c ⊢ iprop(∃ K, BPre m K c) := by
  unfold oblPre start G' posns payToks crs scr
  iintro ⟨⟨⟨⟨%K, HI, ⟨HaB, HaS, HaR⟩, HtB, HtS, HtR⟩, ⟨HcB, HcR⟩, Hlev⟩, Hc, Hd⟩, Ho, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx; subst hw
  unfold Dat.owesAt Pipeline.owesWithin
  icases Ho with ⟨%W, %hW, HO⟩
  rw [show (dats m ρ 0 c).owed t0_0.castSucc = O₀ c from rfl]
  iexists K
  unfold BPre Recs
  isplitl [HI Hlev]
  · isplitl [Hlev]; · iexact Hlev
    iexact HI
  isplitl [HO]; · iexists W; iexact HO
  isplitl [HtB]; · iexact HtB
  isplitl [HaB]; · iexact HaB
  isplitl [HcB]; · iexact HcB
  isplitl [HtS HtR HaS]
  · iapply (sepL_three sord (fun k => dutyTok ER (sC k c) 0 0) (fun k => dutyTok ER (rC k (tgt k c)) 0 0) (fun k => atPos ER (sC k c) 0 ∅ 0) (SK0 c)
      (fun k => by unfold SK0; exact .rfl))
    isplitl [HtS]; · iexact HtS
    isplitl [HtR]; · iexact HtR
    iexact HaS
  isplitl [HaR HcR]
  · have h2 : iprop((bigSepL rord fun k => atPos ER (rC k c) 0 ∅ 0) ∗ bigSepL rord fun k => cred (tallyAt (rC k c) () (cN k))) ⊢ bigSepL rord (RK (F := F) c) :=
      (sepL_two rord _ _).trans (bigSepL_mono fun k _ => by unfold RK; exact .rfl)
    iapply h2
    isplitl [HaR]; · iexact HaR
    iexact HcR
  isplitl [Hout]; · iexists g2; unfold oP; iexact Hout
  isplitl [Hx]; · unfold XS; iexact Hx
  isplitl [Hw]; · unfold WS; iexact Hw
  isplitl [Hc]; · iexact Hc
  iexact Hd

set_option maxRecDepth 4000 in
theorem obl_post (c : Dev nD) : BPost m c ⊢ oblPost m ρ c := by
  unfold BPost oblPost zeros scr XS WS oP
  iintro ⟨⟨%W, HO⟩, Hout, Hx, Hw, Hc, Hd, HzB, HzS, HzR⟩
  isplitl [HzB HzS HzR Hc Hd]
  · isplitl [HzB]; · iexact HzB
    isplitl [HzS HzR]
    · isplitl [HzS]
      · iapply (sepL_perm (by decide : zL.Perm sord) (fun k => semVal (sC k c) 0)); iexact HzS
      iexact HzR
    isplitl [Hc]; · iexact Hc
    iexact Hd
  isplitl [HO]
  · unfold Dat.owesAt Pipeline.owesWithin
    iexists W
    isplitr
    · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

set_option maxRecDepth 40000 in
/-- The body obligation of device `c`. -/
theorem body_obligation (c : Dev nD) : BodyObligation (dats (F := F) m ρ 0 c) (defs₀ (F := F)) 𝒱₀ () Set.univ := fun t => by
  rw [fin_N0 t]
  have hW : ∀ Φ : Fin cfg0.W → sProp 𝕄, bigSep Finset.univ Φ = iprop(Φ (0 : Fin 3) ∗ Φ (1 : Fin 3) ∗ Φ (2 : Fin 3)) := bigSep_W0
  rw [hW, hW]
  simp only [owns_whole_eq]
  show oblPre m ρ c ⊢ Wp c (cc0_body xM hX wM Pf.hW oM hO cM hC dM hD cc0_scratch2 cc0_scratch3 cc0_scratch4 cc0_scratch5 cc0_scratch6 cc0_scratch7 cc0_scratch8 cc0_scratch9 cc0_scratch10 cc0_scratch11 cc0_scratch12 cc0_scratch13) (fun _ => oblPost m ρ c)
  iintro H
  ihave H := (obl_pre m ρ c) $$ H
  icases H with ⟨%K, H⟩
  iapply (body_sound m K c) $$ H
  iintro H
  iapply (obl_post m ρ c)
  iexact H

/-! ## The launch -/

/-- The semaphores the body uses beside the staging ones. -/
abbrev osem : Fin 66 → SemLoc sig := fun j => .dma ⟨j.val + 3, by show _ < 69; omega⟩
theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  have hs : ∀ k k', sS k = sS k' → k = k' := by decide
  have hr : ∀ k k', rS k = rS k' → k = k' := by decide
  have hsr : ∀ k k', sS k ≠ rS k' := by decide
  rintro (_ | ⟨_ | _, k⟩) (_ | ⟨_ | _, k'⟩) h
  · rfl
  · cases h
  · cases h
  · cases h
  · rw [hs k k' (SemLoc.dma.inj h)]
  · exact absurd (SemLoc.dma.inj h) (hsr k k')
  · cases h
  · exact absurd (SemLoc.dma.inj h).symm (hsr k' k)
  · rw [hr k k' (SemLoc.dma.inj h)]
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- A device's duties: four at its barrier cell, one at each copy cell. -/
abbrev TI : Type := Fin 4 ⊕ (Bool × Fin 33)
def tokOf (p : Dev nD × TI) : GSem nD τ sig × ℕ × Dt := match p.2 with
  | .inl d => (bC p.1, 0, d)
  | .inr x => (kcell (p.1, some x), 0, 0)
theorem tokOf_injective : Function.Injective tokOf := by
  rintro ⟨c, d | x⟩ ⟨c', d' | x'⟩ h
  · have h1 : c = c' := congrArg (fun g : GSem nD τ sig × ℕ × Dt => g.1.1.1) h
    have h2 : d = d' := congrArg (fun g : GSem nD τ sig × ℕ × Dt => g.2.2) h
    rw [h1, h2]
  · have h1 : kcell (c, none) = kcell (c', some x') := congrArg (fun g : GSem nD τ sig × ℕ × Dt => g.1) h
    cases (kcell_injective h1)
  · have h1 : kcell (c, some x) = kcell (c', none) := congrArg (fun g : GSem nD τ sig × ℕ × Dt => g.1) h
    cases (kcell_injective h1)
  · have h1 : kcell (c, some x) = kcell (c', some x') := congrArg (fun g : GSem nD τ sig × ℕ × Dt => g.1) h
    cases (kcell_injective h1)
    rfl
def allToks : Finset (GSem nD τ sig × ℕ × Dt) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((dutyTok ER (bC c) 0 0 ∗ dutyTok ER (bC c) 0 3 ∗ dutyTok ER (bC c) 0 1 ∗ dutyTok ER (bC c) 0 2)
    ∗ (bigSepL sord fun k => dutyTok ER (sC k c) 0 0) ∗ bigSepL sord fun k => dutyTok ER (rC k c) 0 0)

/-- What the launch element deals device `c`. -/
def G (c : Dev nD) : sProp 𝕄 :=
  iprop((bigSep Finset.univ fun k : CI => roundState ER (Rd m) (kcell (c, k)) 0)
    ∗ (bigSep Finset.univ fun k : CI => atPos ER (kcell (c, k)) 0 ∅ 0) ∗ (bigSep Finset.univ fun k : CI => reached ER (kcell (c, k)) 0) ∗ toks c)

def lCI : List CI := none :: (sord.map (fun k => some (false, k)) ++ rord.map fun k => some (true, k))
def lTI : List TI := [.inl 0, .inl 3, .inl 1, .inl 2] ++ (sord.map (fun k => .inr (false, k)) ++ sord.map fun k => .inr (true, k))

theorem sep_CI (Φ : CI → sProp 𝕄) :
    bigSep Finset.univ Φ = iprop(Φ none ∗ (bigSepL sord fun k => Φ (some (false, k))) ∗ bigSepL rord fun k => Φ (some (true, k))) := by
  rw [bigSep_univ_eq_bigSepL lCI (by decide) (by decide)]
  unfold lCI
  rw [bigSepL_cons', bigSepL_append, bigSepL_map, bigSepL_map]
theorem sep_TI (Φ : TI → sProp 𝕄) :
    bigSep Finset.univ Φ = iprop((Φ (.inl 0) ∗ Φ (.inl 3) ∗ Φ (.inl 1) ∗ Φ (.inl 2)) ∗ (bigSepL sord fun k => Φ (.inr (false, k))) ∗ bigSepL sord fun k => Φ (.inr (true, k))) := by
  rw [bigSep_univ_eq_bigSepL lTI (by decide) (by decide)]
  unfold lTI
  rw [bigSepL_append, bigSepL_append, bigSepL_map, bigSepL_map]
  rfl

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [sep_TI]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

def oIx (q : DmaSem sig) : Fin 66 := ⟨(q.val - 3) % 66, Nat.mod_lt _ (by decide)⟩
theorem osem_s : ∀ k, osem (oIx (sS k)) = .dma (sS k) := by decide
theorem osem_r : ∀ k, osem (oIx (rS k)) = .dma (rS k) := by decide

/-- The copies' semaphores are the kernel's own; -/
theorem ownSems0_eq (c : Dev nD) :
    (Pipeline.ownSems0 (Ix := Unit) (Name := ℕ) (U := UU) (Lvl := ℕ) (Val := Elt F) (τ := τ) osem c : sProp 𝕄) = zeros c := by
  rw [Pipeline.ownSems0_eq_of_list c osem (sord.map (fun k => oIx (sS k)) ++ rord.map fun k => oIx (rS k)) (by decide) (by decide),
    bigSepL_append, bigSepL_map, bigSepL_map]
  unfold zeros
  simp only [osem_s, osem_r]
/-- the barrier semaphore the one beside them. -/
theorem unscopedSems0_eq (c : Dev nD) : (unscopedSems0 c : sProp 𝕄) = semVal (bC c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => atPos ER (kcell (c, k)) 0 ∅ 0) ∗ (bigSep Finset.univ fun k : CI => reached ER (kcell (c, k)) 0) ∗ toks c) := by
  have hv : iprop(zeros (F := F) c ∗ semVal (bC c) 0) ⊢ (bigSep Finset.univ fun k : CI => semVal (kcell (c, k)) 0 : sProp 𝕄) := by
    unfold zeros
    rw [sep_CI]
    iintro ⟨⟨H1, H2⟩, H3⟩
    isplitl [H3]; · iexact H3
    isplitl [H1]; · iexact H1
    iexact H2
  have ha : iprop((bigSep Finset.univ fun k : CI => semVal (kcell (c, k)) 0) ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  rw [ownSems0_eq, unscopedSems0_eq]
  unfold G
  iintro ⟨Hos, Hus, Hst, Hat, Hr, Htok⟩
  ihave Hv := hv $$ [Hos Hus]
  · isplitl [Hos] <;> iassumption
  imod ha $$ [Hv Hst] with Hinv
  · isplitl [Hv] <;> iassumption
  imodintro
  isplitl [Hinv]; · iexact Hinv
  isplitl [Hat]; · iexact Hat
  isplitl [Hr]; · iexact Hr
  iexact Htok

/-! ## Dealing the tokens -/

theorem sep_swap {ι : Type} (l : List ι) (Φ : Dev nD → ι → sProp 𝕄) :
    (bigSep Finset.univ fun c => bigSepL l (Φ c)) = bigSepL l fun k => bigSep Finset.univ fun c => Φ c k := by
  induction l with
  | nil => exact BI.bigSep_emp_const _
  | cons k l ih =>
    rw [bigSepL_cons', ← ih, ← bigSep_sep']
    exact bigSep_congr fun c _ => bigSepL_cons' _ _ _

def tgtE (k : Fin 33) : Dev nD ≃ Dev nD := ⟨tgt k, org k, org_tgt k, tgt_org k⟩
def rtE : Dev nD ≃ Dev nD := ⟨rt, lf, lf_rt, rt_lf⟩
def pxE : Dev nD ≃ Dev nD := ⟨px, px, px_px, px_px⟩
def pzE : Dev nD ≃ Dev nD := ⟨pz, pz, pz_pz, pz_pz⟩

/-- Each token goes to the device that pays the duty. -/
theorem toks_around : (bigSep Finset.univ fun c : Dev nD => (toks c : sProp 𝕄)) ⊢ bigSep Finset.univ fun c : Dev nD => payToks c := by
  unfold toks payToks
  simp only [bigSep_sep', sep_swap]
  rw [bigSep_univ_equiv rtE.symm (fun c : Dev nD => (dutyTok ER (bC c) 0 0 : sProp 𝕄)),
    bigSep_univ_equiv rtE (fun c : Dev nD => (dutyTok ER (bC c) 0 3 : sProp 𝕄)),
    bigSep_univ_equiv pxE (fun c : Dev nD => (dutyTok ER (bC c) 0 1 : sProp 𝕄)),
    bigSep_univ_equiv pzE (fun c : Dev nD => (dutyTok ER (bC c) 0 2 : sProp 𝕄)),
    show (bigSepL sord fun k => bigSep Finset.univ fun c : Dev nD => (dutyTok ER (rC k c) 0 0 : sProp 𝕄))
      = bigSepL sord fun k => bigSep Finset.univ fun c : Dev nD => (dutyTok ER (rC k (tgt k c)) 0 0 : sProp 𝕄) from
      congrArg (bigSepL sord) (funext fun k => bigSep_univ_equiv (tgtE k) (fun c : Dev nD => (dutyTok ER (rC k c) 0 0 : sProp 𝕄)))]
  exact .rfl

theorem sep_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => atPos ER (kcell (c, k)) 0 ∅ 0) ∗ (bigSep Finset.univ fun k : CI => reached ER (kcell (c, k)) 0) ∗ toks c) : sProp 𝕄)
      ⊢ bigSep Finset.univ (G' m) := by
  rw [bigSep_sep', bigSep_sep', bigSep_sep', ← bigSep_univ_prod (fun ck : Dev nD × CI => iprop(∃ κ : ℕ, cellInv ER (Rd m) κ (kcell ck))),
    ← bigSep_univ_prod (fun ck : Dev nD × CI => (reached ER (kcell ck) 0 : sProp 𝕄))]
  iintro ⟨HI, Hat, #HR, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (sep_pers (R := bigSep Finset.univ fun p => recAt m K p) (Φ := fun c => iprop(posns c ∗ payToks c)) fun c _ => by
    unfold G'
    iintro ⟨H1, H2⟩
    iexists K
    isplitl [H1]; · iexact H1
    iexact H2)
  isplitr
  · unfold recAt
    rw [bigSep_sep']
    isplitl; · iexact HI
    iexact HR
  · rw [bigSep_sep']
    isplitl [Hat]
    · have hp : (bigSep Finset.univ fun c : Dev nD => bigSep Finset.univ fun k : CI => atPos ER (kcell (c, k)) 0 ∅ 0 : sProp 𝕄) ⊢ bigSep Finset.univ fun c : Dev nD => posns c :=
        Entails.of_eq (bigSep_congr fun c _ => by unfold posns; rw [sep_CI]; rfl)
      iapply hp
      iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credits -/

theorem bar_iff {a b : Dev nD} : bC a = bC b ↔ a = b :=
  ⟨fun h => congrArg (fun g : GSem nD τ sig => g.1.1) h, fun h => h ▸ rfl⟩
theorem r_iff {j k : Fin 33} {a b : Dev nD} : rC j a = rC k b ↔ j = k ∧ a = b :=
  ⟨fun h => by
    have h' := kcell_injective (show kcell (a, some (true, j)) = kcell (b, some (true, k)) from h)
    cases h'; exact ⟨rfl, rfl⟩, fun h => by rw [h.1, h.2]⟩
theorem r_ne_bar (k : Fin 33) (a b : Dev nD) : rC k a ≠ bC b := fun h => by cases congrArg Prod.snd h

theorem osum_bar (d c : Dev nD) (l : List (Fin 33)) : osum d l (bC c) () = 0 := by
  induction l with
  | nil => rfl
  | cons k l ih =>
    rw [osum_cons, Pi.add_apply, Finsupp.add_apply, ih, tallyAt_apply, if_neg fun h => r_ne_bar _ _ _ h.1.symm]
theorem osum_r (d c : Dev nD) (k : Fin 33) (l : List (Fin 33)) :
    osum d l (rC k c) () = l.count k * if d = org k c then cN k else 0 := by
  induction l with
  | nil => rw [List.count_nil, Nat.zero_mul]; rfl
  | cons j l ih =>
    rw [osum_cons, Pi.add_apply, Finsupp.add_apply, ih, tallyAt_apply, List.count_cons, Nat.add_mul]
    congr 1
    by_cases hj : j = k
    · subst hj
      rw [if_pos (beq_self_eq_true j), Nat.one_mul]
      refine if_congr ?_ rfl rfl
      rw [and_iff_left rfl, r_iff, and_iff_right rfl]
      exact ⟨fun h => by rw [h, org_tgt], fun h => by rw [h, tgt_org]⟩
    · rw [if_neg fun h => hj (r_iff.mp h.1).1.symm, if_neg (by rw [beq_iff_eq]; exact hj), Nat.zero_mul]

theorem owed_bar (d c : Dev nD) : O₀ d (bC c) () = (if c = pz d then 1 else 0) + (if c = px d then 1 else 0) + (if c = rt d then 1 else 0) + (if c = lf d then 1 else 0) := by
  unfold O₀ O₃ O₂ O₁
  simp only [Pi.add_apply, Finsupp.add_apply, osum_bar, tallyAt_apply, bar_iff, and_true, Nat.zero_add]
theorem owed_r (d c : Dev nD) (k : Fin 33) : O₀ d (rC k c) () = if d = org k c then cN k else 0 := by
  unfold O₀ O₃ O₂ O₁
  simp only [Pi.add_apply, Finsupp.add_apply, osum_r, tallyAt_apply, if_neg (fun h : rC k c = bC _ ∧ True => r_ne_bar _ _ _ h.1), and_true, if_neg (r_ne_bar _ _ _), Nat.add_zero]
  rw [(by decide : ∀ k, sord.count k = 1) k, Nat.one_mul]

theorem launch_bar (c : Dev nD) :
    tallyOn (bC c) (launchCredit (Pipeline.owing O₀) 0 (bC c)) = (tallyAt (bC c) () 4 : CellTallies nD τ sig Unit) := by
  unfold tallyAt; refine congrArg _ (Finsupp.ext fun u => ?_); cases u
  rw [Pipeline.launchCredit_owing, Finsupp.single_eq_same, Finset.sum_congr rfl fun d _ => owed_bar d c]
  exact (by decide +kernel : ∀ c : Dev nD, (∑ d : Dev nD, ((if c = pz d then 1 else 0) + (if c = px d then 1 else 0) + (if c = rt d then 1 else 0) + (if c = lf d then 1 else 0))) = 4) c
theorem launch_r (c : Dev nD) (k : Fin 33) :
    tallyOn (rC k c) (launchCredit (Pipeline.owing O₀) 0 (rC k c)) = (tallyAt (rC k c) () (cN k) : CellTallies nD τ sig Unit) := by
  unfold tallyAt; refine congrArg _ (Finsupp.ext fun u => ?_); cases u
  rw [Pipeline.launchCredit_owing, Finsupp.single_eq_same, Finset.sum_congr rfl fun d _ => owed_r d c k,
    Finset.sum_ite_eq' Finset.univ (org k c) fun _ => cN k, if_pos (Finset.mem_univ _)]

def lSem : List (SemLoc sig) := SemLoc.reg barS :: rord.map fun k => SemLoc.dma (rS k)
theorem creds (c : Dev nD) : (Pipeline.launchCred O₀ c : sProp 𝕄) ⊢ crs c := by
  unfold Pipeline.launchCred crs
  refine (BI.bigSep_subset (Finset.subset_univ lSem.toFinset)).trans ?_
  rw [bigSep_eq_bigSepL_of_eq lSem rfl (by decide)]
  unfold lSem
  rw [bigSepL_cons', bigSepL_map]
  rw [launch_bar]
  refine sep_mono_right (bigSepL_mono fun k _ => ?_)
  rw [launch_r]

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scr c) from rfl, scopedRest0_eq]
  unfold scr cP dP
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(semVal (bC c) 0 ∗ zeros c ∗ scr c) from rfl, scopedRest0_eq, ownSems0_eq, unscopedSems0_eq]
  unfold scr cP dP
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Window `w`'s array of device `c` at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- On the 32 devices, for any float values, from any memory with zero counters: every weakly fair execution of
    `main` ends, with each device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Pf
-- ==== Proof.Frames.lean ====
module

public import proofs.«01_k».proof.Defs
public import proofs.«01_k».proof.Proof.Launch
public import proofs.«01_k».proof.Proof.Gen.Kernel

@[expose] public section

/-!
# The kernel's frame claims

Both programs run the same text, so one run, made over any float values, gives both claims.
-/

noncomputable section

namespace Cert.KernelIdeal.Pf

open Cert.KernelIdeal Cert.KernelIdeal.Gen
open Idealize.ShloMosaic
open Idealize.ShloMosaic.TcCoe
open Idealize.SL.Sem

/-- Over any float values: the kernel ends, its arguments unchanged and every counter at zero. -/
theorem frame_any {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => ⟨(h.1 c 0).trans (finalA_x m ρ c), (h.1 c 1).trans (finalA_w m ρ c)⟩, h.2⟩) (run_main m ρ)

/-- The idealized kernel's frame claim. -/
theorem frame_kernelIdeal : Cert.quiescent_KernelIdeal := fun m ρ _ => frame_any m ρ

/-- The two programs' bodies are one text, -/
theorem defs₀_eq {F : FTy → Type} [FloatOps F] : Cert.Kernel.defs₀ (F := F) = defs₀ (F := F) := by
  funext p l a
  cases p with
  | tc =>
    obtain ⟨l, hl⟩ := l
    obtain rfl : l = 0 := by omega
    rfl
  | _ => rfl
/-- and so their whole tables. -/
theorem defs_eq {F : FTy → Type} [FloatOps F] : Cert.Kernel.defs (F := F) = defs (F := F) :=
  congrArg (Pipeline.defs pcfgs) defs₀_eq

/-- The kernel's frame claim, on machine floats. -/
theorem frame_kernel : Cert.quiescent_Kernel := fun m ρ _ => by
  have h := frame_any (F := Bits) m ρ
  rw [← defs_eq] at h
  exact h

end Cert.KernelIdeal.Pf
-- ==== Proof.Refs.lean ====
module

public import proofs.«01_k».proof.Defs
public import proofs.«01_k».proof.Proof.Gen.ReferenceIdeal.Run
public import Idealize.ShloMosaic.Lib.Pipeline.Launch

@[expose] public section

/-!
# The reference's frame claim
-/

noncomputable section

namespace Cert.ReferenceIdeal.Value

open Cert.ReferenceIdeal Cert.ReferenceIdeal.Gen
open Idealize.ShloMosaic
open Idealize.ShloMosaic.TcCoe
open Idealize.SL.Sem

/-- The reference ends, its arguments unchanged and every counter at zero. -/
theorem frame_reference : Cert.quiescent_ReferenceIdeal := fun m ρ _ =>
  (θ_run _ _ _).mono (fun r h => ⟨fun c => (h c).2, sem_eq_zero_of_no_sems (by decide) r.2⟩) (run m ρ)

end Cert.ReferenceIdeal.Value
-- ==== Proof.Finite.lean ====
module

public import proofs.«01_k».proof.Defs
public import Idealize.ShloMosaic.Lib.Pointwise
public import Idealize.ShloMosaic.Lib.ReduceAll

@[expose] public section

/-!
# The precondition

That the two functions' side conditions hold, and what the precondition says of a device's arguments: each
entry is a real.
-/

noncomputable section

namespace Cert

open Idealize.ShloMosaic

instance pre_kernel_facts : Cert.Pre_finite_KernelIdeal.Facts where
  bcast_S_S256x512 := by decide
  reducesTo_S256x512_S_d0_1 := by decide
  h_S_ := by decide
  bcast_S_S512x4096 := by decide
  reducesTo_S512x4096_S_d0_1 := by decide

instance pre_reference_facts : Cert.Pre_finite_ReferenceIdeal.Facts where
  bcast_S_S256x512 := by decide
  reducesTo_S256x512_S_d0_1 := by decide
  h_S_ := by decide
  bcast_S_S512x16384 := by decide
  reducesTo_S512x16384_S_d0_1 := by decide

theorem ofBits_inf : Ideal.ofBits .f32 0x7F800000#32 = ⊤ := by simp [Ideal.ofBits, Ideal.ieee]

/-- An extended real whose absolute value is below infinity is a real. -/
theorem real_of_abs_lt (x : EReal) (h : Ideal.cmp .olt (max x (-x)) ⊤ = 1#1) : ∃ a : ℝ, x = a := by
  have h' : max x (-x) < ⊤ := by
    by_contra hn
    simp [Ideal.cmp, hn] at h
  induction x using EReal.rec with
  | bot => simp at h'
  | coe a => exact ⟨a, rfl⟩
  | top => simp at h'

theorem and_one : ∀ a b : BitVec 1, IntOp.andi a b = 1#1 → a = 1#1 ∧ b = 1#1 := by decide

instance : Subsingleton Cert.Pre_finite_KernelIdeal.S_.Idx := ⟨fun a b => funext fun i => i.elim0⟩

theorem finite_real (x : FVec Ideal Cert.Pre_finite_KernelIdeal.S256x512 .f32) (W : FVec Ideal Cert.Pre_finite_KernelIdeal.S512x4096 .f32)
    (h : Cert.Pre_finite_KernelIdeal.fn (F := Ideal) x W = fun _ => 1#1) :
    (∀ i, ∃ a : ℝ, (show EReal from x i) = a) ∧ (∀ i, ∃ a : ℝ, (show EReal from W i) = a) := by
  have h0 := congrFun h (fun i => i.elim0)
  obtain ⟨hx, hw⟩ := and_one _ _ h0
  refine ⟨fun i => ?_, fun i => ?_⟩
  · have := Host.reduce_andi_all _ _ _ _ _ hx i
    refine real_of_abs_lt _ (Eq.trans ?_ this)
    rw [← ofBits_inf]
    rfl
  · have := Host.reduce_andi_all _ _ _ _ _ hw i
    refine real_of_abs_lt _ (Eq.trans ?_ this)
    rw [← ofBits_inf]
    rfl

end Cert
-- ==== Proof.ValueK.lean ====
module

public import proofs.«01_k».proof.Proof.Launch
public import Idealize.ShloMosaic.Lib.Pointwise

@[expose] public section
set_option maxRecDepth 16384

/-!
# The kernel's contents as extended reals

What the arrays of Contents.lean hold at an index when floats are extended reals: exponentials of the
block's products, sums of them along the block's columns, and the reciprocal of the total over the ring.
-/

noncomputable section

namespace Cert.KernelIdeal.Pf

open Cert.KernelIdeal Cert.KernelIdeal.Gen
open Idealize.ShloMosaic Idealize.ShloMosaic.TcCoe
open Idealize.SL Idealize.SL.Sem

theorem i2_eq {a b : ℕ} (r : Fin a) (q : Fin b) : i2 r q = ix2 r q := eq_ix2 (i2 r q)

variable {F : FTy → Type} [FloatOps F]

/-! ## The operands -/

section
variable (m : (ℓ : Loc nD τ sig) → Buf (Elt F) ℓ)

theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

theorem wstg_eq (c : Dev nD) : wstg m c = m ((c : Thread nD τ).loc main_arg1) := by
  have hz : (fun a => (win0_1.index (0 : Fin 1)) a * main_arg1.ty.shape.size a) = fun _ => 0 :=
    funext fun a => by fin_cases a <;> decide
  exact Memref.read_access_unit_zero (Elt F) main_arg1 hz (fun a => by fin_cases a <;> decide) _

theorem xV_at (c : Dev nD) (r : Fin 256) (k : Fin 512) : xV m c (ix2 r k) = m ((c : Thread nD τ).loc main_arg0) (ix2 r k) := by
  rw [← xstg_eq m]
  show xstg m c _ = _
  congr 1
  funext a
  match a with
  | 0 => exact Fin.ext (by show 0 + 1 * r.val = r.val; omega)
  | 1 => exact Fin.ext (by show 0 + 1 * k.val = k.val; omega)

theorem wV0_at (c : Dev nD) (k : Fin 512) (q : Fin 2048) :
    wV0 m c (ix2 k q) = m ((c : Thread nD τ).loc main_arg1) (ix2 k ⟨q.val, by omega⟩) := by
  rw [← wstg_eq m]
  show wstg m c _ = _
  congr 1
  funext a
  match a with
  | 0 => exact Fin.ext (by show 0 + 1 * k.val = k.val; omega)
  | 1 => exact Fin.ext (by show 0 + 1 * q.val = q.val; omega)

theorem wV1_at (c : Dev nD) (k : Fin 512) (q : Fin 2048) :
    wV1 m c (ix2 k q) = m ((c : Thread nD τ).loc main_arg1) (ix2 k ⟨2048 + q.val, by omega⟩) := by
  rw [← wstg_eq m]
  show wstg m c _ = _
  congr 1
  funext a
  match a with
  | 0 => exact Fin.ext (by show 0 + 1 * k.val = k.val; omega)
  | 1 => exact Fin.ext (by show 2048 + 1 * q.val = 2048 + q.val; omega)

/-- The result's one block is the whole array. -/
theorem finalA_o (ρ : Dev nD → PrngReg) (c : Dev nD) : finalA m ρ c (2 : Fin 3) = outF m c := by
  have hz : (fun a => (win0_2.index (0 : Fin 1)) a * main_v1.ty.shape.size a) = fun _ => 0 :=
    funext fun a => by fin_cases a <;> decide
  have hr := Memref.read_access_unit_zero (Elt F) main_v1 hz (fun a => by fin_cases a <;> decide) (finalA m ρ c (2 : Fin 3))
  refine hr.symm.trans ?_
  show (win0_2.blk (0 : Fin 1)).view.read (Elt F) (finalA m ρ c (2 : Fin 3)) = outF m c
  unfold finalA
  rw [show cfg0.N = ((0 : Fin 1) : Fin cfg0.N).val + 1 from rfl, (dats m ρ 0 c).arrAt_succ (2 : Fin 3) (0 : Fin 1)]
  rw [flush0_2 (0 : Fin 1), if_pos rfl]
  exact View.read_write_univ _ _

end

/-! ## At the extended reals -/

variable (m : (ℓ : Loc nD τ sig) → Buf (Elt Ideal) ℓ)

/-- Device `c`'s product at a row and one of its block's columns. -/
def lgc (c : Dev nD) (r : Fin 256) (q : Fin 4096) : EReal :=
  ∑ k : Fin 512, (show EReal from m ((c : Thread nD τ).loc main_arg0) (ix2 r k)) * (show EReal from m ((c : Thread nD τ).loc main_arg1) (ix2 k q))

theorem e0_at (c : Dev nD) (r : Fin 256) (q : Fin 2048) : e0 m c (ix2 r q) = Ideal.exp (lgc m c r ⟨q.val, by omega⟩) := by
  unfold e0
  pointwise [k0_pay3, k0_pay2]
  simp only [xV_at, wV0_at]
  rfl

theorem e1_at (c : Dev nD) (r : Fin 256) (q : Fin 2048) : e1 m c (ix2 r q) = Ideal.exp (lgc m c r ⟨2048 + q.val, by omega⟩) := by
  unfold e1
  pointwise [k0_pay6, k0_pay2]
  simp only [xV_at, wV1_at]
  rfl

theorem eBf0_at (c : Dev nD) (r : Fin 256) (q : Fin 2048) : eBf m c 0 (ix2 r q) = Ideal.exp (lgc m c r ⟨q.val, by omega⟩) := by
  rw [← e0_at]
  unfold eBf
  rw [if_pos rfl]
  pointwise [k0_pay4]
  rfl

theorem eBf1_at (c : Dev nD) (r : Fin 256) (q : Fin 2048) : eBf m c 1 (ix2 r q) = Ideal.exp (lgc m c r ⟨2048 + q.val, by omega⟩) := by
  rw [← e1_at]
  unfold eBf
  rw [if_neg (by decide)]
  pointwise [k0_pay7]
  rfl

theorem dV_at (c : Dev nD) (r : Fin 256) : dV m c (ix2 r 0) = ∑ q : Fin 4096, Ideal.exp (lgc m c r q) := by
  unfold dV
  pointwise [k0_pay8, k0_pay5, k0_pay1]
  simp only [e0_at, e1_at]
  exact (Fin.sum_univ_two_halves 2048 2048 rfl fun q => Ideal.exp (lgc m c r q)).symm

theorem dPl_at (c : Dev nD) (x : S1x256x128.Idx) : dPl m c x = dV m c (i2 ⟨(x 1).val, (x 1).isLt⟩ 0) := plane_val _ x

theorem dRd_at (c : Dev nD) (h : Fin 4) (r : Fin 256) : dRd m c h (ix3 0 r 0) = dV m (lfN h.val c) (ix2 r 0) := by
  show dsF m c _ = _
  unfold dsF
  rw [dPl_at, i2_eq]
  congr 2
  exact Fin.ext (by show 0 + 1 * r.val = r.val; omega)

/-- The reciprocal of the total of the four devices' row sums. -/
theorem invV_at (c : Dev nD) (r : Fin 256) : invV m c (ix2 r 0) = Ideal.div 1
    ((show EReal from dV m c (ix2 r 0)) + dV m (lfN 1 c) (ix2 r 0) + dV m (lfN 2 c) (ix2 r 0) + dV m (lfN 3 c) (ix2 r 0)) := by
  unfold invV d3 d4 d2
  pointwise [k0_pay13, k0_pay12, k0_pay11, k0_pay10]
  rw [dRd_at, dRd_at, dRd_at]
  rfl

theorem commF_at (c : Dev nD) (r : Fin 256) (j : Fin 16384) :
    commF m c (ix2 r j) = Ideal.exp (lgc m (devOf c (r.val / 64) (j.val / 2048)) r ⟨j.val % 4096, Nat.mod_lt _ (by decide)⟩) := by
  show eBf m (devOf c (r.val / 64) (j.val / 2048)) (j.val / 2048 % 2) (i2 r ⟨j.val % 2048, Nat.mod_lt _ (by decide)⟩) = _
  rw [i2_eq]
  rcases Nat.mod_two_eq_zero_or_one (j.val / 2048) with h | h
  · rw [h, eBf0_at]
    congr 2
    exact Fin.ext (by show j.val % 2048 = j.val % 4096; omega)
  · rw [h, eBf1_at]
    congr 2
    exact Fin.ext (by show 2048 + j.val % 2048 = j.val % 4096; omega)

theorem outF_at (c : Dev nD) (r : Fin 256) (j : Fin 16384) :
    outF m c (ix2 r j) = (show EReal from commF m c (ix2 r j)) * (show EReal from invV m c (ix2 r 0)) := by
  unfold outF
  rw [i2_eq]
  rfl

end Cert.KernelIdeal.Pf
-- ==== Proof.Softmax.lean ====
module

public import Idealize.ShloMosaic.PureOps.Ideal.Laws

@[expose] public section

/-!
# The softmax law over the extended reals

For real logits, an exponential times the reciprocal of the exponentials' sum is the same quotient with
any real taken off every logit first.
-/

noncomputable section

namespace Cert.Softmax

open Idealize.ShloMosaic

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of products of reals is a real. -/
theorem real_dot {n : ℕ} (f g : Fin n → EReal) (hf : ∀ k, ∃ a : ℝ, f k = a) (hg : ∀ k, ∃ a : ℝ, g k = a) :
    ∃ a : ℝ, ∑ k, f k * g k = a := by
  choose u hu using hf
  choose v hv using hg
  refine ⟨∑ k, u k * v k, ?_⟩
  rw [← coe_sum]
  exact Finset.sum_congr rfl fun k _ => by rw [hu, hv, EReal.coe_mul]

/-- The maximum of a row of reals is a real. -/
theorem real_max {n : ℕ} [Nonempty (Fin n)] (l : Fin n → EReal) (hl : ∀ k, ∃ a : ℝ, l k = a) :
    ∃ M : ℝ, (Finset.univ : Finset (Fin n)).fold max ⊥ l = M := by
  obtain ⟨k, -, hk⟩ := Finset.exists_mem_eq_sup Finset.univ Finset.univ_nonempty l
  obtain ⟨a, ha⟩ := hl k
  exact ⟨a, (show Finset.univ.sup l = _ from hk).trans ha⟩

theorem div_real (x y : ℝ) (hy : y ≠ 0) : Ideal.div (x : EReal) (y : EReal) = ((x / y : ℝ) : EReal) := by
  rw [Ideal.div_coe hy, ← EReal.coe_mul, mul_one_div]

theorem softmax_law {n : ℕ} [Nonempty (Fin n)] (l : Fin n → EReal) (hl : ∀ k, ∃ a : ℝ, l k = a) (M : ℝ) (j : Fin n) :
    Ideal.exp (l j) * Ideal.div 1 (∑ k, Ideal.exp (l k))
      = Ideal.div (Ideal.exp (l j - M)) (∑ k, Ideal.exp (l k - M)) := by
  choose u hu using hl
  have h1 : ∀ k, Ideal.exp (l k) = ((Real.exp (u k) : ℝ) : EReal) := fun k => by rw [hu, Ideal.exp_coe]
  have h2 : ∀ k, Ideal.exp (l k - M) = ((Real.exp (u k - M) : ℝ) : EReal) := fun k => by
    rw [hu, ← EReal.coe_sub, Ideal.exp_coe]
  have p1 : 0 < ∑ k, Real.exp (u k) := Finset.sum_pos (fun k _ => Real.exp_pos _) Finset.univ_nonempty
  have p2 : 0 < ∑ k, Real.exp (u k - M) := Finset.sum_pos (fun k _ => Real.exp_pos _) Finset.univ_nonempty
  simp only [h1, h2]
  rw [coe_sum, coe_sum, ← EReal.coe_one, div_real _ _ p1.ne', div_real _ _ p2.ne', ← EReal.coe_mul]
  congr 1
  have hS : ∑ k, Real.exp (u k - M) = (∑ k, Real.exp (u k)) / Real.exp M := by
    rw [Finset.sum_div]
    exact Finset.sum_congr rfl fun k _ => Real.exp_sub _ _
  rw [hS, Real.exp_sub, div_div_div_cancel_right₀ (Real.exp_pos M).ne']
  rw [mul_one_div]

end Cert.Softmax
-- ==== Proof.ValueR.lean ====
module

public import proofs.«01_k».proof.Proof.Softmax
public import proofs.«01_k».proof.Proof.Gen.ReferenceIdeal.Run
public import Idealize.ShloMosaic.Lib.Pointwise
public import Idealize.ShloMosaic.Lib.Tactic.CleanTypes

@[expose] public section
set_option maxRecDepth 16384

/-!
# The reference's result as extended reals

At a row and a column, the reference's result is an exponential over a sum of exponentials, of the row's
logits less the row's maximum. For real logits that is the exponential times the reciprocal of the sum.
-/

noncomputable section

namespace Cert.ReferenceIdeal.Value

open Cert.ReferenceIdeal Cert.ReferenceIdeal.Gen
open Idealize.ShloMosaic

/-- A logit: a row of the left operand times a column of the right one. -/
def lgW (X : FVec Ideal S256x512 .f32) (W : FVec Ideal S512x16384 .f32) (r : Fin 256) (j : Fin 16384) : EReal :=
  ∑ k : Fin 512, (show EReal from X (ix2 r k)) * (show EReal from W (ix2 k j))

/-- The logits and the result of the reference, as functions of its arguments. -/
def refL (X : FVec Ideal S256x512 .f32) (W : FVec Ideal S512x16384 .f32) : FVec Ideal S256x16384 .f32 :=
  Host.dotGeneral dot_S256x512_S512x16384_S256x16384_1_0_0_1_n_n none X W
def refM (L : FVec Ideal S256x16384 .f32) : FVec Ideal S256 .f32 :=
  Host.reduce FloatOps.maximumf L (constant S_ .f32 0xFF800000#32) reducesTo_S256x16384_S256_d1 h_S_
def refE (L : FVec Ideal S256x16384 .f32) : FVec Ideal S256x16384 .f32 :=
  Host.exp (subf L (broadcastInDim S256x16384 ![0, 1] bcast_S256x1_S256x16384_0_1 (broadcastInDim S256x1 ![0] bcast_S256_S256x1_0 (refM L))))
def refO (X : FVec Ideal S256x512 .f32) (W : FVec Ideal S512x16384 .f32) : FVec Ideal S256x16384 .f32 :=
  Host.divf (refE (refL X W)) (broadcastInDim S256x16384 ![0, 1] bcast_S256x1_S256x16384_0_1 (broadcastInDim S256x1 ![0] bcast_S256_S256x1_0
    (Host.reduceAdd (refE (refL X W)) (constant S_ .f32 0x00000000#32) reducesTo_S256x16384_S256_d1 h_S_)))

theorem refL_at (X : FVec Ideal S256x512 .f32) (W : FVec Ideal S512x16384 .f32) (r : Fin 256) (j : Fin 16384) :
    refL X W (ix2 r j) = lgW X W r j := by
  pointwise [refL]
  rfl

theorem ofBits_ninf : Ideal.ofBits .f32 0xFF800000#32 = ⊥ := by simp [Ideal.ofBits, Ideal.ieee]

theorem refM_at (L : FVec Ideal S256x16384 .f32) (r : Fin 256) :
    refM L (ix1 r) = (Finset.univ : Finset (Fin 16384)).fold max ⊥ fun k => (show EReal from L (ix2 r k)) := by
  pointwise [refM]
  rw [ofBits_ninf]

theorem refE_at (L : FVec Ideal S256x16384 .f32) (r : Fin 256) (j : Fin 16384) :
    refE L (ix2 r j) = Ideal.exp ((show EReal from L (ix2 r j)) - (show EReal from refM L (ix1 r))) := by
  pointwise [refE]

theorem refO_at (X : FVec Ideal S256x512 .f32) (W : FVec Ideal S512x16384 .f32) (r : Fin 256) (j : Fin 16384) :
    refO X W (ix2 r j) = Ideal.div (refE (refL X W) (ix2 r j)) (∑ k : Fin 16384, (show EReal from refE (refL X W) (ix2 r k))) := by
  pointwise [refO]

/-- For real operands the reference's result is the exponential of the logit times the reciprocal of the row's
    sum of exponentials. -/
theorem refO_real (X : FVec Ideal S256x512 .f32) (W : FVec Ideal S512x16384 .f32)
    (hX : ∀ i, ∃ a : ℝ, (show EReal from X i) = a) (hW : ∀ i, ∃ a : ℝ, (show EReal from W i) = a) (r : Fin 256) (j : Fin 16384) :
    refO X W (ix2 r j) = Ideal.exp (lgW X W r j) * Ideal.div 1 (∑ k : Fin 16384, Ideal.exp (lgW X W r k)) := by
  haveI : Nonempty (Fin 16384) := ⟨j⟩
  have hl : ∀ k, ∃ a : ℝ, lgW X W r k = a := fun k => Cert.Softmax.real_dot _ _ (fun _ => hX _) (fun _ => hW _)
  obtain ⟨M, hM⟩ := Cert.Softmax.real_max (fun k => lgW X W r k) hl
  rw [Cert.Softmax.softmax_law (fun k => lgW X W r k) hl M j, refO_at]
  have hm : (show EReal from refM (refL X W) (ix1 r)) = M := by
    rw [← hM]
    refine (refM_at (refL X W) r).trans ?_
    exact congrArg (fun f => (Finset.univ : Finset (Fin 16384)).fold max ⊥ f) (funext fun k => refL_at X W r k)
  have he : ∀ k, (show EReal from refE (refL X W) (ix2 r k)) = Ideal.exp (lgW X W r k - M) := fun k => by
    refine (refE_at (refL X W) r k).trans ?_
    rw [hm, refL_at]
  rw [show refE (refL X W) (ix2 r j) = Ideal.exp (lgW X W r j - M) from he j]
  exact congrArg (Ideal.div _) (Finset.sum_congr rfl fun k _ => he k)

end Cert.ReferenceIdeal.Value
-- ==== Proof.Value.lean ====
module

public import proofs.«01_k».proof.Proof.Frames
public import proofs.«01_k».proof.Proof.Finite
public import proofs.«01_k».proof.Proof.ValueK
public import proofs.«01_k».proof.Proof.ValueR

@[expose] public section
set_option maxRecDepth 16384

/-!
# The value claim

Each device's result is the reference's: the gathered exponentials are those of the whole product's row, and
the four devices' row sums are the four quarters of the row's sum.
-/

noncomputable section

namespace Cert.KernelIdeal.Pf

open Cert.KernelIdeal Cert.KernelIdeal.Gen
open Idealize.ShloMosaic Idealize.ShloMosaic.TcCoe
open Idealize.SL Idealize.SL.Sem
open Cert.ReferenceIdeal.Value (lgW refO refO_real)

theorem cy_lt (c : Dev nD) : cy c < 4 := Nat.mod_lt _ (by decide)

/-- The devices a ring's row sums come from hold the four blocks, whichever device reads them. -/
theorem cy_lfN : ∀ (h : Fin 4) (c : Dev nD), cy (lfN h.val c) = (cy c + 4 - h.val) % 4 := by decide +kernel

/-- The device a column's exponentials come from holds that column's block. -/
theorem cy_devOf : ∀ (c : Dev nD) (rb : Fin 4) (cb : Fin 8), cy (devOf c rb.val cb.val) = cb.val / 2 := by decide +kernel

/-- Device `c`'s place along `y` names its block of the right operand. -/
theorem block_val : ∀ c : Dev nD, ((Layout.meshBlock [2, 4, 4] (![[], [1]] : Fin 2 → List ℕ) c) 0).val = 0
    ∧ ((Layout.meshBlock [2, 4, 4] (![[], [1]] : Fin 2 → List ℕ) c) 1).val = cy c := by decide +kernel

/-- Device `c`'s block of the right operand, at an index. -/
theorem block_at (c : Dev nD) (W : FVec Ideal Cert.ReferenceIdeal.S512x16384 .f32) (k : Fin 512) (q : Fin 4096) :
    (Layout.blockN ⟨2, ![512, 4096]⟩ ⟨2, ![512, 16384]⟩ (Layout.meshBlock [2, 4, 4] ![[], [1]] c) W) (ix2 k q)
      = W (ix2 k ⟨cy c * 4096 + q.val, by have := cy_lt c; omega⟩) := by
  refine congrArg W (funext fun a => ?_)
  match a with
  | 0 =>
    refine Fin.ext ((Layout.TilesN.idx_val _ _ _ _).trans ?_)
    refine (congrArg (fun n => n * 512 + k.val) (block_val c).1).trans ?_
    show 0 * 512 + k.val = k.val
    omega
  | 1 =>
    refine Fin.ext ((Layout.TilesN.idx_val _ _ _ _).trans ?_)
    exact congrArg (fun n => n * 4096 + q.val) (block_val c).2

/-- A row's sum over the whole is the sum over its four quarters, in any turn of the ring. -/
theorem ring_sum (f : Fin 16384 → EReal) (g : ℕ → EReal)
    (hg : ∀ b : Fin 4, g b.val = ∑ q : Fin 4096, f ⟨b.val * 4096 + q.val, by omega⟩) (y : Fin 4) :
    g ((y.val + 4 - 0) % 4) + g ((y.val + 4 - 1) % 4) + g ((y.val + 4 - 2) % 4) + g ((y.val + 4 - 3) % 4) = ∑ j, f j := by
  have hs : ∑ j, f j = g 0 + (g 1 + (g 2 + g 3)) := by
    rw [Fin.sum_univ_two_halves 4096 12288 rfl f,
      Fin.sum_univ_two_halves 4096 8192 rfl (fun k : Fin 12288 => f ⟨4096 + k.val, by omega⟩),
      Fin.sum_univ_two_halves 4096 4096 rfl (fun k : Fin 8192 => f ⟨4096 + (4096 + k.val), by omega⟩)]
    have h0 := hg 0
    have h1 := hg 1
    have h2 := hg 2
    have h3 := hg 3
    refine congrArg₂ (· + ·) ?_ (congrArg₂ (· + ·) ?_ (congrArg₂ (· + ·) ?_ ?_))
    · exact (Finset.sum_congr rfl fun q _ => congrArg f (Fin.ext (by show q.val = 0 * 4096 + q.val; omega))).trans h0.symm
    · exact (Finset.sum_congr rfl fun q _ => congrArg f (Fin.ext (by show 4096 + q.val = 1 * 4096 + q.val; omega))).trans h1.symm
    · exact (Finset.sum_congr rfl fun q _ => congrArg f (Fin.ext (by show 4096 + (4096 + q.val) = 2 * 4096 + q.val; omega))).trans h2.symm
    · exact (Finset.sum_congr rfl fun q _ => congrArg f (Fin.ext (by show 4096 + (4096 + (4096 + q.val)) = 3 * 4096 + q.val; omega))).trans h3.symm
  rw [hs]
  match y with
  | 0 => show g 0 + g 3 + g 2 + g 1 = _; ac_rfl
  | 1 => show g 1 + g 0 + g 3 + g 2 = _; ac_rfl
  | 2 => show g 2 + g 1 + g 0 + g 3 = _; ac_rfl
  | 3 => show g 3 + g 2 + g 1 + g 0 = _; ac_rfl

section
variable (m : (ℓ : Loc nD τ sig) → Buf (Elt Ideal) ℓ)
variable (X : FVec Ideal S256x512 .f32) (W : FVec Ideal Cert.ReferenceIdeal.S512x16384 .f32)

/-- The devices' arguments are the whole left operand and their blocks of the right one. -/
def Agrees : Prop := ∀ c : Dev nD, m ((c : Thread nD τ).loc main_arg0) = X
  ∧ m ((c : Thread nD τ).loc main_arg1) = Layout.blockN ⟨2, ![512, 4096]⟩ ⟨2, ![512, 16384]⟩ (Layout.meshBlock [2, 4, 4] ![[], [1]] c) W

variable {m X W}

/-- A device's product at a column of its block is the whole product at that column. -/
theorem lgc_eq (h : Agrees m X W) (c : Dev nD) (r : Fin 256) (q : Fin 4096) :
    lgc m c r q = lgW X W r ⟨cy c * 4096 + q.val, by have := cy_lt c; omega⟩ := by
  unfold lgc lgW
  refine Finset.sum_congr rfl fun k _ => ?_
  rw [(h c).1, (h c).2]
  rw [block_at]

theorem commF_eq (h : Agrees m X W) (c : Dev nD) (r : Fin 256) (j : Fin 16384) :
    commF m c (ix2 r j) = Ideal.exp (lgW X W r j) := by
  rw [commF_at, lgc_eq h]
  congr 2
  have hd := cy_devOf c ⟨r.val / 64, by omega⟩ ⟨j.val / 2048, by omega⟩
  refine Fin.ext ?_
  show cy (devOf c (r.val / 64) (j.val / 2048)) * 4096 + j.val % 4096 = j.val
  rw [show cy (devOf c (r.val / 64) (j.val / 2048)) = j.val / 2048 / 2 from hd]
  omega

theorem invV_eq (h : Agrees m X W) (c : Dev nD) (r : Fin 256) :
    invV m c (ix2 r 0) = Ideal.div 1 (∑ k : Fin 16384, Ideal.exp (lgW X W r k)) := by
  let g : ℕ → EReal := fun b => ∑ q : Fin 4096, if hb : b < 4 then Ideal.exp (lgW X W r ⟨b * 4096 + q.val, by omega⟩) else 0
  have hg : ∀ b : Fin 4, g b.val = ∑ q : Fin 4096, Ideal.exp (lgW X W r ⟨b.val * 4096 + q.val, by omega⟩) := fun b =>
    Finset.sum_congr rfl fun q _ => dif_pos b.isLt
  have hd : ∀ d : Dev nD, (show EReal from dV m d (ix2 r 0)) = g (cy d) := fun d => by
    rw [dV_at, hg ⟨cy d, cy_lt d⟩]
    exact Finset.sum_congr rfl fun q _ => by rw [lgc_eq h]
  have key := ring_sum (fun k => Ideal.exp (lgW X W r k)) g hg ⟨cy c, cy_lt c⟩
  rw [invV_at, ← key]
  have e0 := (hd c).trans (congrArg g (cy_lfN 0 c))
  have e1 := (hd (lfN 1 c)).trans (congrArg g (cy_lfN 1 c))
  have e2 := (hd (lfN 2 c)).trans (congrArg g (cy_lfN 2 c))
  have e3 := (hd (lfN 3 c)).trans (congrArg g (cy_lfN 3 c))
  exact congrArg (Ideal.div 1) (congrArg₂ (· + ·) (congrArg₂ (· + ·) (congrArg₂ (· + ·) e0 e1) e2) e3)

/-- Every device's result is the reference's, for real operands. -/
theorem outF_eq (h : Agrees m X W) (hX : ∀ i, ∃ a : ℝ, (show EReal from X i) = a) (hW : ∀ i, ∃ a : ℝ, (show EReal from W i) = a)
    (c : Dev nD) : outF m c = refO X W := by
  funext i
  obtain ⟨r, j, rfl⟩ : ∃ (r : Fin 256) (j : Fin 16384), i = ix2 r j := ⟨i 0, i 1, eq_ix2 i⟩
  rw [outF_at, refO_real X W hX hW, commF_eq h, invV_eq h]

/-- Every entry of the whole right operand is in some device's block. -/
theorem real_W (h : Agrees m X W) (hb : ∀ (c : Dev nD) i, ∃ a : ℝ, (show EReal from m ((c : Thread nD τ).loc main_arg1) i) = a) :
    ∀ i, ∃ a : ℝ, (show EReal from W i) = a := by
  intro i
  obtain ⟨k, j, rfl⟩ : ∃ (k : Fin 512) (j : Fin 16384), i = ix2 k j := ⟨i 0, i 1, eq_ix2 i⟩
  have hd := cy_devOf 0 0 ⟨j.val / 2048, by omega⟩
  obtain ⟨a, ha⟩ := hb (devOf 0 0 (j.val / 2048)) (ix2 k ⟨j.val % 4096, Nat.mod_lt _ (by decide)⟩)
  refine ⟨a, Eq.trans ?_ ha⟩
  rw [(h _).2, block_at]
  refine congrArg W (congrArg (ix2 k) (Fin.ext ?_))
  show j.val = cy (devOf 0 0 (j.val / 2048)) * 4096 + j.val % 4096
  rw [show cy (devOf 0 0 (j.val / 2048)) = j.val / 2048 / 2 from hd]
  omega

end

/-- Each device's result array ends at the reference's result. -/
theorem value : Cert.algebraic_KernelIdeal_ReferenceIdeal_pre_finite_KernelIdeal := by
  intro m ρ m' ρ' hpre hagree
  have hfin := fun c : Dev nD => Cert.finite_real _ _ (hpre c)
  have hA : Agrees m (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)) := hagree
  have hX : ∀ i, ∃ a : ℝ, (show EReal from m' (((0 : Dev Cert.ReferenceIdeal.nD).tc : Thread _ Cert.ReferenceIdeal.τ).loc Cert.ReferenceIdeal.main_arg0) i) = a := by
    rw [← (hagree 0).1]
    exact (hfin 0).1
  have hW := real_W hA fun c => (hfin c).2
  refine ⟨refO (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · refine (θ_run defs _ _).mono (fun r h c => ⟨?_, ?_, ?_⟩) (run_main (F := Ideal) m ρ)
    · exact (h.1 c (2 : Fin 3)).trans ((finalA_o m ρ c).trans (outF_eq hA hX hW c))
    · exact (h.1 c (0 : Fin 3)).trans (finalA_x m ρ c)
    · exact (h.1 c (1 : Fin 3)).trans (finalA_w m ρ c)
  · exact (θ_run Cert.ReferenceIdeal.defs _ _).mono (fun _ h => h 0) (Cert.ReferenceIdeal.Value.run (F := Ideal) m' ρ')

end Cert.KernelIdeal.Pf
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Refs
public import proofs.«01_k».proof.Proof.Finite
public import proofs.«01_k».proof.Proof.Value
public import Idealize.ShloMosaic.Adequacy
public import Idealize.ShloMosaic.Init

@[expose] public section

noncomputable section

namespace Cert.Proof

open Idealize.ShloMosaic Idealize.SL.Sem Cert.Kernel

/-- The claims, each from its own module. -/
theorem claim : Cert.Claim :=
  ⟨Cert.Kernel.Gen.facts, Cert.KernelIdeal.Gen.facts, Cert.ReferenceIdeal.Gen.facts, Cert.pre_kernel_facts, Cert.pre_reference_facts,
    Cert.KernelIdeal.Pf.frame_kernel, Cert.KernelIdeal.Pf.frame_kernelIdeal, fun m ρ _ => Cert.KernelIdeal.Pf.frame_kernelIdeal m ρ trivial,
    Cert.ReferenceIdeal.Value.frame_reference, fun m ρ _ => Cert.ReferenceIdeal.Value.frame_reference m ρ trivial, trivial,
    Cert.KernelIdeal.Pf.value⟩

end Cert.Proof

end
